-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_rows_in_use [hKernel3Ideal : Cert.Kernel3Ideal.Facts] [hReference3Ideal : Cert.Reference3Ideal.Facts] [hPre_experts_in_range : Cert.Pre_experts_in_range.Facts] [hOn_rows_in_use : Cert.On_rows_in_use.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![73728, 2048]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![73728, 2048]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) i = 1#1 → r.2.mem ((c.tc : Thread Cert.Reference3Ideal.nD Cert.Reference3Ideal.τ).loc Cert.Reference3Ideal.main_v23) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_queries_keys : Cert.Pre_finite_queries_keys.Facts) (hPre_experts_in_range : Cert.Pre_experts_in_range.Facts) (hOn_rows_in_use : Cert.On_rows_in_use.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_rows_in_use (hKernel3Ideal := hKernel3Ideal) (hReference3Ideal := hReference3Ideal) (hPre_experts_in_range := hPre_experts_in_range) (hOn_rows_in_use := hOn_rows_in_use)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== On_rows_in_use.lean ====
abbrev S73728x1024 : Shape := ⟨2, ![73728, 1024]⟩
abbrev S72 : Shape := ⟨1, ![72]⟩
abbrev S1x8x2048x7168 : Shape := ⟨4, ![1, 8, 2048, 7168]⟩
abbrev S1x8x7168x2048 : Shape := ⟨4, ![1, 8, 7168, 2048]⟩
abbrev S72x1024x2048 : Shape := ⟨3, ![72, 1024, 2048]⟩
abbrev S72x1x1 : Shape := ⟨3, ![72, 1, 1]⟩
abbrev S_ : Shape := ⟨0, ![]⟩
abbrev S73728x2048 : Shape := ⟨2, ![73728, 2048]⟩

class Facts : Prop where
  bcast_S72_S72x1x1_0 : S72.BroadcastsInDim S72x1x1 (![0] : Fin 1 → Fin S72x1x1.rank)
  bcast_S72x1x1_S72x1024x2048_0_1_2 : S72x1x1.BroadcastsInDim S72x1024x2048 (![0, 1, 2] : Fin 3 → Fin S72x1024x2048.rank)
  bcast_S_S72x1x1 : S_.BroadcastsInDim S72x1x1 (![] : Fin 0 → Fin S72x1x1.rank)
  shapeCasts_S72x1024x2048_S73728x2048 : S72x1024x2048.ShapeCasts S73728x2048

variable [Facts]

def fn {F : FTy → Type} [FloatOps F] (main_arg0 : IVec S73728x1024 32) (main_arg1 : IVec S72 32) (main_arg2 : IVec S72 32) (main_arg3 : FVec F S1x8x2048x7168 .f32) (main_arg4 : FVec F S1x8x2048x7168 .f32) (main_arg5 : FVec F S1x8x7168x2048 .f32) : IVec S73728x2048 1 :=
  let main_v0 : IVec S72x1024x2048 32 := iotaInDim S72x1024x2048 32 1
  let main_v1 : IVec S72x1x1 32 := broadcastInDim S72x1x1 ![0] bcast_S72_S72x1x1_0 main_arg2
  let main_v2 : IVec S72x1024x2048 32 := broadcastInDim S72x1024x2048 ![0, 1, 2] bcast_S72x1x1_S72x1024x2048_0_1_2 main_v1
  let main_v3 : IVec S72x1024x2048 1 := cmpi .slt main_v0 main_v2
  let main_c : IVec S_ 32 := constantI S_ 32 1024#32
  let main_v4 : IVec S72x1x1 32 := broadcastInDim S72x1x1 ![] bcast_S_S72x1x1 main_c
  let main_v5 : IVec S72x1x1 1 := cmpi .sle main_v1 main_v4
  let main_v6 : IVec S72x1024x2048 1 := broadcastInDim S72x1024x2048 ![0, 1, 2] bcast_S72x1x1_S72x1024x2048_0_1_2 main_v5
  let main_v7 : IVec S72x1024x2048 1 := andi main_v3 main_v6
  let main_v8 : IVec S73728x2048 1 := shapeCast S73728x2048 main_v7 shapeCasts_S72x1024x2048_S73728x2048
  main_v8
-- ==== Pre_experts_in_range.lean ====
abbrev S73728x1024 : Shape := ⟨2, ![73728, 1024]⟩
abbrev S72 : Shape := ⟨1, ![72]⟩
abbrev S1x8x2048x7168 : Shape := ⟨4, ![1, 8, 2048, 7168]⟩
abbrev S1x8x7168x2048 : Shape := ⟨4, ![1, 8, 7168, 2048]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S73728x1024 32) (main_arg1 : IVec S72 32) (main_arg2 : IVec S72 32) (main_arg3 : FVec F S1x8x2048x7168 .f32) (main_arg4 : FVec F S1x8x2048x7168 .f32) (main_arg5 : FVec F S1x8x7168x2048 .f32) : IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  main_v4
-- ==== Pre_finite_queries_keys.lean ====
abbrev S16x8x2048x256 : Shape := ⟨4, ![16, 8, 2048, 256]⟩
abbrev S16x8x2048x128 : Shape := ⟨4, ![16, 8, 2048, 128]⟩
abbrev S16x8x256x256 : Shape := ⟨4, ![16, 8, 256, 256]⟩
abbrev S16x8x256x128 : Shape := ⟨4, ![16, 8, 256, 128]⟩
abbrev S_ : Shape := ⟨0, ![]⟩

class Facts : Prop where
  bcast_S_S16x8x2048x256 : S_.BroadcastsInDim S16x8x2048x256 (![] : Fin 0 → Fin S16x8x2048x256.rank)
  bcast_S_S16x8x256x256 : S_.BroadcastsInDim S16x8x256x256 (![] : Fin 0 → Fin S16x8x256x256.rank)

variable [Facts]

def fn {F : FTy → Type} [FloatOps F] (main_arg0 : FVec F S16x8x2048x256 .bf16) (main_arg1 : FVec F S16x8x2048x256 .bf16) (main_arg2 : FVec F S16x8x2048x128 .bf16) (main_arg3 : FVec F S16x8x256x256 .bf16) (main_arg4 : FVec F S16x8x256x128 .bf16) : IVec S16x8x2048x256 1 × IVec S16x8x2048x256 1 × IVec S16x8x256x256 1 :=
  let main_v0 : FVec F S16x8x2048x256 .bf16 := Host.absf main_arg0
  let main_cst : FVec F S_ .bf16 := constant S_ .bf16 0x7F80#16
  let main_v1 : FVec F S16x8x2048x256 .bf16 := broadcastInDim S16x8x2048x256 ![] bcast_S_S16x8x2048x256 main_cst
  let main_v2 : IVec S16x8x2048x256 1 := cmpf .olt main_v0 main_v1
  let main_v3 : FVec F S16x8x2048x256 .bf16 := Host.absf main_arg1
  let main_cst_0 : FVec F S_ .bf16 := constant S_ .bf16 0x7F80#16
  let main_v4 : FVec F S16x8x2048x256 .bf16 := broadcastInDim S16x8x2048x256 ![] bcast_S_S16x8x2048x256 main_cst_0
  let main_v5 : IVec S16x8x2048x256 1 := cmpf .olt main_v3 main_v4
  let main_v6 : FVec F S16x8x256x256 .bf16 := Host.absf main_arg3
  let main_cst_1 : FVec F S_ .bf16 := constant S_ .bf16 0x7F80#16
  let main_v7 : FVec F S16x8x256x256 .bf16 := broadcastInDim S16x8x256x256 ![] bcast_S_S16x8x256x256 main_cst_1
  let main_v8 : IVec S16x8x256x256 1 := cmpf .olt main_v6 main_v7
  (main_v2, main_v5, main_v8)
-- ==== Kernel.lean ====
abbrev S16x8x2048x256 : Shape := ⟨4, ![16, 8, 2048, 256]⟩
abbrev S16x8x2048x128 : Shape := ⟨4, ![16, 8, 2048, 128]⟩
abbrev S16x8x256x256 : Shape := ⟨4, ![16, 8, 256, 256]⟩
abbrev S16x8x256x128 : Shape := ⟨4, ![16, 8, 256, 128]⟩
abbrev S16x2048x1024 : Shape := ⟨3, ![16, 2048, 1024]⟩
abbrev S1x4x512x256 : Shape := ⟨4, ![1, 4, 512, 256]⟩
abbrev S1x4x2048x256 : Shape := ⟨4, ![1, 4, 2048, 256]⟩
abbrev S1x4x2048x128 : Shape := ⟨4, ![1, 4, 2048, 128]⟩
abbrev S1x4x256x256 : Shape := ⟨4, ![1, 4, 256, 256]⟩
abbrev S1x4x256x128 : Shape := ⟨4, ![1, 4, 256, 128]⟩
abbrev S1x512x512 : Shape := ⟨3, ![1, 512, 512]⟩
abbrev S1x1x512x256 : Shape := ⟨4, ![1, 1, 512, 256]⟩
abbrev S512x256 : Shape := ⟨2, ![512, 256]⟩
abbrev S1x1x2048x256 : Shape := ⟨4, ![1, 1, 2048, 256]⟩
abbrev S2048x256 : Shape := ⟨2, ![2048, 256]⟩
abbrev S512x2048 : Shape := ⟨2, ![512, 2048]⟩
abbrev S1x1x256x256 : Shape := ⟨4, ![1, 1, 256, 256]⟩
abbrev S256x256 : Shape := ⟨2, ![256, 256]⟩
abbrev S512 : Shape := ⟨1, ![512]⟩
abbrev S512x1 : Shape := ⟨2, ![512, 1]⟩
abbrev S1x1x2048x128 : Shape := ⟨4, ![1, 1, 2048, 128]⟩
abbrev S2048x128 : Shape := ⟨2, ![2048, 128]⟩
abbrev S512x128 : Shape := ⟨2, ![512, 128]⟩
abbrev S1x1x256x128 : Shape := ⟨4, ![1, 1, 256, 128]⟩
abbrev S256x128 : Shape := ⟨2, ![256, 128]⟩
abbrev S1x512x128 : Shape := ⟨3, ![1, 512, 128]⟩

abbrev nBuf : Space → Nat
  | .hbm => 6
  | .vmem => 12
  | .smem => 0
  | _ => 0

abbrev bufTy : (tb : Table) → Fin (tcTables nBuf tb) → BufTy
  | .hbm, ⟨0, _⟩ => ⟨S16x8x2048x256, .bf16⟩
  | .hbm, ⟨1, _⟩ => ⟨S16x8x2048x256, .bf16⟩
  | .hbm, ⟨2, _⟩ => ⟨S16x8x2048x128, .bf16⟩
  | .hbm, ⟨3, _⟩ => ⟨S16x8x256x256, .bf16⟩
  | .hbm, ⟨4, _⟩ => ⟨S16x8x256x128, .bf16⟩
  | .hbm, ⟨5, _⟩ => ⟨S16x2048x1024, .bf16⟩
  | .local _ .vmem, ⟨0, _⟩ => ⟨S1x4x512x256, .bf16⟩
  | .local _ .vmem, ⟨1, _⟩ => ⟨S1x4x512x256, .bf16⟩
  | .local _ .vmem, ⟨2, _⟩ => ⟨S1x4x2048x256, .bf16⟩
  | .local _ .vmem, ⟨3, _⟩ => ⟨S1x4x2048x256, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x4x256x256, .bf16⟩
  | .local _ .vmem, ⟨7, _⟩ => ⟨S1x4x256x256, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x512x512, .bf16⟩
  | .local _ .vmem, ⟨11, _⟩ => ⟨S1x512x512, .bf16⟩
  | _, _ => ⟨S16x8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x8x2048x256 : Shape := ⟨4, ![16, 8, 2048, 256]⟩
abbrev S16x8x2048x128 : Shape := ⟨4, ![16, 8, 2048, 128]⟩
abbrev S16x8x256x256 : Shape := ⟨4, ![16, 8, 256, 256]⟩
abbrev S16x8x256x128 : Shape := ⟨4, ![16, 8, 256, 128]⟩
abbrev S16x8x2304x256 : Shape := ⟨4, ![16, 8, 2304, 256]⟩
abbrev S16x8x2304x128 : Shape := ⟨4, ![16, 8, 2304, 128]⟩
abbrev S16x8x2048x2304 : Shape := ⟨4, ![16, 8, 2048, 2304]⟩
abbrev S_ : Shape := ⟨0, ![]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S16x2048x8x128 : Shape := ⟨4, ![16, 2048, 8, 128]⟩
abbrev S16x2048x1024 : Shape := ⟨3, ![16, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x8x2048x256, .bf16⟩
  | .hbm, ⟨1, _⟩ => ⟨S16x8x2048x256, .bf16⟩
  | .hbm, ⟨2, _⟩ => ⟨S16x8x2048x128, .bf16⟩
  | .hbm, ⟨3, _⟩ => ⟨S16x8x256x256, .bf16⟩
  | .hbm, ⟨4, _⟩ => ⟨S16x8x256x128, .bf16⟩
  | .hbm, ⟨5, _⟩ => ⟨S16x8x2304x256, .bf16⟩
  | .hbm, ⟨6, _⟩ => ⟨S16x8x2304x128, .bf16⟩
  | .hbm, ⟨7, _⟩ => ⟨S16x8x2048x2304, .f32⟩
  | .hbm, ⟨8, _⟩ => ⟨S_, .f32⟩
  | .hbm, ⟨9, _⟩ => ⟨S16x8x2048, .f32⟩
  | .hbm, ⟨10, _⟩ => ⟨S_, .f32⟩
  | .hbm, ⟨11, _⟩ => ⟨S16x8x2048, .f32⟩
  | .hbm, ⟨12, _⟩ => ⟨S16x8x2048, .f32⟩
  | .hbm, ⟨13, _⟩ => ⟨S16x8x2048x1, .f32⟩
  | .hbm, ⟨14, _⟩ => ⟨S16x8x2048x2304, .f32⟩
  | .hbm, ⟨15, _⟩ => ⟨S16x8x2048x2304, .f32⟩
  | .hbm, ⟨16, _⟩ => ⟨S16x8x2048x2304, .f32⟩
  | .hbm, ⟨17, _⟩ => ⟨S_, .f32⟩
  | .hbm, ⟨18, _⟩ => ⟨S16x8x2048, .f32⟩
  | .hbm, ⟨19, _⟩ => ⟨S16x8x2048x1, .f32⟩
  | .hbm, ⟨20, _⟩ => ⟨S16x8x2048x2304, .f32⟩
  | .hbm, ⟨21, _⟩ => ⟨S16x8x2048x2304, .f32⟩
  | .hbm, ⟨22, _⟩ => ⟨S16x8x2048x2304, .bf16⟩
  | .hbm, ⟨23, _⟩ => ⟨S16x8x128x2048, .f32⟩
  | .hbm, ⟨24, _⟩ => ⟨S16x2048x8x128, .f32⟩
  | .hbm, ⟨25, _⟩ => ⟨S16x2048x8x128, .bf16⟩
  | .hbm, ⟨26, _⟩ => ⟨S16x2048x1024, .bf16⟩
  | _, _ => ⟨S16x8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel2.lean ====
abbrev S16x2048x2048 : Shape := ⟨3, ![16, 2048, 2048]⟩
abbrev S24x12288 : Shape := ⟨2, ![24, 12288]⟩
abbrev S2048 : Shape := ⟨1, ![2048]⟩
abbrev S1x2048x5632 : Shape := ⟨3, ![1, 2048, 5632]⟩
abbrev S1x5632x2048 : Shape := ⟨3, ![1, 5632, 2048]⟩
abbrev S32768x2048 : Shape := ⟨2, ![32768, 2048]⟩
abbrev S2048x5632 : Shape := ⟨2, ![2048, 5632]⟩
abbrev S5632x2048 : Shape := ⟨2, ![5632, 2048]⟩
abbrev S144x1x2048 : Shape := ⟨3, ![144, 1, 2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S256x2048 : Shape := ⟨2, ![256, 2048]⟩
abbrev S256x512 : Shape := ⟨2, ![256, 512]⟩

abbrev nBuf : Space → Nat
  | .hbm => 16
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S32768x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S144x1x2048, .f32⟩
  | .hbm, ⟨14, _⟩ => ⟨S1x2048, .f32⟩
  | .hbm, ⟨15, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1024x2048, .f32⟩
  | .local _ .vmem, ⟨16, _⟩ => ⟨S1024x2048, .f32⟩
  | .local _ .vmem, ⟨17, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16x2048x2048 : Shape := ⟨3, ![16, 2048, 2048]⟩
abbrev S24x12288 : Shape := ⟨2, ![24, 12288]⟩
abbrev S2048 : Shape := ⟨1, ![2048]⟩
abbrev S1x2048x5632 : Shape := ⟨3, ![1, 2048, 5632]⟩
abbrev S1x5632x2048 : Shape := ⟨3, ![1, 5632, 2048]⟩
abbrev S16x12288 : Shape := ⟨2, ![16, 12288]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S32768x2048 : Shape := ⟨2, ![32768, 2048]⟩
abbrev S2048x5632 : Shape := ⟨2, ![2048, 5632]⟩
abbrev S32768x5632 : Shape := ⟨2, ![32768, 5632]⟩
abbrev S5632x2048 : Shape := ⟨2, ![5632, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S16x12288, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S16x1x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S1x1x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x1x2048, .f32⟩
  | .hbm, ⟨37, _⟩ => ⟨S16x1x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S32768x2048, .f32⟩
  | .hbm, ⟨43, _⟩ => ⟨S2048x5632, .f32⟩
  | .hbm, ⟨44, _⟩ => ⟨S32768x5632, .f32⟩
  | .hbm, ⟨45, _⟩ => ⟨S32768x5632, .f32⟩
  | .hbm, ⟨46, _⟩ => ⟨S32768x5632, .f32⟩
  | .hbm, ⟨47, _⟩ => ⟨S_, .f32⟩
  | .hbm, ⟨48, _⟩ => ⟨S32768x5632, .f32⟩
  | .hbm, ⟨49, _⟩ => ⟨S32768x5632, .f32⟩
  | .hbm, ⟨50, _⟩ => ⟨S_, .f32⟩
  | .hbm, ⟨51, _⟩ => ⟨S32768x5632, .f32⟩
  | .hbm, ⟨52, _⟩ => ⟨S32768x5632, .f32⟩
  | .hbm, ⟨53, _⟩ => ⟨S32768x5632, .f32⟩
  | .hbm, ⟨54, _⟩ => ⟨S2048x5632, .f32⟩
  | .hbm, ⟨55, _⟩ => ⟨S32768x5632, .f32⟩
  | .hbm, ⟨56, _⟩ => ⟨S32768x5632, .f32⟩
  | .hbm, ⟨57, _⟩ => ⟨S5632x2048, .f32⟩
  | .hbm, ⟨58, _⟩ => ⟨S32768x2048, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel3.lean ====
abbrev S73728x1024 : Shape := ⟨2, ![73728, 1024]⟩
abbrev S72 : Shape := ⟨1, ![72]⟩
abbrev S1x8x2048x7168 : Shape := ⟨4, ![1, 8, 2048, 7168]⟩
abbrev S1x8x7168x2048 : Shape := ⟨4, ![1, 8, 7168, 2048]⟩
abbrev S73728x2048 : Shape := ⟨2, ![73728, 2048]⟩
abbrev S1024x1024 : Shape := ⟨2, ![1024, 1024]⟩
abbrev S1x1x2048x512 : Shape := ⟨4, ![1, 1, 2048, 512]⟩
abbrev S1 : Shape := ⟨1, ![1]⟩
abbrev S1x1x512x2048 : Shape := ⟨4, ![1, 1, 512, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 5
  | .vmem => 12
  | .smem => 2
  | _ => 0

abbrev bufTy : (tb : Table) → Fin (tcTables nBuf tb) → BufTy
  | .hbm, ⟨0, _⟩ => ⟨S73728x1024, .i32⟩
  | .hbm, ⟨1, _⟩ => ⟨S1x8x2048x7168, .f32⟩
  | .hbm, ⟨2, _⟩ => ⟨S1x8x2048x7168, .f32⟩
  | .hbm, ⟨3, _⟩ => ⟨S1x8x7168x2048, .f32⟩
  | .hbm, ⟨4, _⟩ => ⟨S73728x2048, .bf16⟩
  | .local _ .vmem, ⟨0, _⟩ => ⟨S1024x1024, .i32⟩
  | .local _ .vmem, ⟨1, _⟩ => ⟨S1024x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .f32⟩
  | .local _ .smem, ⟨0, _⟩ => ⟨S72, .i32⟩
  | .local _ .smem, ⟨1, _⟩ => ⟨S72, .i32⟩
  | _, _ => ⟨S73728x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 14], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond6 (i : grid0.Coords) : BitVec 1 :=
  let arg1 : BitVec 32 := BitVec.ofNat 32 (i 1).val
  let c13_i32 : BitVec 32 := 13#32
  let v25 : BitVec 1 := Scalar.cmpi .eq arg1 c13_i32
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S73728x1024 : Shape := ⟨2, ![73728, 1024]⟩
abbrev S72 : Shape := ⟨1, ![72]⟩
abbrev S1x8x2048x7168 : Shape := ⟨4, ![1, 8, 2048, 7168]⟩
abbrev S1x8x7168x2048 : Shape := ⟨4, ![1, 8, 7168, 2048]⟩
abbrev S73728x1024x2 : Shape := ⟨3, ![73728, 1024, 2]⟩
abbrev S73728x2x1024 : Shape := ⟨3, ![73728, 2, 1024]⟩
abbrev S73728x2048 : Shape := ⟨2, ![73728, 2048]⟩
abbrev S72x1024 : Shape := ⟨2, ![72, 1024]⟩
abbrev S73728 : Shape := ⟨1, ![73728]⟩
abbrev S8x2048x7168 : Shape := ⟨3, ![8, 2048, 7168]⟩
abbrev S73728x8x7168 : Shape := ⟨3, ![73728, 8, 7168]⟩
abbrev S_ : Shape := ⟨0, ![]⟩
abbrev S8x7168x2048 : Shape := ⟨3, ![8, 7168, 2048]⟩
abbrev S8x73728x2048 : Shape := ⟨3, ![8, 73728, 2048]⟩
abbrev S8 : Shape := ⟨1, ![8]⟩
abbrev S8x1 : Shape := ⟨2, ![8, 1]⟩
abbrev S1x73728 : Shape := ⟨2, ![1, 73728]⟩
abbrev S8x73728 : Shape := ⟨2, ![8, 73728]⟩
abbrev S8x73728x1 : Shape := ⟨3, ![8, 73728, 1]⟩

abbrev nBuf : Space → Nat
  | .hbm => 43
  | .vmem => 0
  | .smem => 0
  | _ => 0

abbrev bufTy : (tb : Table) → Fin (tcTables nBuf tb) → BufTy
  | .hbm, ⟨0, _⟩ => ⟨S73728x1024, .i32⟩
  | .hbm, ⟨1, _⟩ => ⟨S72, .i32⟩
  | .hbm, ⟨2, _⟩ => ⟨S72, .i32⟩
  | .hbm, ⟨3, _⟩ => ⟨S1x8x2048x7168, .f32⟩
  | .hbm, ⟨4, _⟩ => ⟨S1x8x2048x7168, .f32⟩
  | .hbm, ⟨5, _⟩ => ⟨S1x8x7168x2048, .f32⟩
  | .hbm, ⟨6, _⟩ => ⟨S73728x1024x2, .bf16⟩
  | .hbm, ⟨7, _⟩ => ⟨S73728x2x1024, .bf16⟩
  | .hbm, ⟨8, _⟩ => ⟨S73728x2048, .bf16⟩
  | .hbm, ⟨9, _⟩ => ⟨S73728x2048, .f32⟩
  | .hbm, ⟨10, _⟩ => ⟨S72x1024, .i32⟩
  | .hbm, ⟨11, _⟩ => ⟨S73728, .i32⟩
  | .hbm, ⟨12, _⟩ => ⟨S8x2048x7168, .f32⟩
  | .hbm, ⟨13, _⟩ => ⟨S73728x8x7168, .f32⟩
  | .hbm, ⟨14, _⟩ => ⟨S73728x8x7168, .f32⟩
  | .hbm, ⟨15, _⟩ => ⟨S73728x8x7168, .f32⟩
  | .hbm, ⟨16, _⟩ => ⟨S_, .f32⟩
  | .hbm, ⟨17, _⟩ => ⟨S73728x8x7168, .f32⟩
  | .hbm, ⟨18, _⟩ => ⟨S73728x8x7168, .f32⟩
  | .hbm, ⟨19, _⟩ => ⟨S_, .f32⟩
  | .hbm, ⟨20, _⟩ => ⟨S73728x8x7168, .f32⟩
  | .hbm, ⟨21, _⟩ => ⟨S73728x8x7168, .f32⟩
  | .hbm, ⟨22, _⟩ => ⟨S73728x8x7168, .f32⟩
  | .hbm, ⟨23, _⟩ => ⟨S8x2048x7168, .f32⟩
  | .hbm, ⟨24, _⟩ => ⟨S73728x8x7168, .f32⟩
  | .hbm, ⟨25, _⟩ => ⟨S73728x8x7168, .f32⟩
  | .hbm, ⟨26, _⟩ => ⟨S8x7168x2048, .f32⟩
  | .hbm, ⟨27, _⟩ => ⟨S8x73728x2048, .f32⟩
  | .hbm, ⟨28, _⟩ => ⟨S8, .i32⟩
  | .hbm, ⟨29, _⟩ => ⟨S8x1, .i32⟩
  | .hbm, ⟨30, _⟩ => ⟨S1x73728, .i32⟩
  | .hbm, ⟨31, _⟩ => ⟨S8x73728, .i32⟩
  | .hbm, ⟨32, _⟩ => ⟨S8x73728, .i32⟩
  | .hbm, ⟨33, _⟩ => ⟨S8x73728, .i1⟩
  | .hbm, ⟨34, _⟩ => ⟨S8x73728x1, .i1⟩
  | .hbm, ⟨35, _⟩ => ⟨S_, .f32⟩
  | .hbm, ⟨36, _⟩ => ⟨S_, .f32⟩
  | .hbm, ⟨37, _⟩ => ⟨S8x73728x2048, .i1⟩
  | .hbm, ⟨38, _⟩ => ⟨S8x73728x2048, .f32⟩
  | .hbm, ⟨39, _⟩ => ⟨S8x73728x2048, .f32⟩
  | .hbm, ⟨40, _⟩ => ⟨S_, .f32⟩
  | .hbm, ⟨41, _⟩ => ⟨S73728x2048, .f32⟩
  | .hbm, ⟨42, _⟩ => ⟨S73728x2048, .bf16⟩
  | _, _ => ⟨S73728x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel4.lean ====
abbrev S16x2048x2048 : Shape := ⟨3, ![16, 2048, 2048]⟩
abbrev S24x12288 : Shape := ⟨2, ![24, 12288]⟩
abbrev S2048 : Shape := ⟨1, ![2048]⟩
abbrev S1x2048x3072 : Shape := ⟨3, ![1, 2048, 3072]⟩
abbrev S32768x2048 : Shape := ⟨2, ![32768, 2048]⟩
abbrev S144x1x2048 : Shape := ⟨3, ![144, 1, 2048]⟩
abbrev S2048x3072 : Shape := ⟨2, ![2048, 3072]⟩
abbrev S1x2048 : Shape := ⟨2, ![1, 2048]⟩
abbrev S32768x3072 : Shape := ⟨2, ![32768, 3072]⟩
abbrev S1024x2048 : Shape := ⟨2, ![1024, 2048]⟩
abbrev S1x1x2048 : Shape := ⟨3, ![1, 1, 2048]⟩
abbrev S2048x1536 : Shape := ⟨2, ![2048, 1536]⟩
abbrev S1024x1536 : Shape := ⟨2, ![1024, 1536]⟩
abbrev S16x2048 : Shape := ⟨2, ![16, 2048]⟩
abbrev S16 : Shape := ⟨1, ![16]⟩
abbrev S16x1 : Shape := ⟨2, ![16, 1]⟩
abbrev S256x2048 : Shape := ⟨2, ![256, 2048]⟩
abbrev S256x1536 : Shape := ⟨2, ![256, 1536]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S1x2048x3072, .f32⟩
  | .hbm, ⟨4, _⟩ => ⟨S32768x2048, .f32⟩
  | .hbm, ⟨5, _⟩ => ⟨S144x1x2048, .f32⟩
  | .hbm, ⟨6, _⟩ => ⟨S2048x3072, .f32⟩
  | .hbm, ⟨7, _⟩ => ⟨S2048x3072, .bf16⟩
  | .hbm, ⟨8, _⟩ => ⟨S1x2048, .f32⟩
  | .hbm, ⟨9, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1536, .bf16⟩
  | .local _ .vmem, ⟨8, _⟩ => ⟨S2048x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x2048x2048 : Shape := ⟨3, ![16, 2048, 2048]⟩
abbrev S24x12288 : Shape := ⟨2, ![24, 12288]⟩
abbrev S2048 : Shape := ⟨1, ![2048]⟩
abbrev S1x2048x3072 : Shape := ⟨3, ![1, 2048, 3072]⟩
abbrev S16x12288 : Shape := ⟨2, ![16, 12288]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S32768x2048 : Shape := ⟨2, ![32768, 2048]⟩
abbrev S2048x3072 : Shape := ⟨2, ![2048, 3072]⟩
abbrev S32768x3072 : Shape := ⟨2, ![32768, 3072]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S1x2048x3072, .f32⟩
  | .hbm, ⟨4, _⟩ => ⟨S16x12288, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S1x1x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x1x2048, .f32⟩
  | .hbm, ⟨35, _⟩ => ⟨S16x1x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S32768x2048, .f32⟩
  | .hbm, ⟨41, _⟩ => ⟨S2048x3072, .f32⟩
  | .hbm, ⟨42, _⟩ => ⟨S32768x3072, .f32⟩
  | .hbm, ⟨43, _⟩ => ⟨S32768x3072, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel5.lean ====
abbrev S32768x1024 : Shape := ⟨2, ![32768, 1024]⟩
abbrev S1x2048x2048 : Shape := ⟨3, ![1, 2048, 2048]⟩
abbrev S16x2048x2048 : Shape := ⟨3, ![16, 2048, 2048]⟩
abbrev S24x12288 : Shape := ⟨2, ![24, 12288]⟩
abbrev S32768x2048 : Shape := ⟨2, ![32768, 2048]⟩
abbrev S2048x2048 : Shape := ⟨2, ![2048, 2048]⟩
abbrev S1024x2048 : Shape := ⟨2, ![1024, 2048]⟩
abbrev S144x1x2048 : Shape := ⟨3, ![144, 1, 2048]⟩
abbrev S512x1024 : Shape := ⟨2, ![512, 1024]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1x2048x2048, .f32⟩
  | .hbm, ⟨3, _⟩ => ⟨S16x2048x2048, .f32⟩
  | .hbm, ⟨4, _⟩ => ⟨S24x12288, .f32⟩
  | .hbm, ⟨5, _⟩ => ⟨S32768x2048, .f32⟩
  | .hbm, ⟨6, _⟩ => ⟨S2048x2048, .f32⟩
  | .hbm, ⟨7, _⟩ => ⟨S2048x2048, .bf16⟩
  | .hbm, ⟨8, _⟩ => ⟨S1024x2048, .bf16⟩
  | .hbm, ⟨9, _⟩ => ⟨S1024x2048, .bf16⟩
  | .hbm, ⟨10, _⟩ => ⟨S144x1x2048, .f32⟩
  | .hbm, ⟨11, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
abbrev S32768x1024 : Shape := ⟨2, ![32768, 1024]⟩
abbrev S1x2048x2048 : Shape := ⟨3, ![1, 2048, 2048]⟩
abbrev S16x2048x2048 : Shape := ⟨3, ![16, 2048, 2048]⟩
abbrev S24x12288 : Shape := ⟨2, ![24, 12288]⟩
abbrev S32768x2048 : Shape := ⟨2, ![32768, 2048]⟩
abbrev S2048x2048 : Shape := ⟨2, ![2048, 2048]⟩
abbrev S1024x2048 : Shape := ⟨2, ![1024, 2048]⟩
abbrev S144x1x2048 : Shape := ⟨3, ![144, 1, 2048]⟩
abbrev S512x1024 : Shape := ⟨2, ![512, 1024]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1x2048x2048, .f32⟩
  | .hbm, ⟨3, _⟩ => ⟨S16x2048x2048, .f32⟩
  | .hbm, ⟨4, _⟩ => ⟨S24x12288, .f32⟩
  | .hbm, ⟨5, _⟩ => ⟨S32768x2048, .f32⟩
  | .hbm, ⟨6, _⟩ => ⟨S2048x2048, .f32⟩
  | .hbm, ⟨7, _⟩ => ⟨S2048x2048, .bf16⟩
  | .hbm, ⟨8, _⟩ => ⟨S1024x2048, .bf16⟩
  | .hbm, ⟨9, _⟩ => ⟨S1024x2048, .bf16⟩
  | .hbm, ⟨10, _⟩ => ⟨S144x1x2048, .f32⟩
  | .hbm, ⟨11, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S1x2048x2048 : Shape := ⟨3, ![1, 2048, 2048]⟩
abbrev S16x2048x2048 : Shape := ⟨3, ![16, 2048, 2048]⟩
abbrev S24x12288 : Shape := ⟨2, ![24, 12288]⟩
abbrev S16x12288 : Shape := ⟨2, ![16, 12288]⟩
abbrev S16x2048 : Shape := ⟨2, ![16, 2048]⟩
abbrev S16x1x2048 : Shape := ⟨3, ![16, 1, 2048]⟩
abbrev S32768x2048 : Shape := ⟨2, ![32768, 2048]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1x2048x2048, .f32⟩
  | .hbm, ⟨3, _⟩ => ⟨S16x2048x2048, .f32⟩
  | .hbm, ⟨4, _⟩ => ⟨S24x12288, .f32⟩
  | .hbm, ⟨5, _⟩ => ⟨S16x12288, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S32768x2048, .bf16⟩
  | .hbm, ⟨19, _⟩ => ⟨S32768x2048, .f32⟩
  | .hbm, ⟨20, _⟩ => ⟨S2048x2048, .f32⟩
  | .hbm, ⟨21, _⟩ => ⟨S32768x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel6.lean ====
abbrev S32768x1536 : Shape := ⟨2, ![32768, 1536]⟩
abbrev S32768x512 : Shape := ⟨2, ![32768, 512]⟩
abbrev S1x2048x2048 : Shape := ⟨3, ![1, 2048, 2048]⟩
abbrev S16x2048x2048 : Shape := ⟨3, ![16, 2048, 2048]⟩
abbrev S24x12288 : Shape := ⟨2, ![24, 12288]⟩
abbrev S32768x2048 : Shape := ⟨2, ![32768, 2048]⟩
abbrev S2048x2048 : Shape := ⟨2, ![2048, 2048]⟩
abbrev S1536x2048 : Shape := ⟨2, ![1536, 2048]⟩
abbrev S512x2048 : Shape := ⟨2, ![512, 2048]⟩
abbrev S144x1x2048 : Shape := ⟨3, ![144, 1, 2048]⟩
abbrev S512x1536 : Shape := ⟨2, ![512, 1536]⟩
abbrev S512x512 : Shape := ⟨2, ![512, 512]⟩
abbrev S1x1x2048 : Shape := ⟨3, ![1, 1, 2048]⟩
abbrev S1x2048 : Shape := ⟨2, ![1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S32768x1536, .bf16⟩
  | .hbm, ⟨1, _⟩ => ⟨S32768x512, .bf16⟩
  | .hbm, ⟨2, _⟩ => ⟨S1x2048x2048, .f32⟩
  | .hbm, ⟨3, _⟩ => ⟨S16x2048x2048, .f32⟩
  | .hbm, ⟨4, _⟩ => ⟨S24x12288, .f32⟩
  | .hbm, ⟨5, _⟩ => ⟨S32768x2048, .f32⟩
  | .hbm, ⟨6, _⟩ => ⟨S2048x2048, .f32⟩
  | .hbm, ⟨7, _⟩ => ⟨S2048x2048, .bf16⟩
  | .hbm, ⟨8, _⟩ => ⟨S1536x2048, .bf16⟩
  | .hbm, ⟨9, _⟩ => ⟨S512x2048, .bf16⟩
  | .hbm, ⟨10, _⟩ => ⟨S144x1x2048, .f32⟩
  | .hbm, ⟨11, _⟩ => ⟨S32768x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1536 : Shape := ⟨2, ![32768, 1536]⟩
abbrev S32768x512 : Shape := ⟨2, ![32768, 512]⟩
abbrev S1x2048x2048 : Shape := ⟨3, ![1, 2048, 2048]⟩
abbrev S16x2048x2048 : Shape := ⟨3, ![16, 2048, 2048]⟩
abbrev S24x12288 : Shape := ⟨2, ![24, 12288]⟩
abbrev S16x12288 : Shape := ⟨2, ![16, 12288]⟩
abbrev S16x2048 : Shape := ⟨2, ![16, 2048]⟩
abbrev S16x1x2048 : Shape := ⟨3, ![16, 1, 2048]⟩
abbrev S32768x2048 : Shape := ⟨2, ![32768, 2048]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x512, .bf16⟩
  | .hbm, ⟨2, _⟩ => ⟨S1x2048x2048, .f32⟩
  | .hbm, ⟨3, _⟩ => ⟨S16x2048x2048, .f32⟩
  | .hbm, ⟨4, _⟩ => ⟨S24x12288, .f32⟩
  | .hbm, ⟨5, _⟩ => ⟨S16x12288, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S32768x2048, .bf16⟩
  | .hbm, ⟨19, _⟩ => ⟨S32768x2048, .f32⟩
  | .hbm, ⟨20, _⟩ => ⟨S2048x2048, .f32⟩
  | .hbm, ⟨21, _⟩ => ⟨S32768x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S32768x2048, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel7.lean ====
abbrev S16x2048x2048 : Shape := ⟨3, ![16, 2048, 2048]⟩
abbrev S24x12288 : Shape := ⟨2, ![24, 12288]⟩
abbrev S2048 : Shape := ⟨1, ![2048]⟩
abbrev S1x2048x2880 : Shape := ⟨3, ![1, 2048, 2880]⟩
abbrev S32768x2048 : Shape := ⟨2, ![32768, 2048]⟩
abbrev S2048x2880 : Shape := ⟨2, ![2048, 2880]⟩
abbrev S2048x2048 : Shape := ⟨2, ![2048, 2048]⟩
abbrev S2048x832 : Shape := ⟨2, ![2048, 832]⟩
abbrev S_ : Shape := ⟨0, ![]⟩
abbrev S2048x192 : Shape := ⟨2, ![2048, 192]⟩
abbrev S2048x3072 : Shape := ⟨2, ![2048, 3072]⟩
abbrev S144x1x2048 : Shape := ⟨3, ![144, 1, 2048]⟩
abbrev S1x2048 : Shape := ⟨2, ![1, 2048]⟩
abbrev S32768x3072 : Shape := ⟨2, ![32768, 3072]⟩
abbrev S1024x2048 : Shape := ⟨2, ![1024, 2048]⟩
abbrev S1x1x2048 : Shape := ⟨3, ![1, 1, 2048]⟩
abbrev S2048x1536 : Shape := ⟨2, ![2048, 1536]⟩
abbrev S1024x1536 : Shape := ⟨2, ![1024, 1536]⟩
abbrev S16x2048 : Shape := ⟨2, ![16, 2048]⟩
abbrev S16 : Shape := ⟨1, ![16]⟩
abbrev S16x1 : Shape := ⟨2, ![16, 1]⟩
abbrev S256x2048 : Shape := ⟨2, ![256, 2048]⟩
abbrev S256x1536 : Shape := ⟨2, ![256, 1536]⟩

abbrev nBuf : Space → Nat
  | .hbm => 15
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S1x2048x2880, .f32⟩
  | .hbm, ⟨4, _⟩ => ⟨S32768x2048, .f32⟩
  | .hbm, ⟨5, _⟩ => ⟨S2048x2880, .f32⟩
  | .hbm, ⟨6, _⟩ => ⟨S2048x2048, .f32⟩
  | .hbm, ⟨7, _⟩ => ⟨S2048x832, .f32⟩
  | .hbm, ⟨8, _⟩ => ⟨S_, .f32⟩
  | .hbm, ⟨9, _⟩ => ⟨S2048x192, .f32⟩
  | .hbm, ⟨10, _⟩ => ⟨S2048x3072, .f32⟩
  | .hbm, ⟨11, _⟩ => ⟨S2048x3072, .bf16⟩
  | .hbm, ⟨12, _⟩ => ⟨S144x1x2048, .f32⟩
  | .hbm, ⟨13, _⟩ => ⟨S1x2048, .f32⟩
  | .hbm, ⟨14, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1536, .bf16⟩
  | .local _ .vmem, ⟨8, _⟩ => ⟨S2048x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16x2048x2048 : Shape := ⟨3, ![16, 2048, 2048]⟩
abbrev S24x12288 : Shape := ⟨2, ![24, 12288]⟩
abbrev S2048 : Shape := ⟨1, ![2048]⟩
abbrev S1x2048x2880 : Shape := ⟨3, ![1, 2048, 2880]⟩
abbrev S16x12288 : Shape := ⟨2, ![16, 12288]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S32768x2048 : Shape := ⟨2, ![32768, 2048]⟩
abbrev S2048x2880 : Shape := ⟨2, ![2048, 2880]⟩
abbrev S32768x2880 : Shape := ⟨2, ![32768, 2880]⟩
abbrev S32768x832 : Shape := ⟨2, ![32768, 832]⟩
abbrev S32768x192 : Shape := ⟨2, ![32768, 192]⟩
abbrev S32768x3072 : Shape := ⟨2, ![32768, 3072]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S1x2048x2880, .f32⟩
  | .hbm, ⟨4, _⟩ => ⟨S16x12288, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S1x1x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x1x2048, .f32⟩
  | .hbm, ⟨35, _⟩ => ⟨S16x1x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S32768x2048, .f32⟩
  | .hbm, ⟨41, _⟩ => ⟨S2048x2880, .f32⟩
  | .hbm, ⟨42, _⟩ => ⟨S32768x2880, .f32⟩
  | .hbm, ⟨43, _⟩ => ⟨S32768x2048, .f32⟩
  | .hbm, ⟨44, _⟩ => ⟨S32768x832, .f32⟩
  | .hbm, ⟨45, _⟩ => ⟨S_, .f32⟩
  | .hbm, ⟨46, _⟩ => ⟨S32768x192, .f32⟩
  | .hbm, ⟨47, _⟩ => ⟨S32768x3072, .f32⟩
  | .hbm, ⟨48, _⟩ => ⟨S32768x3072, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel8.lean ====
abbrev S16x256x2048 : Shape := ⟨3, ![16, 256, 2048]⟩
abbrev S24x12288 : Shape := ⟨2, ![24, 12288]⟩
abbrev S2048 : Shape := ⟨1, ![2048]⟩
abbrev S1x2048x5632 : Shape := ⟨3, ![1, 2048, 5632]⟩
abbrev S1x5632x2048 : Shape := ⟨3, ![1, 5632, 2048]⟩
abbrev S4096x2048 : Shape := ⟨2, ![4096, 2048]⟩
abbrev S2048x5632 : Shape := ⟨2, ![2048, 5632]⟩
abbrev S5632x2048 : Shape := ⟨2, ![5632, 2048]⟩
abbrev S144x1x2048 : Shape := ⟨3, ![144, 1, 2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S256x2048 : Shape := ⟨2, ![256, 2048]⟩
abbrev S256x512 : Shape := ⟨2, ![256, 512]⟩

abbrev nBuf : Space → Nat
  | .hbm => 16
  | .vmem => 15
  | .smem => 0
  | _ => 0

abbrev bufTy : (tb : Table) → Fin (tcTables nBuf tb) → BufTy
  | .hbm, ⟨0, _⟩ => ⟨S16x256x2048, .f32⟩
  | .hbm, ⟨1, _⟩ => ⟨S24x12288, .f32⟩
  | .hbm, ⟨2, _⟩ => ⟨S2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S4096x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S144x1x2048, .f32⟩
  | .hbm, ⟨14, _⟩ => ⟨S1x2048, .f32⟩
  | .hbm, ⟨15, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c99_i32 : BitVec 32 := 99#32
  let c0_i32 : BitVec 32 := 0#32
  let c0_i32_0 : BitVec 32 := 0#32
  let c0_i32_1 : BitVec 32 := 0#32
  ![c99_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c100_i32 : BitVec 32 := 100#32
  let c0_i32 : BitVec 32 := 0#32
  let c0_i32_0 : BitVec 32 := 0#32
  let c0_i32_1 : BitVec 32 := 0#32
  ![c100_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c101_i32 : BitVec 32 := 101#32
  let c0_i32 : BitVec 32 := 0#32
  let c0_i32_0 : BitVec 32 := 0#32
  let c0_i32_1 : BitVec 32 := 0#32
  ![c101_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S16x256x2048 : Shape := ⟨3, ![16, 256, 2048]⟩
abbrev S24x12288 : Shape := ⟨2, ![24, 12288]⟩
abbrev S2048 : Shape := ⟨1, ![2048]⟩
abbrev S1x2048x5632 : Shape := ⟨3, ![1, 2048, 5632]⟩
abbrev S1x5632x2048 : Shape := ⟨3, ![1, 5632, 2048]⟩
abbrev S1x12288 : Shape := ⟨2, ![1, 12288]⟩
abbrev S12288 : Shape := ⟨1, ![12288]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩

abbrev nBuf : Space → Nat
  | .hbm => 62
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S24x12288, .f32⟩
  | .hbm, ⟨2, _⟩ => ⟨S2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S1x12288, .f32⟩
  | .hbm, ⟨7, _⟩ => ⟨S12288, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S16x256x2048, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S16x256x1, .f32⟩
  | .hbm, ⟨25, _⟩ => ⟨S16x256x2048, .f32⟩
  | .hbm, ⟨26, _⟩ => ⟨S16x256x2048, .f32⟩
  | .hbm, ⟨27, _⟩ => ⟨S1x1x2048, .f32⟩
  | .hbm, ⟨28, _⟩ => ⟨S16x256x2048, .f32⟩
  | .hbm, ⟨29, _⟩ => ⟨S16x256x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x1x2048, .f32⟩
  | .hbm, ⟨34, _⟩ => ⟨S16x256x2048, .f32⟩
  | .hbm, ⟨35, _⟩ => ⟨S16x256x2048, .f32⟩
  | .hbm, ⟨36, _⟩ => ⟨S1x1x2048, .f32⟩
  | .hbm, ⟨37, _⟩ => ⟨S16x256x2048, .f32⟩
  | .hbm, ⟨38, _⟩ => ⟨S16x256x2048, .f32⟩
  | .hbm, ⟨39, _⟩ => ⟨S4096x2048, .f32⟩
  | .hbm, ⟨40, _⟩ => ⟨S2048x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S_, .f32⟩
  | .hbm, ⟨45, _⟩ => ⟨S4096x5632, .f32⟩
  | .hbm, ⟨46, _⟩ => ⟨S4096x5632, .f32⟩
  | .hbm, ⟨47, _⟩ => ⟨S_, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S2048x5632, .f32⟩
  | .hbm, ⟨52, _⟩ => ⟨S4096x5632, .f32⟩
  | .hbm, ⟨53, _⟩ => ⟨S4096x5632, .f32⟩
  | .hbm, ⟨54, _⟩ => ⟨S5632x2048, .f32⟩
  | .hbm, ⟨55, _⟩ => ⟨S4096x2048, .f32⟩
  | .hbm, ⟨56, _⟩ => ⟨S16x256x2048, .f32⟩
  | .hbm, ⟨57, _⟩ => ⟨S1x1x2048, .f32⟩
  | .hbm, ⟨58, _⟩ => ⟨S16x256x2048, .f32⟩
  | .hbm, ⟨59, _⟩ => ⟨S16x256x2048, .f32⟩
  | .hbm, ⟨60, _⟩ => ⟨S16x256x2048, .f32⟩
  | .hbm, ⟨61, _⟩ => ⟨S4096x2048, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Attn.Softmax.lean ====
/- The law behind attention over keys that are stored in two segments, on extended reals: dividing the weighted sum
   once by the sum of the exponentials is the same as weighting by the normalised exponentials, when the scores are
   finite. -/
module

public import Idealize.ShloMosaic.Lib.Pointwise

@[expose] public section

noncomputable section

namespace Cert.Attn

open Idealize.ShloMosaic

/-- An extended real that is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, rfl⟩

/-- A finite sum of real numbers is a real number. -/
theorem IsReal.sum {ι : Type} (s : Finset ι) (f : ι → EReal) (h : ∀ i ∈ s, IsReal (f i)) : IsReal (∑ i ∈ s, f i) :=
  Finset.sum_induction f IsReal (fun _ _ => IsReal.add) IsReal.zero h

/-- A number whose absolute value is below `⊤` is real. -/
theorem IsReal.of_max_lt_top {x : EReal} (h : max x (-x) < ⊤) : IsReal x := by
  induction x using EReal.rec with
  | bot => simp at h
  | coe r => exact ⟨r, rfl⟩
  | top => simp at h

/-- The largest of finitely many scores, folded from `⊥`. -/
def top {n : ℕ} (s : Fin n → EReal) : EReal := Finset.univ.fold max ⊥ s

/-- The largest score of a list cut in two is the larger of the two segments' largest. -/
theorem top_append {a b : ℕ} (s : Fin (a + b) → EReal) :
    max (top fun i => s (Fin.castAdd b i)) (top fun i => s (Fin.natAdd a i)) = top s := by
  apply le_antisymm
  · refine max_le ?_ ?_
    · refine Finset.fold_max_le _ |>.2 ⟨bot_le, fun i _ => ?_⟩
      exact Finset.le_fold_max _ |>.2 (.inr ⟨_, Finset.mem_univ _, le_rfl⟩)
    · refine Finset.fold_max_le _ |>.2 ⟨bot_le, fun i _ => ?_⟩
      exact Finset.le_fold_max _ |>.2 (.inr ⟨_, Finset.mem_univ _, le_rfl⟩)
  · refine Finset.fold_max_le _ |>.2 ⟨bot_le, fun i _ => ?_⟩
    induction i using Fin.addCases with
    | left i => exact le_max_of_le_left (Finset.le_fold_max _ |>.2 (.inr ⟨i, Finset.mem_univ _, le_rfl⟩))
    | right i => exact le_max_of_le_right (Finset.le_fold_max _ |>.2 (.inr ⟨i, Finset.mem_univ _, le_rfl⟩))

/-- The largest of finitely many, at least one, real scores is real. -/
theorem top_real {n : ℕ} (hn : 0 < n) (s : Fin n → EReal) (hs : ∀ i, IsReal (s i)) : IsReal (top s) := by
  have hlt : top s < ⊤ := Finset.fold_max_lt _ |>.2 ⟨bot_lt_top, fun i _ => by
    obtain ⟨r, hr⟩ := hs i; rw [hr]; exact EReal.coe_lt_top r⟩
  have hgt : ⊥ < top s := by
    obtain ⟨r, hr⟩ := hs ⟨0, hn⟩
    refine Finset.lt_fold_max _ |>.2 (.inr ⟨⟨0, hn⟩, Finset.mem_univ _, ?_⟩)
    rw [hr]; exact EReal.bot_lt_coe r
  exact ⟨(top s).toReal, (EReal.coe_toReal hlt.ne hgt.ne').symm⟩

/-- The exponential of a score below the largest: a positive real. -/
theorem exp_sub_pos {x y : EReal} (hx : IsReal x) (hy : IsReal y) : ∃ r : ℝ, 0 < r ∧ Ideal.exp (x - y) = r := by
  obtain ⟨a, rfl⟩ := hx
  obtain ⟨b, rfl⟩ := hy
  exact ⟨Real.exp (a - b), Real.exp_pos _, by rw [← EReal.coe_sub]; rfl⟩

/-- A non-empty sum of positive reals is a positive real. -/
theorem sum_pos_real {n : ℕ} (hn : 0 < n) (f : Fin n → EReal) (hf : ∀ i, ∃ r : ℝ, 0 < r ∧ f i = r) :
    ∃ r : ℝ, 0 < r ∧ ∑ i, f i = r := by
  choose g hg hfg using hf
  refine ⟨∑ i, g i, Finset.sum_pos (fun i _ => hg i) ⟨⟨0, hn⟩, Finset.mem_univ _⟩, ?_⟩
  have : ∀ s : Finset (Fin n), ∑ i ∈ s, f i = ((∑ i ∈ s, g i : ℝ) : EReal) := fun s => by
    induction s using Finset.induction_on with
    | empty => simp
    | insert a s ha ih => rw [Finset.sum_insert ha, Finset.sum_insert ha, ih, hfg, EReal.coe_add]
  exact this _

/-- Division by a positive real is multiplication by its inverse. -/
theorem div_pos_real (x : EReal) {r : ℝ} (hr : 0 < r) : Ideal.div x (r : EReal) = x * ((r⁻¹ : ℝ) : EReal) := by
  have h0 : (r : EReal) ≠ 0 := by exact_mod_cast hr.ne'
  rw [Ideal.div, if_neg h0, EReal.coe_inv]

/-- A sum of any extended reals divided by a positive real is the sum of the quotients. -/
theorem div_sum {ι : Type} (s : Finset ι) (f : ι → EReal) {r : ℝ} (hr : 0 < r) :
    Ideal.div (∑ i ∈ s, f i) (r : EReal) = ∑ i ∈ s, Ideal.div (f i) (r : EReal) := by
  simp only [div_pos_real _ hr]
  have h0 : (0 : EReal) ≤ ((r⁻¹ : ℝ) : EReal) := by exact_mod_cast (inv_pos.2 hr).le
  classical
  induction s using Finset.induction_on with
  | empty => simp
  | insert a s ha ih =>
    rw [Finset.sum_insert ha, Finset.sum_insert ha, EReal.right_distrib_of_nonneg_of_ne_top h0 (EReal.coe_ne_top _), ih]

/-- One output element as the two-segment attention computes it: the largest score of both segments, the two sums of
    exponentials, the two weighted sums, one division. -/
def twoSegments {a b : ℕ} (s₁ : Fin a → EReal) (s₂ : Fin b → EReal) (v₁ : Fin a → EReal) (v₂ : Fin b → EReal) : EReal :=
  Ideal.div
    (∑ k, Ideal.exp (s₁ k - max (top s₁) (top s₂)) * v₁ k + ∑ k, Ideal.exp (s₂ k - max (top s₁) (top s₂)) * v₂ k)
    (∑ k, Ideal.exp (s₁ k - max (top s₁) (top s₂)) + ∑ k, Ideal.exp (s₂ k - max (top s₁) (top s₂)))

/-- One output element of softmax attention: the values weighted by the normalised exponentials. -/
def softmaxRow {n : ℕ} (s v : Fin n → EReal) : EReal :=
  ∑ k, v k * Ideal.div (Ideal.exp (s k - top s)) (∑ j, Ideal.exp (s j - top s))

/-- On finite scores the two-segment computation is softmax attention over the joined segments, for any values. -/
theorem twoSegments_eq {a b : ℕ} (ha : 0 < a + b) (s v : Fin (a + b) → EReal) (hs : ∀ k, IsReal (s k)) :
    twoSegments (fun i => s (Fin.castAdd b i)) (fun i => s (Fin.natAdd a i)) (fun i => v (Fin.castAdd b i))
      (fun i => v (Fin.natAdd a i)) = softmaxRow s v := by
  have hM := top_real ha s hs
  obtain ⟨d, hd, hden⟩ := sum_pos_real ha (fun k => Ideal.exp (s k - top s)) fun k => exp_sub_pos (hs k) hM
  unfold twoSegments softmaxRow
  rw [top_append, hden]
  rw [← Fin.sum_univ_add (fun k => Ideal.exp (s k - top s) * v k), ← Fin.sum_univ_add (fun k => Ideal.exp (s k - top s)),
    hden, div_sum _ _ hd]
  refine Finset.sum_congr rfl fun k _ => ?_
  rw [div_pos_real _ hd, div_pos_real _ hd, mul_comm (v k), mul_assoc, mul_assoc, mul_comm (v k)]

end Cert.Attn

end
-- ==== Proof.Attn.Kernel.lean ====
/- What the attention kernel leaves in its result array, element by element: each grid point writes the four heads of
   its group side by side, and a head's element is the two-segment computation on that head's rows. -/
module

public import proofs.«01_k».proof.Proof.Gen.KernelIdeal.Value
public import proofs.«01_k».proof.Proof.Attn.Softmax
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The constant that the maxima are folded from denotes `⊥`. -/
theorem ofBits_negInf : Ideal.ofBits FTy.f32 0xFF800000#32 = ⊥ := by
  simp [Ideal.ofBits, Ideal.ieee]

/-- What the body stores for one head, as a function of that head's queries, keys and values in the two segments. -/
def headOut (q : Vec Ideal S1x1x512x256 .bf16) (k : Vec Ideal S1x1x2048x256 .bf16) (v : Vec Ideal S1x1x2048x128 .bf16)
    (kc : Vec Ideal S1x1x256x256 .bf16) (vc : Vec Ideal S1x1x256x128 .bf16) : FVec Ideal S1x512x128 .bf16 :=
  k0_pay12 (k0_pay2 q k) (k0_pay3 q kc) (k0_pay10 (k0_pay2 q k)) (k0_pay11 (k0_pay3 q kc)) v vc

/-- One element of a head's block is the two-segment computation on its query row. -/
theorem headOut_apply (q : Vec Ideal S1x1x512x256 .bf16) (k : Vec Ideal S1x1x2048x256 .bf16)
    (v : Vec Ideal S1x1x2048x128 .bf16) (kc : Vec Ideal S1x1x256x256 .bf16) (vc : Vec Ideal S1x1x256x128 .bf16)
    (r : Fin 512) (e : Fin 128) :
    headOut q k v kc vc (ix3 0 r e) =
      Cert.Attn.twoSegments (fun j : Fin 2048 => ∑ d : Fin 256, q (ix4 0 0 r d) * k (ix4 0 0 j d))
        (fun j : Fin 256 => ∑ d : Fin 256, q (ix4 0 0 r d) * kc (ix4 0 0 j d)) (fun j => v (ix4 0 0 j e))
        (fun j => vc (ix4 0 0 j e)) := by
  unfold headOut
  pointwise [k0_pay12, k0_pay2, k0_pay3, k0_pay10, k0_pay11]
  unfold Cert.Attn.twoSegments Cert.Attn.top
  rw [ofBits_negInf]

/-- The block a grid point leaves is the four heads' blocks, side by side. -/
theorem out_eq (x0 : Vec Ideal S1x4x512x256 .bf16) (x1 : Vec Ideal S1x4x2048x256 .bf16)
    (x2 : Vec Ideal S1x4x2048x128 .bf16) (x3 : Vec Ideal S1x4x256x256 .bf16) (x4 : Vec Ideal S1x4x256x128 .bf16) :
    out0_5 x0 x1 x2 x3 x4 = View.canon [
      ⟨r0_23, headOut (View.ld x0 r0_9) (View.ld x1 r0_10) (View.ld x2 r0_21) (View.ld x3 r0_11) (View.ld x4 r0_22)⟩,
      ⟨r0_20, headOut (View.ld x0 r0_6) (View.ld x1 r0_7) (View.ld x2 r0_18) (View.ld x3 r0_8) (View.ld x4 r0_19)⟩,
      ⟨r0_17, headOut (View.ld x0 r0_3) (View.ld x1 r0_4) (View.ld x2 r0_15) (View.ld x3 r0_5) (View.ld x4 r0_16)⟩,
      ⟨r0_14, headOut (View.ld x0 r0_0) (View.ld x1 r0_1) (View.ld x2 r0_12) (View.ld x3 r0_2) (View.ld x4 r0_13)⟩] :=
  rfl

/-- One element of attention, of batch `b`, head `h`, query row `r` and value column `e`, by the two-segment
    computation on the whole arrays' rows. -/
def elem (q k : FVec Ideal S16x8x2048x256 .bf16) (v : FVec Ideal S16x8x2048x128 .bf16)
    (kc : FVec Ideal S16x8x256x256 .bf16) (vc : FVec Ideal S16x8x256x128 .bf16) (b : Fin 16) (h : Fin 8) (r : Fin 2048)
    (e : Fin 128) : EReal :=
  Cert.Attn.twoSegments (fun j : Fin 2048 => ∑ d : Fin 256, q (ix4 b h r d) * k (ix4 b h j d))
    (fun j : Fin 256 => ∑ d : Fin 256, q (ix4 b h r d) * kc (ix4 b h j d)) (fun j => v (ix4 b h j e))
    (fun j => vc (ix4 b h j e))

/-- One element of the block a grid point leaves: head `h` of the group owns the columns `128 h` to `128 h + 127`. -/
theorem out_apply (x0 : Vec Ideal S1x4x512x256 .bf16) (x1 : Vec Ideal S1x4x2048x256 .bf16)
    (x2 : Vec Ideal S1x4x2048x128 .bf16) (x3 : Vec Ideal S1x4x256x256 .bf16) (x4 : Vec Ideal S1x4x256x128 .bf16)
    (r : Fin 512) (c : Fin 512) :
    out0_5 x0 x1 x2 x3 x4 (ix3 0 r c) =
      Cert.Attn.twoSegments
        (fun j : Fin 2048 => ∑ d : Fin 256, x0 (ix4 0 ⟨c / 128, by omega⟩ r d) * x1 (ix4 0 ⟨c / 128, by omega⟩ j d))
        (fun j : Fin 256 => ∑ d : Fin 256, x0 (ix4 0 ⟨c / 128, by omega⟩ r d) * x3 (ix4 0 ⟨c / 128, by omega⟩ j d))
        (fun j => x2 (ix4 0 ⟨c / 128, by omega⟩ j ⟨c % 128, by omega⟩))
        (fun j => x4 (ix4 0 ⟨c / 128, by omega⟩ j ⟨c % 128, by omega⟩)) := by
  rw [out_eq]
  canon_tiles x h
  all_goals
    obtain ⟨z, r', c', rfl⟩ : ∃ (z : Fin 1) (r' : Fin 512) (c' : Fin 128), x = ix3 z r' c' :=
      ⟨x 0, x 1, x 2, eq_ix3 x⟩
    obtain rfl : z = 0 := Subsingleton.elim _ _
    have e1 : r' = r := Fin.ext h1.symm
    subst e1
    rw [headOut_apply]
    pointwise
  all_goals
    replace h2 : (c : ℕ) = _ := h2
    simp only [ix3_2] at h2
    blk_point []

/-- The windows' block indices, from the grid point's coordinates. -/
theorem idx : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val] :=
  (by decide +kernel : ∀ t : Fin grid0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val])

variable (m : (ℓ : Loc nD τ sig) → Buf (Elt Ideal) ℓ)

/-- The result array after the run, element by element. -/
theorem final (c : Dev nD) :
    (Gen.dats m 0 c).arrAt 5 cfg0.N = fun i : S16x2048x1024.Idx =>
      elem (m ((c : Thread nD τ).loc main_arg0)) (m ((c : Thread nD τ).loc main_arg1))
        (m ((c : Thread nD τ).loc main_arg2)) (m ((c : Thread nD τ).loc main_arg3)) (m ((c : Thread nD τ).loc main_arg4))
        (i 0) ⟨(i 2).val / 128, by have : (i 2).val < 1024 := (i 2).isLt; omega⟩ (i 1) ⟨(i 2).val % 128, by omega⟩ := by
  refine (Gen.dats m 0 c).arrAt_eq_of_covers 5 _ (by decide +kernel) fun t hf y => ?_
  blk_simp
  rw [after0_5]
  obtain ⟨y0, y1, y2, rfl⟩ : ∃ (y0 : Fin 1) (y1 : Fin 512) (y2 : Fin 512), y = ix3 y0 y1 y2 :=
    ⟨y 0, y 1, y 2, eq_ix3 y⟩
  obtain rfl : y0 = 0 := Subsingleton.elim _ _
  refine (out_apply _ _ _ _ _ y1 y2).trans ?_
  unfold elem
  congr 1
  · refine funext fun j => Finset.sum_congr rfl fun d _ => ?_
    congr 1 <;> blk_ext [iblk, V, idx t]
  · refine funext fun j => Finset.sum_congr rfl fun d _ => ?_
    congr 1 <;> blk_ext [iblk, V, idx t]
  · refine funext fun j => ?_
    blk_ext [iblk, V, idx t]
  · refine funext fun j => ?_
    blk_ext [iblk, V, idx t]

end Cert.KernelIdeal.Attn

end
-- ==== Proof.Attn.Reference.lean ====
/- The reference attention's result, element by element: the softmax row over the joined keys. -/
module

public import proofs.«01_k».proof.Proof.Gen.ReferenceIdeal.Run
public import proofs.«01_k».proof.Proof.Attn.Softmax
public import Idealize.ShloMosaic.Lib.Pipeline.ValueKit
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The constant that the maxima are folded from denotes `⊥`. -/
theorem ofBits_negInf : Ideal.ofBits FTy.f32 0xFF800000#32 = ⊥ := by
  simp [Ideal.ofBits, Ideal.ieee]

/-- The scores of the queries against the joined keys. -/
def scores (q : FVec Ideal S16x8x2048x256 .bf16) (K : FVec Ideal S16x8x2304x256 .bf16) : FVec Ideal S16x8x2048x2304 .f32 :=
  Host.dotGeneral dot_S16x8x2048x256_S16x8x2304x256_S16x8x2048x2304_3_3_2_2_01_01 none q K

/-- Every row's largest score. -/
def rowTop (s : FVec Ideal S16x8x2048x2304 .f32) : FVec Ideal S16x8x2048 .f32 :=
  Host.reduce FloatOps.maximumf s (constant S_ .f32 0xFF800000#32) reducesTo_S16x8x2048x2304_S16x8x2048_d3 h_S_

/-- The exponentials of the scores below their row's largest. -/
def exps (s : FVec Ideal S16x8x2048x2304 .f32) : FVec Ideal S16x8x2048x2304 .f32 :=
  Host.exp (subf s (broadcastInDim S16x8x2048x2304 ![0, 1, 2, 3] bcast_S16x8x2048x1_S16x8x2048x2304_0_1_2_3
    (broadcastInDim S16x8x2048x1 ![0, 1, 2] bcast_S16x8x2048_S16x8x2048x1_0_1_2
      (maximumf (broadcastInDim S16x8x2048 ![] bcast_S_S16x8x2048 (constant S_ .f32 0xFF800000#32))
        (rowTop s)))))

/-- The values weighted by the normalised exponentials. -/
def weighted (x : FVec Ideal S16x8x2048x2304 .f32) (V : FVec Ideal S16x8x2304x128 .bf16) : FVec Ideal S16x8x128x2048 .f32 :=
  Host.dotGeneral dot_S16x8x2304x128_S16x8x2048x2304_S16x8x128x2048_2_3_3_2_01_01 none V
    (truncf .bf16 (Host.divf x (broadcastInDim S16x8x2048x2304 ![0, 1, 2, 3] bcast_S16x8x2048x1_S16x8x2048x2304_0_1_2_3
      (broadcastInDim S16x8x2048x1 ![0, 1, 2] bcast_S16x8x2048_S16x8x2048x1_0_1_2
        (Host.reduceAdd x (constant S_ .f32 0x00000000#32) reducesTo_S16x8x2048x2304_S16x8x2048_d3 h_S_)))) bitsLt_bf16_f32)

/-- The output from the exponentials and the joined values. -/
def outp (x : FVec Ideal S16x8x2048x2304 .f32) (V : FVec Ideal S16x8x2304x128 .bf16) : FVec Ideal S16x2048x1024 .bf16 :=
  shapeCast _ (truncf .bf16 (transpose S16x2048x8x128 [0, 3, 1, 2] (weighted x V)
    transposes_S16x8x128x2048_S16x2048x8x128_0_3_1_2) bitsLt_bf16_f32) shapeCasts_S16x2048x8x128_S16x2048x1024

theorem scores_apply (q : FVec Ideal S16x8x2048x256 .bf16) (K : FVec Ideal S16x8x2304x256 .bf16) (b : Fin 16) (h : Fin 8)
    (r : Fin 2048) (k : Fin 2304) : scores q K (ix4 b h r k) = ∑ d : Fin 256, q (ix4 b h r d) * K (ix4 b h k d) := by
  pointwise [scores]

/-- A maximum along the last axis, element by element, from any start. -/
theorem reduceMax_apply (s : FVec Ideal S16x8x2048x2304 .f32) (c : FVec Ideal S_ .f32) (b : Fin 16) (h : Fin 8)
    (r : Fin 2048) :
    (Host.reduce FloatOps.maximumf s c reducesTo_S16x8x2048x2304_S16x8x2048_d3 h_S_ : FVec Ideal S16x8x2048 .f32) (ix3 b h r)
      = Finset.univ.fold max (c (Shape.Idx.first h_S_)) fun j : Fin 2304 => s (ix4 b h r j) := by
  pointwise

/-- The start of the maxima. -/
def negInf : FVec Ideal S_ .f32 := constant S_ .f32 0xFF800000#32

theorem negInf_apply (i : S_.Idx) : negInf i = (⊥ : EReal) := ofBits_negInf

theorem top_of_start {n : ℕ} (z : EReal) (hz : z = ⊥) (s : Fin n → EReal) : Finset.univ.fold max z s = Cert.Attn.top s := by
  subst hz; rfl

/-- A row's largest score, element by element. -/
theorem rowTop_apply (s : FVec Ideal S16x8x2048x2304 .f32) (b : Fin 16) (h : Fin 8) (r : Fin 2048) :
    rowTop s (ix3 b h r) = Cert.Attn.top fun j : Fin 2304 => s (ix4 b h r j) :=
  (reduceMax_apply s negInf b h r).trans (top_of_start _ (negInf_apply _) _)

/-- The exponentials, from any start and any rows' largest scores. -/
theorem exps_aux (s : FVec Ideal S16x8x2048x2304 .f32) (z : FVec Ideal S_ .f32) (t : FVec Ideal S16x8x2048 .f32)
    (b : Fin 16) (h : Fin 8) (r : Fin 2048) (k : Fin 2304) :
    Host.exp (subf s (broadcastInDim S16x8x2048x2304 ![0, 1, 2, 3] bcast_S16x8x2048x1_S16x8x2048x2304_0_1_2_3
      (broadcastInDim S16x8x2048x1 ![0, 1, 2] bcast_S16x8x2048_S16x8x2048x1_0_1_2
        (maximumf (broadcastInDim S16x8x2048 ![] bcast_S_S16x8x2048 z) t)))) (ix4 b h r k)
      = Ideal.exp (s (ix4 b h r k) - max (z ix0) (t (ix3 b h r))) := by
  pointwise

/-- An exponential, element by element. -/
theorem exps_apply (s : FVec Ideal S16x8x2048x2304 .f32) (b : Fin 16) (h : Fin 8) (r : Fin 2048) (k : Fin 2304) :
    exps s (ix4 b h r k) = Ideal.exp (s (ix4 b h r k) - Cert.Attn.top fun j : Fin 2304 => s (ix4 b h r j)) := by
  refine (exps_aux s negInf (rowTop s) b h r k).trans ?_
  rw [negInf_apply, rowTop_apply, max_eq_right bot_le]

/-- An output element from the exponentials. -/
theorem outp_apply (x : FVec Ideal S16x8x2048x2304 .f32) (V : FVec Ideal S16x8x2304x128 .bf16) (b : Fin 16) (r : Fin 2048)
    (c : Fin 1024) : outp x V (ix3 b r c) =
      ∑ k : Fin 2304, V (ix4 b ⟨c / 128, by omega⟩ k ⟨c % 128, by omega⟩) *
        Ideal.div (x (ix4 b ⟨c / 128, by omega⟩ r k)) (∑ j : Fin 2304, x (ix4 b ⟨c / 128, by omega⟩ r j)) := by
  pointwise [outp, weighted]

/-- The joined keys. -/
def keys (k : FVec Ideal S16x8x2048x256 .bf16) (kc : FVec Ideal S16x8x256x256 .bf16) : FVec Ideal S16x8x2304x256 .bf16 :=
  concatenate S16x8x2304x256 2 [⟨S16x8x2048x256, k⟩, ⟨S16x8x256x256, kc⟩] concatenates_S16x8x2048x256_S16x8x256x256_S16x8x2304x256_d2

/-- The joined values. -/
def vals (v : FVec Ideal S16x8x2048x128 .bf16) (vc : FVec Ideal S16x8x256x128 .bf16) : FVec Ideal S16x8x2304x128 .bf16 :=
  concatenate S16x8x2304x128 2 [⟨S16x8x2048x128, v⟩, ⟨S16x8x256x128, vc⟩] concatenates_S16x8x2048x128_S16x8x256x128_S16x8x2304x128_d2

theorem keys_left (k : FVec Ideal S16x8x2048x256 .bf16) (kc : FVec Ideal S16x8x256x256 .bf16) (b : Fin 16) (h : Fin 8)
    (i : Fin 2048) (d : Fin 256) : keys k kc (ix4 b h (Fin.castAdd 256 i) d) = k (ix4 b h i d) := by
  have : (Fin.castAdd 256 i).val < 2048 := i.isLt
  pointwise [keys]
  simp [this]

theorem keys_right (k : FVec Ideal S16x8x2048x256 .bf16) (kc : FVec Ideal S16x8x256x256 .bf16) (b : Fin 16) (h : Fin 8)
    (i : Fin 256) (d : Fin 256) : keys k kc (ix4 b h (Fin.natAdd 2048 i) d) = kc (ix4 b h i d) := by
  pointwise [keys]
  simp

theorem vals_left (v : FVec Ideal S16x8x2048x128 .bf16) (vc : FVec Ideal S16x8x256x128 .bf16) (b : Fin 16) (h : Fin 8)
    (i : Fin 2048) (d : Fin 128) : vals v vc (ix4 b h (Fin.castAdd 256 i) d) = v (ix4 b h i d) := by
  have : (Fin.castAdd 256 i).val < 2048 := i.isLt
  pointwise [vals]
  simp [this]

theorem vals_right (v : FVec Ideal S16x8x2048x128 .bf16) (vc : FVec Ideal S16x8x256x128 .bf16) (b : Fin 16) (h : Fin 8)
    (i : Fin 256) (d : Fin 128) : vals v vc (ix4 b h (Fin.natAdd 2048 i) d) = vc (ix4 b h i d) := by
  pointwise [vals]
  simp

/-- The whole reference, from its arguments. -/
def result (q k : FVec Ideal S16x8x2048x256 .bf16) (v : FVec Ideal S16x8x2048x128 .bf16)
    (kc : FVec Ideal S16x8x256x256 .bf16) (vc : FVec Ideal S16x8x256x128 .bf16) : FVec Ideal S16x2048x1024 .bf16 :=
  outp (exps (scores q (keys k kc))) (vals v vc)

/-- An element of the reference's result is the softmax row over the joined keys and values. -/
theorem result_apply (q k : FVec Ideal S16x8x2048x256 .bf16) (v : FVec Ideal S16x8x2048x128 .bf16)
    (kc : FVec Ideal S16x8x256x256 .bf16) (vc : FVec Ideal S16x8x256x128 .bf16) (b : Fin 16) (r : Fin 2048) (c : Fin 1024) :
    result q k v kc vc (ix3 b r c) =
      Cert.Attn.softmaxRow
        (fun j : Fin (2048 + 256) => ∑ d : Fin 256, q (ix4 b ⟨c / 128, by omega⟩ r d) * keys k kc (ix4 b ⟨c / 128, by omega⟩ j d))
        (fun j : Fin (2048 + 256) => vals v vc (ix4 b ⟨c / 128, by omega⟩ j ⟨c % 128, by omega⟩)) := by
  unfold result
  rw [outp_apply]
  simp only [exps_apply, scores_apply]
  rfl

end Cert.ReferenceIdeal.Attn

end
-- ==== Proof.Attn.Claim.lean ====
/- The attention's claims: the frames' value side, the precondition read as finiteness, and the equality of the two
   programs' results on extended reals. -/
module

public import proofs.«01_k».proof.Defs
public import proofs.«01_k».proof.Proof.Gen.Pre_finite_queries_keys
public import proofs.«01_k».proof.Proof.Attn.Kernel
public import proofs.«01_k».proof.Proof.Attn.Reference
public import Idealize.ShloMosaic.Lib.Quiescent

@[expose] public section

set_option maxRecDepth 16384

noncomputable section

namespace Cert.Attn

open Idealize.ShloMosaic Idealize.ShloMosaic.TcCoe Idealize.SL.Sem

theorem ofBits_posInf : Ideal.ofBits FTy.bf16 0x7F80#16 = ⊤ := by
  simp [Ideal.ofBits, Ideal.ieee]

/-- A comparison bit that is set says that the comparison holds. -/
theorem lt_of_cmp {x y : EReal} (h : FloatOps.cmpf (F := Ideal) (φ := .bf16) .olt x y = 1#1) : x < y := by
  by_contra hn
  have : FloatOps.cmpf (F := Ideal) (φ := .bf16) .olt x y = 0#1 := by
    simp [FloatOps.cmpf, Ideal.cmp, hn]
  rw [this] at h
  exact absurd h (by decide)

/-- The precondition, decoded: every query and every key is a real number. -/
theorem pre_real (q k : FVec Ideal ⟨4, ![16, 8, 2048, 256]⟩ .bf16) (v : FVec Ideal ⟨4, ![16, 8, 2048, 128]⟩ .bf16)
    (kc : FVec Ideal ⟨4, ![16, 8, 256, 256]⟩ .bf16) (vc : FVec Ideal ⟨4, ![16, 8, 256, 128]⟩ .bf16)
    (h : (Cert.Pre_finite_queries_keys.fn (F := Ideal) q k v kc vc).1 = (fun _ => 1#1)
      ∧ (Cert.Pre_finite_queries_keys.fn (F := Ideal) q k v kc vc).2.1 = (fun _ => 1#1)
      ∧ (Cert.Pre_finite_queries_keys.fn (F := Ideal) q k v kc vc).2.2 = (fun _ => 1#1)) :
    (∀ i, IsReal (q i)) ∧ (∀ i, IsReal (k i)) ∧ (∀ i, IsReal (kc i)) := by
  obtain ⟨h1, h2, h3⟩ := h
  refine ⟨fun i => ?_, fun i => ?_, fun i => ?_⟩
  · have e := lt_of_cmp (congrFun h1 i)
    exact IsReal.of_max_lt_top (lt_of_lt_of_le e ofBits_posInf.le)
  · have e := lt_of_cmp (congrFun h2 i)
    exact IsReal.of_max_lt_top (lt_of_lt_of_le e ofBits_posInf.le)
  · have e := lt_of_cmp (congrFun h3 i)
    exact IsReal.of_max_lt_top (lt_of_lt_of_le e ofBits_posInf.le)

/-- With finite queries and keys the kernel's element is the reference's. -/
theorem elem_eq (q k : FVec Ideal ⟨4, ![16, 8, 2048, 256]⟩ .bf16) (v : FVec Ideal ⟨4, ![16, 8, 2048, 128]⟩ .bf16)
    (kc : FVec Ideal ⟨4, ![16, 8, 256, 256]⟩ .bf16) (vc : FVec Ideal ⟨4, ![16, 8, 256, 128]⟩ .bf16)
    (hq : ∀ i, IsReal (q i)) (hk : ∀ i, IsReal (k i)) (hkc : ∀ i, IsReal (kc i)) (b : Fin 16) (r : Fin 2048) (c : Fin 1024) :
    Cert.ReferenceIdeal.Attn.result q k v kc vc (ix3 b r c) =
      Cert.KernelIdeal.Attn.elem q k v kc vc b ⟨c / 128, by omega⟩ r ⟨c % 128, by omega⟩ := by
  rw [Cert.ReferenceIdeal.Attn.result_apply, ← twoSegments_eq (by decide)]
  · unfold Cert.KernelIdeal.Attn.elem
    simp only [Cert.ReferenceIdeal.Attn.keys_left, Cert.ReferenceIdeal.Attn.keys_right,
      Cert.ReferenceIdeal.Attn.vals_left, Cert.ReferenceIdeal.Attn.vals_right]
  · intro j
    refine IsReal.sum _ _ fun d _ => IsReal.mul (hq _) ?_
    induction j using Fin.addCases with
    | left i => rw [Cert.ReferenceIdeal.Attn.keys_left]; exact hk _
    | right i => rw [Cert.ReferenceIdeal.Attn.keys_right]; exact hkc _

/-- The reference runs and leaves its arguments and the counters as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With finite queries and keys, the attention kernel's result is softmax attention over the joined keys. -/
theorem algebraic : Cert.algebraic_KernelIdeal_ReferenceIdeal_pre_finite_queries_keys
 := by
  intro m g m' g' hpre hagree
  refine ⟨fun c => (Cert.KernelIdeal.Gen.dats m 0 c).arrAt 5 Cert.KernelIdeal.cfg0.N,
    Cert.KernelIdeal.Value.run_blocks (F := Ideal) m g,
    (θ_run Cert.ReferenceIdeal.defs _ _).mono (fun r h c => ⟨?_, (h c).2⟩)
      (Cert.ReferenceIdeal.Value.run (F := Ideal) m' g')⟩
  obtain ⟨a0, a1, a2, a3, a4⟩ := hagree c
  obtain ⟨hq, hk, hkc⟩ := pre_real _ _ _ _ _ (hpre c)
  have e : r.2.mem ((c.tc : Thread Cert.ReferenceIdeal.nD Cert.ReferenceIdeal.τ).loc Cert.ReferenceIdeal.main_v18) =
      Cert.ReferenceIdeal.Attn.result _ _ _ _ _ := (h c).1
  refine e.trans ?_
  rw [a0, a1, a2, a3, a4]
  refine Eq.trans ?_ (Cert.KernelIdeal.Attn.final m c).symm
  funext i
  obtain ⟨b, r, e, rfl⟩ : ∃ (b : Fin 16) (r : Fin 2048) (e : Fin 1024), i = ix3 b r e := ⟨i 0, i 1, i 2, eq_ix3 i⟩
  exact elem_eq _ _ _ _ _ hq hk hkc b r e

end Cert.Attn

end
-- ==== Proof.Ffn.Math.lean ====
/- The scalar functions that the feed-forward kernels' elements are made of, on extended reals. -/
module

public import Idealize.ShloMosaic.PureOps.Ideal
public import Idealize.ShloMosaic.Lib.Pointwise

@[expose] public section

noncomputable section

namespace Cert.Ffn

open Idealize.ShloMosaic

/-- One element of a row scaled to unit mean square (over `width`, with `eps` added), times the gain and the modulation's
    scale, plus its shift. -/
def normMod {n : ℕ} (width eps : EReal) (x g sc sh : Fin n → EReal) (d : Fin n) : EReal :=
  x d * Ideal.rsqrt (Ideal.div (∑ j, x j * x j) width + eps) * (g d * (1 + sc d)) + sh d

/-- The logistic-gated product of two contractions of a row: one hidden unit of a SwiGLU. -/
def hiddenUnit {n : ℕ} (u wg wu : Fin n → EReal) : EReal :=
  (∑ d, u d * wg d) * Ideal.div 1 (1 + Ideal.exp (0 - ∑ d, u d * wg d)) * ∑ d, u d * wu d

/-- The modulation's row for a batch. -/
abbrev row (b : Fin 16) : Fin 24 := ⟨b.val, by omega⟩

/-- The width that a row's squares are averaged over, and the norm's small constant, as printed. -/
abbrev width : EReal := Ideal.ofBits FTy.f32 1157627904#32
abbrev eps : EReal := Ideal.ofBits FTy.f32 897988541#32

/-- The normed and modulated row of a token. -/
def tokenRow (x : FVec Ideal ⟨3, ![16, 2048, 2048]⟩ .f32) (md : FVec Ideal ⟨2, ![24, 12288]⟩ .f32) (g : FVec Ideal ⟨1, ![2048]⟩ .f32)
    (b : Fin 16) (s d : Fin 2048) : EReal :=
  normMod width eps (fun j => x (ix3 b s j)) (fun j => g (ix1 j)) (fun j => md (ix2 (row b) ⟨8192 + j, by omega⟩))
    (fun j => md (ix2 (row b) ⟨6144 + j, by omega⟩)) d

/-- One hidden unit's contribution to an element of the down projection. -/
def unitTerm (wg wu : FVec Ideal ⟨3, ![1, 2048, 5632]⟩ .f32) (wd : FVec Ideal ⟨3, ![1, 5632, 2048]⟩ .f32) (u : Fin 2048 → EReal)
    (e : Fin 2048) (j : Fin 5632) : EReal :=
  hiddenUnit u (fun d => wg (ix3 0 d j)) (fun d => wu (ix3 0 d j)) * wd (ix3 0 j e)

/-- The result's element: the input plus the gate times the down-projected hidden units of the normed row. -/
def elem (x : FVec Ideal ⟨3, ![16, 2048, 2048]⟩ .f32) (md : FVec Ideal ⟨2, ![24, 12288]⟩ .f32) (g : FVec Ideal ⟨1, ![2048]⟩ .f32)
    (wg wu : FVec Ideal ⟨3, ![1, 2048, 5632]⟩ .f32) (wd : FVec Ideal ⟨3, ![1, 5632, 2048]⟩ .f32) (b : Fin 16) (s e : Fin 2048) : EReal :=
  x (ix3 b s e) + md (ix2 (row b) ⟨10240 + e, by omega⟩) * ∑ j : Fin 5632, unitTerm wg wu wd (tokenRow x md g b s) e j

end Cert.Ffn
end
-- ==== Proof.Ffn.Points.lean ====
/- What a grid point of the dense feed-forward kernel leaves: at a run's first point the normed rows and the first partial
   sum, at a later point one partial sum more, at the last one the gated residual. -/
module

public import proofs.«01_k».proof.Proof.Ffn.Math
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Ffn (normMod hiddenUnit width eps)

/-- An element of the normed rows, from a row block and its modulation. -/
def rowOf (x0 : Vec Ideal S1024x2048 .f32) (x1 x2 : Vec Ideal S1x1x2048 .f32) (x4 : Vec Ideal S1x2048 .f32) (r : Fin 1024)
    (d : Fin 2048) : EReal :=
  normMod width eps (fun j => x0 (ix2 r j)) (fun j => x4 (ix2 0 j)) (fun j => x2 (ix3 0 0 j)) (fun j => x1 (ix3 0 0 j)) d

/-- A partial down product: the hidden units of one block, contracted with their rows of the down weights. -/
def downOf (u : Fin 2048 → EReal) (x5 x6 : Vec Ideal S2048x512 .bf16) (x7 : Vec Ideal S512x2048 .bf16) (e : Fin 2048) : EReal :=
  ∑ j : Fin 512, hiddenUnit u (fun d => x5 (ix2 d j)) (fun d => x6 (ix2 d j)) * x7 (ix2 j e)

/-- What the body stores for sixteen rows, by its first text. -/
def chunk (G S : Vec Ideal S1x2048 .f32) (X : Vec Ideal S16x2048 .f32) : FVec Ideal S16x2048 .bf16 := k0_pay70 G S X

theorem chunk_apply (x4 : Vec Ideal S1x2048 .f32) (x2 x1 : Vec Ideal S1x1x2048 .f32) (X : Vec Ideal S16x2048 .f32) (r : Fin 16)
    (d : Fin 2048) : chunk (k0_pay7 x4 x2) (k0_pay8 x1) X (ix2 r d) =
      normMod width eps (fun j => X (ix2 r j)) (fun j => x4 (ix2 0 j)) (fun j => x2 (ix3 0 0 j)) (fun j => x1 (ix3 0 0 j)) d := by
  unfold chunk normMod
  pointwise [k0_pay70, k0_pay7, k0_pay8]

/-- The four row blocks' updates are one function of the normed rows, the weights' blocks and the sum so far. -/
theorem update_apply (u : Vec Ideal S256x2048 .bf16) (x5 x6 : Vec Ideal S2048x512 .bf16) (x7 : Vec Ideal S512x2048 .bf16)
    (a : Vec Ideal S256x2048 .f32) (r : Fin 256) (e : Fin 2048) :
    k0_pay5 (k0_pay137 u x5 x6) x7 a (ix2 r e) = a (ix2 r e) + downOf (fun d => u (ix2 r d)) x5 x6 x7 e := by
  unfold downOf hiddenUnit
  pointwise [k0_pay5, k0_pay137]

/-- The four row blocks' updates, side by side, at an element: one partial product on top of the sum so far. -/
theorem update_tiles (u : Vec Ideal S1024x2048 .bf16) (x5 x6 : Vec Ideal S2048x512 .bf16) (x7 : Vec Ideal S512x2048 .bf16)
    (a : Vec Ideal S1024x2048 .f32) (r : Fin 1024) (e : Fin 2048) :
    View.canon (Val := Elt Ideal) (e := .f32) [
      ⟨Rect.unit ![768, 0] ![256, 2048] inb_S1024x2048_S256x2048_768_0,
        k0_pay5 (k0_pay137 (View.ld u (Rect.unit ![768, 0] ![256, 2048] inb_S1024x2048_S256x2048_768_0)) x5 x6) x7
          (View.ld a (Rect.unit ![768, 0] ![256, 2048] inb_S1024x2048_S256x2048_768_0))⟩,
      ⟨Rect.unit ![512, 0] ![256, 2048] inb_S1024x2048_S256x2048_512_0,
        k0_pay4 (k0_pay136 (View.ld u (Rect.unit ![512, 0] ![256, 2048] inb_S1024x2048_S256x2048_512_0)) x5 x6) x7
          (View.ld a (Rect.unit ![512, 0] ![256, 2048] inb_S1024x2048_S256x2048_512_0))⟩,
      ⟨Rect.unit ![256, 0] ![256, 2048] inb_S1024x2048_S256x2048_256_0,
        k0_pay3 (k0_pay135 (View.ld u (Rect.unit ![256, 0] ![256, 2048] inb_S1024x2048_S256x2048_256_0)) x5 x6) x7
          (View.ld a (Rect.unit ![256, 0] ![256, 2048] inb_S1024x2048_S256x2048_256_0))⟩,
      ⟨Rect.unit ![0, 0] ![256, 2048] inb_S1024x2048_S256x2048_0_0,
        k0_pay2 (k0_pay138 (k0_pay134 (View.ld u (Rect.unit ![0, 0] ![256, 2048] inb_S1024x2048_S256x2048_0_0)) x5 x6) x7)
          (View.ld a (Rect.unit ![0, 0] ![256, 2048] inb_S1024x2048_S256x2048_0_0))⟩] (ix2 r e) =
      a (ix2 r e) + downOf (fun d => u (ix2 r d)) x5 x6 x7 e := by
  canon_tiles x h
  all_goals
    obtain ⟨r', e', rfl⟩ : ∃ (r' : Fin 256) (e' : Fin 2048), x = ix2 r' e' := ⟨x 0, x 1, eq_ix2 x⟩
    obtain rfl : e' = e := Fin.ext h1.symm
    replace h0 : (r : ℕ) = _ := h0
    simp only [ix2_0] at h0
    refine (update_apply _ _ _ _ _ r' e').trans ?_
    pointwise
    blk_point []

/-- The last point's store: the input plus the gate times the finished sum. -/
theorem residual_apply (x : Vec Ideal S1024x2048 .f32) (g : Vec Ideal S1x1x2048 .f32) (a : Vec Ideal S1024x2048 .f32)
    (r : Fin 1024) (e : Fin 2048) : k0_pay6 x g a (ix2 r e) = x (ix2 r e) + g (ix3 0 0 e) * a (ix2 r e) := by
  pointwise [k0_pay6]

variable (m : (ℓ : Loc nD τ sig) → Buf (Elt Ideal) ℓ) (c : Dev nD) (t : Fin cfg0.N)

/-- At an inner point of a run: one partial product is added to what the point before left. -/
theorem caseB (h0 : ¬t.val % 11 = 0) (h1 : 1 ≤ t.val % 11) (h2 : ¬t.val % 11 = 10) (r : Fin 1024) (e : Fin 2048) :
    (outsAt0 m c t.val t.isLt).1 (ix2 r e) =
      (outsAt0 m c (t.val - 1) (by omega)).1 (ix2 r e)
        + downOf (fun d => (outsAt0 m c (t.val - 1) (by omega)).2 (ix2 r d)) (iblk m c 5 t) (iblk m c 6 t) (iblk m c 7 t) e := by
  rw [outsAt0_B m c t h0 h1 h2]
  frame_out
  simp only [read_unread_whole]
  exact update_tiles _ _ _ _ _ r e

/-- An inner point leaves the normed rows as they are. -/
theorem caseB_scratch (h0 : ¬t.val % 11 = 0) (h1 : 1 ≤ t.val % 11) (h2 : ¬t.val % 11 = 10) :
    (outsAt0 m c t.val t.isLt).2 = (outsAt0 m c (t.val - 1) (by omega)).2 := by
  rw [outsAt0_B m c t h0 h1 h2]
  rfl

/-- The input block's element. -/
abbrev inAt (r : Fin 1024) (e : Fin 2048) : EReal := iblk m c 0 t (ix2 r e)

/-- The gate's element at a point. -/
abbrev gateAt (e : Fin 2048) : EReal := iblk m c 3 t (ix3 0 0 e)

/-- At a run's last point: the input plus the gate times the sum with its last partial product. -/
theorem caseC (h0 : ¬t.val % 11 = 0) (h1 : 1 ≤ t.val % 11) (h2 : t.val % 11 = 10) (r : Fin 1024) (e : Fin 2048) :
    (outsAt0 m c t.val t.isLt).1 (ix2 r e) = inAt m c t r e + gateAt m c t e *
      ((outsAt0 m c (t.val - 1) (by omega)).1 (ix2 r e)
        + downOf (fun d => (outsAt0 m c (t.val - 1) (by omega)).2 (ix2 r d)) (iblk m c 5 t) (iblk m c 6 t) (iblk m c 7 t) e) := by
  rw [outsAt0_C m c t h0 h1 h2]
  frame_out
  simp only [read_unread_whole]
  refine (residual_apply _ _ _ r e).trans ?_
  have hi : (Rect.unit ![0, 0] ![1024, 2048] inb_S1024x2048_S1024x2048_0_0).toLoadRect.idx (ix2 r e) = ix2 r e := by
    funext k
    fin_cases k
    · exact Fin.ext (show 0 + 1 * (r : ℕ) = r by omega)
    · exact Fin.ext (show 0 + 1 * (e : ℕ) = e by omega)
  rw [View.readCov_eq_canon']
  beta_reduce
  rw [hi]
  generalize outsAt0 m c (t.val - 1) _ = o
  exact congrArg₂ (· + ·) rfl (congrArg₂ (· * ·) rfl (update_tiles _ _ _ _ _ r e))

end Cert.Kernel2Ideal.Ffn
end
-- ==== Proof.Rows.Filled.lean ====
/- Arrays that are stored from the top, a block of rows at a time. -/
module

public import Idealize.ShloMosaic.Lib.Pipeline.ValueKit
public import Idealize.ShloMosaic.Lib.Pipeline.ReadBack
public import Idealize.ShloMosaic.Lib.Pointwise

@[expose] public section

set_option maxRecDepth 16384

noncomputable section

namespace Cert.Rows

open Idealize.ShloMosaic Idealize.ShloMosaic.TcCoe

variable {N W : ℕ} {e : EltTy}

/-- The stores fill an array from the top: the first `n` blocks of `b` rows are in place. -/
def Filled (b : ℕ) (G : Vec Ideal ⟨2, ![N, W]⟩ e) (n : ℕ) (L : List (View.Piece (Elt Ideal) ⟨2, ![N, W]⟩ e)) : Prop :=
  ∀ (r : Fin N) (d : Fin W), (r : ℕ) < b * n → View.canon L (ix2 r d) = G (ix2 r d)

theorem filled_zero (b : ℕ) (G : Vec Ideal ⟨2, ![N, W]⟩ e) (L : List (View.Piece (Elt Ideal) ⟨2, ![N, W]⟩ e)) : Filled b G 0 L :=
  fun _ _ h => absurd h (by omega)

/-- One more store fills one more block of rows. -/
theorem filled_step (b : ℕ) (G : Vec Ideal ⟨2, ![N, W]⟩ e) (n o : ℕ) (ho : o = b * n)
    (inb : ∀ a, (![o, 0] : Fin 2 → ℕ) a + (![b, W] : Fin 2 → ℕ) a ≤ (⟨2, ![N, W]⟩ : Shape).size a)
    (w : (⟨2, ![b, W]⟩ : Shape).Idx → Elt Ideal e)
    (hw : ∀ (r : Fin b) (d : Fin W) (R : Fin N), (R : ℕ) = o + r → w (ix2 r d) = G (ix2 R d))
    (L : List (View.Piece (Elt Ideal) ⟨2, ![N, W]⟩ e)) (hL : Filled b G n L) :
    Filled b G (n + 1) (⟨Rect.unit ![o, 0] ![b, W] inb, w⟩ :: L) := by
  intro R d hR
  by_cases hm : o ≤ (R : ℕ)
  · have hlt : (R : ℕ) - o < b := by
      have : b * (n + 1) = b * n + b := by ring
      omega
    have hi : (Rect.unit (s := ⟨2, ![N, W]⟩) ![o, 0] ![b, W] inb).emb (ix2 (⟨(R : ℕ) - o, hlt⟩ : Fin b) d) = ix2 R d := by
      funext k
      fin_cases k
      · exact Fin.ext (show o + 1 * ((R : ℕ) - o) = R by omega)
      · exact Fin.ext (show 0 + 1 * (d : ℕ) = d by omega)
    rw [← hi, View.canon_cons_emb, hi]
    exact hw _ d R (show (R : ℕ) = o + ((R : ℕ) - o) by omega)
  · rw [View.canon_cons_of_not_mem]
    · exact hL R d (by omega)
    · intro hc
      have hc' : ix2 R d ∈ (Rect.unit (s := ⟨2, ![N, W]⟩) ![o, 0] ![b, W] inb).set := hc
      exact hm ((Rect.mem_set_unit.mp hc') 0).1

/-- A block of `b` rows, read back after at least its rows have been stored. -/
theorem filled_read (a : ℕ) (G : Vec Ideal ⟨2, ![N, W]⟩ e) (n b o : ℕ)
    (inb : ∀ a, (![o, 0] : Fin 2 → ℕ) a + (![b, W] : Fin 2 → ℕ) a ≤ (⟨2, ![N, W]⟩ : Shape).size a) (hn : o + b ≤ a * n)
    (L : List (View.Piece (Elt Ideal) ⟨2, ![N, W]⟩ e)) (hL : Filled a G n L) (r : Fin b) (d : Fin W) (R : Fin N) (hR : (R : ℕ) = o + r) :
    View.canon L ((Rect.unit (s := ⟨2, ![N, W]⟩) ![o, 0] ![b, W] inb).toLoadRect.idx (ix2 r d)) = G (ix2 R d) := by
  have hi : (Rect.unit (s := ⟨2, ![N, W]⟩) ![o, 0] ![b, W] inb).toLoadRect.idx (ix2 r d) = ix2 R d := by
    funext k
    fin_cases k
    · exact Fin.ext (show o + 1 * (r : ℕ) = R by omega)
    · exact Fin.ext (show 0 + 1 * (d : ℕ) = d by omega)
  rw [hi]
  exact hL R d (by have := r.isLt; omega)

end Cert.Rows
end
-- ==== Proof.Ffn.First.lean ====
/- What a run's first point of the dense feed-forward kernel leaves: the normed rows and the first partial sum. -/
module

public import proofs.«01_k».proof.Proof.Ffn.Points
public import proofs.«01_k».proof.Proof.Rows.Filled
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Ffn (normMod hiddenUnit width eps)
open Cert.Rows (Filled filled_zero filled_step filled_read)

variable (m : (ℓ : Loc nD τ sig) → Buf (Elt Ideal) ℓ) (c : Dev nD) (t : Fin cfg0.N)

/-- The normed rows of one row block. -/
def normed (x0 : Vec Ideal S1024x2048 .f32) (x1 x2 : Vec Ideal S1x1x2048 .f32) (x4 : Vec Ideal S1x2048 .f32) : Vec Ideal S1024x2048 .bf16 :=
  fun y => rowOf x0 x1 x2 x4 (y 0) (y 1)

/-- Sixteen stored rows are rows of the normed ones. -/
theorem chunk_rows (x0 : Vec Ideal S1024x2048 .f32) (x1 x2 : Vec Ideal S1x1x2048 .f32) (x4 : Vec Ideal S1x2048 .f32) (o : ℕ)
    (inb : ∀ a, (![o, 0] : Fin 2 → ℕ) a + (![16, 2048] : Fin 2 → ℕ) a ≤ S1024x2048.size a) (w : FVec Ideal S16x2048 .bf16)
    (hw : w = chunk (k0_pay7 x4 x2) (k0_pay8 x1) (View.ld x0 (Rect.unit ![o, 0] ![16, 2048] inb)))
    (r : Fin 16) (d : Fin 2048) (R : Fin 1024) (hR : (R : ℕ) = o + r) : w (ix2 r d) = normed x0 x1 x2 x4 (ix2 R d) := by
  subst hw
  refine (chunk_apply _ _ _ _ r d).trans ?_
  have hr : ∀ j : Fin 2048, View.ld x0 (Rect.unit ![o, 0] ![16, 2048] inb) (ix2 r j) = x0 (ix2 R j) := fun j =>
    congrArg x0 (funext fun k => by
      fin_cases k
      · exact Fin.ext (show o + 1 * (r : ℕ) = R by omega)
      · exact Fin.ext (show 0 + 1 * (j : ℕ) = j by omega))
  simp only [hr]
  rfl

/-- What the body stores for 256 rows at the first point: their partial down product. -/
def firstDown (u : Vec Ideal S256x2048 .bf16) (x5 x6 : Vec Ideal S2048x512 .bf16) (x7 : Vec Ideal S512x2048 .bf16) : FVec Ideal S256x2048 .f32 :=
  k0_pay131 (k0_pay137 u x5 x6) x7

theorem firstDown_apply (u : Vec Ideal S256x2048 .bf16) (x5 x6 : Vec Ideal S2048x512 .bf16) (x7 : Vec Ideal S512x2048 .bf16)
    (r : Fin 256) (e : Fin 2048) : firstDown u x5 x6 x7 (ix2 r e) = downOf (fun d => u (ix2 r d)) x5 x6 x7 e := by
  unfold downOf hiddenUnit firstDown
  pointwise [k0_pay131, k0_pay137]

/-- A partial product of 256 rows read back from the filled ones. -/
theorem firstDown_rows (U : Vec Ideal S1024x2048 .bf16) (x5 x6 : Vec Ideal S2048x512 .bf16) (x7 : Vec Ideal S512x2048 .bf16) (n o : ℕ)
    (inb : ∀ a, (![o, 0] : Fin 2 → ℕ) a + (![256, 2048] : Fin 2 → ℕ) a ≤ S1024x2048.size a)
    (hn : o + 256 ≤ 16 * n)
    {κ : Kind} {sp : Space} (v : View sig κ sp S1024x2048 .bf16)
    (L : List (View.Piece (Elt Ideal) S1024x2048 .bf16)) (hL : Filled 16 U n L) (w : FVec Ideal S256x2048 .f32)
    (hw : w = firstDown (v.readCov L (Rect.unit (s := S1024x2048) ![o, 0] ![256, 2048] inb).toLoadRect) x5 x6 x7)
    (r : Fin 256) (e : Fin 2048) (R : Fin 1024) (hR : (R : ℕ) = o + r) :
    w (ix2 r e) = downOf (fun d => U (ix2 R d)) x5 x6 x7 e := by
  subst hw
  refine (firstDown_apply _ _ _ _ r e).trans ?_
  rw [View.readCov_eq_canon']
  have hr : ∀ d : Fin 2048, View.canon L ((Rect.unit (s := S1024x2048) ![o, 0] ![256, 2048] inb).toLoadRect.idx (ix2 r d)) = U (ix2 R d) :=
    fun d => filled_read 16 U n 256 o inb hn L hL r d R hR
  exact congrArg (fun u => downOf u x5 x6 x7 e) (funext hr)

/-- At a run's first point: the normed rows. -/
theorem caseA_scratch (h0 : t.val % 11 = 0) (h1 : ¬1 ≤ t.val % 11) (h2 : ¬t.val % 11 = 10) (r : Fin 1024) (d : Fin 2048) :
    (outsAt0 m c t.val t.isLt).2 (ix2 r d) = rowOf (iblk m c 0 t) (iblk m c 1 t) (iblk m c 2 t) (iblk m c 4 t) r d := by
  rw [outsAt0_A m c t h0 h1 h2]
  frame_out
  have key : ∀ L, Filled 16 (normed (iblk m c 0 t) (iblk m c 1 t) (iblk m c 2 t) (iblk m c 4 t)) 64 L →
      View.canon L (ix2 r d) = rowOf (iblk m c 0 t) (iblk m c 1 t) (iblk m c 2 t) (iblk m c 4 t) r d :=
    fun L h => h r d r.isLt
  refine key _ ?_
  iterate 64 refine filled_step _ _ _ _ rfl _ _ (chunk_rows _ _ _ _ _ _ _ rfl) _ ?_
  exact filled_zero _ _ _

/-- The first point's four partial products. -/
def firstSum (u : Vec Ideal S1024x2048 .bf16) (x5 x6 : Vec Ideal S2048x512 .bf16) (x7 : Vec Ideal S512x2048 .bf16) : Vec Ideal S1024x2048 .f32 :=
  fun y => downOf (fun d => u (ix2 (y 0) d)) x5 x6 x7 (y 1)

/-- At a run's first point: the first partial product. -/
theorem caseA (h0 : t.val % 11 = 0) (h1 : ¬1 ≤ t.val % 11) (h2 : ¬t.val % 11 = 10) (r : Fin 1024) (e : Fin 2048) :
    (outsAt0 m c t.val t.isLt).1 (ix2 r e) =
      downOf (rowOf (iblk m c 0 t) (iblk m c 1 t) (iblk m c 2 t) (iblk m c 4 t) r) (iblk m c 5 t) (iblk m c 6 t) (iblk m c 7 t) e := by
  rw [outsAt0_A m c t h0 h1 h2]
  frame_out
  have key : ∀ L, Filled 256 (firstSum (normed (iblk m c 0 t) (iblk m c 1 t) (iblk m c 2 t) (iblk m c 4 t)) (iblk m c 5 t) (iblk m c 6 t) (iblk m c 7 t)) 4 L →
      View.canon L (ix2 r e) = downOf (rowOf (iblk m c 0 t) (iblk m c 1 t) (iblk m c 2 t) (iblk m c 4 t) r) (iblk m c 5 t) (iblk m c 6 t) (iblk m c 7 t) e :=
    fun L h => h r e r.isLt
  refine key _ ?_
  refine filled_step _ _ _ _ rfl _ _ (firstDown_rows _ _ _ _ 64 _ _ (by decide) _ _ ?_ _ rfl) _ ?_
  · iterate 64 refine filled_step _ _ _ _ rfl _ _ (chunk_rows _ _ _ _ _ _ _ rfl) _ ?_
    exact filled_zero _ _ _
  refine filled_step _ _ _ _ rfl _ _ (firstDown_rows _ _ _ _ 48 _ _ (by decide) _ _ ?_ _ rfl) _ ?_
  · iterate 48 refine filled_step _ _ _ _ rfl _ _ (chunk_rows _ _ _ _ _ _ _ rfl) _ ?_
    exact filled_zero _ _ _
  refine filled_step _ _ _ _ rfl _ _ (firstDown_rows _ _ _ _ 32 _ _ (by decide) _ _ ?_ _ rfl) _ ?_
  · iterate 32 refine filled_step _ _ _ _ rfl _ _ (chunk_rows _ _ _ _ _ _ _ rfl) _ ?_
    exact filled_zero _ _ _
  refine filled_step _ _ _ _ rfl _ _ (firstDown_rows _ _ _ _ 16 _ _ (by decide) _ _ ?_ _ rfl) _ ?_
  · iterate 16 refine filled_step _ _ _ _ rfl _ _ (chunk_rows _ _ _ _ _ _ _ rfl) _ ?_
    exact filled_zero _ _ _
  exact filled_zero _ _ _

end Cert.Kernel2Ideal.Ffn
end
-- ==== Proof.Ffn.Blocks.lean ====
/- The dense feed-forward kernel's input blocks at a grid point, read off the arguments. Point `t` works on the row block
   `t / 11` and on the hidden block `t % 11`. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The windows' block indices, from the grid point's number. -/
theorem idx : ∀ t : Fin cfg0.N,
    win0_0.index t = ![t.val / 11, 0] ∧ win0_1.index t = ![t.val / 22 * 6 + 3, 0, 0]
    ∧ win0_2.index t = ![t.val / 22 * 6 + 4, 0, 0] ∧ win0_3.index t = ![t.val / 22 * 6 + 5, 0, 0]
    ∧ win0_4.index t = ![0, 0] ∧ win0_5.index t = ![0, t.val % 11] ∧ win0_6.index t = ![0, t.val % 11]
    ∧ win0_7.index t = ![t.val % 11, 0] ∧ win0_8.index t = ![t.val / 11, 0] :=
  (by decide +kernel : ∀ t : Fin grid0.N,
    win0_0.index t = ![t.val / 11, 0] ∧ win0_1.index t = ![t.val / 22 * 6 + 3, 0, 0]
    ∧ win0_2.index t = ![t.val / 22 * 6 + 4, 0, 0] ∧ win0_3.index t = ![t.val / 22 * 6 + 5, 0, 0]
    ∧ win0_4.index t = ![0, 0] ∧ win0_5.index t = ![0, t.val % 11] ∧ win0_6.index t = ![0, t.val % 11]
    ∧ win0_7.index t = ![t.val % 11, 0] ∧ win0_8.index t = ![t.val / 11, 0])

theorem lt_N (t : Fin cfg0.N) : t.val < 352 := lt_of_lt_of_eq t.isLt (show cfg0.N = 352 from N_0)

variable (m : (ℓ : Loc nD τ sig) → Buf (Elt Ideal) ℓ) (c : Dev nD) (t : Fin cfg0.N)

/-- The input's rows. -/
theorem blk_x (r : Fin 1024) (d : Fin 2048) :
    iblk m c 0 t (ix2 r d) = m ((c : Thread nD τ).loc main_arg0)
      (ix3 ⟨t.val / 22, by have := lt_N t; omega⟩ ⟨t.val / 11 % 2 * 1024 + r, by omega⟩ d) := by
  have := lt_N t
  blk_ext! [iblk, V, idx t]

/-- The shift row. -/
theorem blk_shift (d : Fin 2048) :
    iblk m c 1 t (ix3 0 0 d) = m ((c : Thread nD τ).loc main_arg1)
      (ix2 ⟨t.val / 22, by have := lt_N t; omega⟩ ⟨6144 + d, by omega⟩) := by
  have := lt_N t
  blk_ext! [iblk, V, idx t]

/-- The scale row. -/
theorem blk_scale (d : Fin 2048) :
    iblk m c 2 t (ix3 0 0 d) = m ((c : Thread nD τ).loc main_arg1)
      (ix2 ⟨t.val / 22, by have := lt_N t; omega⟩ ⟨8192 + d, by omega⟩) := by
  have := lt_N t
  blk_ext! [iblk, V, idx t]

/-- The gate row. -/
theorem blk_gate (d : Fin 2048) :
    iblk m c 3 t (ix3 0 0 d) = m ((c : Thread nD τ).loc main_arg1)
      (ix2 ⟨t.val / 22, by have := lt_N t; omega⟩ ⟨10240 + d, by omega⟩) := by
  have := lt_N t
  blk_ext! [iblk, V, idx t]

/-- The norm's gain. -/
theorem blk_gain (d : Fin 2048) : iblk m c 4 t (ix2 0 d) = m ((c : Thread nD τ).loc main_arg2) (ix1 d) := by
  blk_ext! [iblk, V, idx t]

/-- The gate weights' columns. -/
theorem blk_wg (d : Fin 2048) (j : Fin 512) :
    iblk m c 5 t (ix2 d j) = m ((c : Thread nD τ).loc main_arg3) (ix3 0 d ⟨t.val % 11 * 512 + j, by omega⟩) := by
  blk_ext! [iblk, V, idx t]

/-- The up weights' columns. -/
theorem blk_wu (d : Fin 2048) (j : Fin 512) :
    iblk m c 6 t (ix2 d j) = m ((c : Thread nD τ).loc main_arg4) (ix3 0 d ⟨t.val % 11 * 512 + j, by omega⟩) := by
  blk_ext! [iblk, V, idx t]

/-- The down weights' rows. -/
theorem blk_wd (j : Fin 512) (e : Fin 2048) :
    iblk m c 7 t (ix2 j e) = m ((c : Thread nD τ).loc main_arg5) (ix3 0 ⟨t.val % 11 * 512 + j, by omega⟩ e) := by
  blk_ext! [iblk, V, idx t]

end Cert.Kernel2Ideal.Ffn
end
-- ==== Proof.Ffn.Sweep.lean ====
/- The dense feed-forward kernel's grid: what its runs of eleven points carry, and the array they leave. -/
module

public import proofs.«01_k».proof.Proof.Ffn.First
public import proofs.«01_k».proof.Proof.Ffn.Blocks
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Ffn (hiddenUnit tokenRow unitTerm elem row)

variable (m : (ℓ : Loc nD τ sig) → Buf (Elt Ideal) ℓ) (c : Dev nD)

/-- The arguments' hidden-unit terms, block `f` of 512, summed. -/
def part (u : Fin 2048 → EReal) (e : Fin 2048) (f : ℕ) : EReal :=
  ∑ j : Fin 512, if h : f * 512 + j < 5632 then
    unitTerm (m ((c : Thread nD τ).loc main_arg3)) (m ((c : Thread nD τ).loc main_arg4)) (m ((c : Thread nD τ).loc main_arg5)) u e ⟨f * 512 + j, h⟩
    else 0

/-- The normed row of the token at row `r` of row block `i`. -/
def blockRow (i : ℕ) (hi : i < 32) (r : Fin 1024) (d : Fin 2048) : EReal :=
  tokenRow (m ((c : Thread nD τ).loc main_arg0)) (m ((c : Thread nD τ).loc main_arg1)) (m ((c : Thread nD τ).loc main_arg2))
    ⟨i / 2, by omega⟩ ⟨i % 2 * 1024 + r, by omega⟩ d

/-- A grid point's normed rows, read off the arguments. -/
theorem rowOf_blk (t : Fin cfg0.N) (r : Fin 1024) (d : Fin 2048) (i : ℕ) (hi : i < 32) (ht : t.val / 11 = i) :
    rowOf (iblk m c 0 t) (iblk m c 1 t) (iblk m c 2 t) (iblk m c 4 t) r d = blockRow m c i hi r d := by
  subst ht
  have hd : t.val / 11 / 2 = t.val / 22 := by omega
  unfold rowOf blockRow tokenRow
  congr 1
  · funext j; refine (blk_x m c t r j).trans ?_; simp only [hd]
  · funext j; exact blk_gain m c t j
  · funext j; refine (blk_scale m c t j).trans ?_; simp only [row, hd]
  · funext j; refine (blk_shift m c t j).trans ?_; simp only [row, hd]

/-- A grid point's partial down product, read off the arguments. -/
theorem downOf_blk (t : Fin cfg0.N) (u : Fin 2048 → EReal) (e : Fin 2048) (f : ℕ) (ht : t.val % 11 = f) :
    downOf u (iblk m c 5 t) (iblk m c 6 t) (iblk m c 7 t) e = part m c u e f := by
  subst ht
  unfold downOf part unitTerm
  refine Finset.sum_congr rfl fun j _ => ?_
  rw [dif_pos (by omega : t.val % 11 * 512 + j.val < 5632)]
  refine congrArg₂ (· * ·) ?_ (blk_wd m c t j e)
  exact congrArg₂ (hiddenUnit u) (funext fun d => blk_wg m c t d j) (funext fun d => blk_wu m c t d j)

/-- Up to the last point but one, the carried rows are the normed ones and the output block is the sum so far. -/
theorem sweep (i : ℕ) (hi : i < 32) : ∀ k : ℕ, k ≤ 9 → ∀ n (hn : n = 11 * i + k) (hN : n < cfg0.N),
    (∀ (r : Fin 1024) (d : Fin 2048), (outsAt0 m c n hN).2 (ix2 r d) = blockRow m c i hi r d) ∧
    (∀ (r : Fin 1024) (e : Fin 2048), (outsAt0 m c n hN).1 (ix2 r e) =
      ∑ f ∈ Finset.range (k + 1), part m c (blockRow m c i hi r) e f)
  | 0, _, n, hn, hN => by
    have h0 : n % 11 = 0 := by omega
    have h1 : ¬1 ≤ n % 11 := by omega
    have h2 : ¬n % 11 = 10 := by omega
    have hr : ∀ r, rowOf (iblk m c 0 ⟨n, hN⟩) (iblk m c 1 ⟨n, hN⟩) (iblk m c 2 ⟨n, hN⟩) (iblk m c 4 ⟨n, hN⟩) r = blockRow m c i hi r :=
      fun r => funext fun d => rowOf_blk m c ⟨n, hN⟩ r d i hi (by show n / 11 = i; omega)
    refine ⟨fun r d => (caseA_scratch m c ⟨n, hN⟩ h0 h1 h2 r d).trans (congrFun (hr r) d), fun r e => ?_⟩
    refine (caseA m c ⟨n, hN⟩ h0 h1 h2 r e).trans ?_
    rw [hr, downOf_blk m c ⟨n, hN⟩ _ e 0 h0, Finset.sum_range_one]
  | k + 1, hk, n, hn, hN => by
    have h0 : ¬n % 11 = 0 := by omega
    have h1 : 1 ≤ n % 11 := by omega
    have h2 : ¬n % 11 = 10 := by omega
    obtain ⟨ihs, ihv⟩ := sweep i hi k (by omega) (n - 1) (by omega) (by omega)
    refine ⟨fun r d => (congrFun (caseB_scratch m c ⟨n, hN⟩ h0 h1 h2) (ix2 r d)).trans (ihs r d), fun r e => ?_⟩
    refine (caseB m c ⟨n, hN⟩ h0 h1 h2 r e).trans ?_
    have hr : (fun d => (outsAt0 m c (n - 1) (by omega)).2 (ix2 r d)) = blockRow m c i hi r := funext (ihs r)
    rw [Finset.sum_range_succ]
    refine congrArg₂ (· + ·) (ihv r e) ?_
    refine (congrArg (fun u => downOf u (iblk m c 5 ⟨n, hN⟩) (iblk m c 6 ⟨n, hN⟩) (iblk m c 7 ⟨n, hN⟩) e) hr).trans ?_
    exact downOf_blk m c ⟨n, hN⟩ _ e (k + 1) (by show n % 11 = k + 1; omega)

/-- All eleven partial sums are the sum over the hidden units. -/
theorem sum_part (u : Fin 2048 → EReal) (e : Fin 2048) : ∑ f ∈ Finset.range 11, part m c u e f =
    ∑ j : Fin 5632, unitTerm (m ((c : Thread nD τ).loc main_arg3)) (m ((c : Thread nD τ).loc main_arg4)) (m ((c : Thread nD τ).loc main_arg5)) u e j := by
  rw [← Fin.sum_univ_eq_sum_range]
  unfold part
  refine Fin.sum_mul_add_congr fun s k hl => ?_
  rw [dif_pos hl]

/-- What a run's last point stores. -/
theorem last (t : Fin cfg0.N) (ht : t.val % 11 = 10) (r : Fin 1024) (e : Fin 2048) :
    (outsAt0 m c t.val t.isLt).1 (ix2 r e) =
      elem (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨t.val / 22, by have := lt_N t; omega⟩ ⟨t.val / 11 % 2 * 1024 + r, by omega⟩ e := by
  have hlt := lt_N t
  have hi : t.val / 11 < 32 := by omega
  have hd : t.val / 11 / 2 = t.val / 22 := by omega
  have hN : t.val - 1 < cfg0.N := by have := t.isLt; omega
  obtain ⟨ihs, ihv⟩ := sweep m c (t.val / 11) hi 9 le_rfl (t.val - 1) (by omega) hN
  refine (caseC m c t (by omega) (by omega) ht r e).trans ?_
  have hr : (fun d => (outsAt0 m c (t.val - 1) hN).2 (ix2 r d)) = blockRow m c (t.val / 11) hi r := funext (ihs r)
  unfold elem
  refine congrArg₂ (· + ·) (blk_x m c t r e) (congrArg₂ (· * ·) (blk_gate m c t e) ?_)
  refine (congrArg₂ (· + ·) (ihv r e) ((congrArg (fun u => downOf u (iblk m c 5 t) (iblk m c 6 t) (iblk m c 7 t) e) hr).trans
    (downOf_blk m c t _ e 10 ht))).trans ?_
  refine (Finset.sum_range_succ (fun f => part m c (blockRow m c (t.val / 11) hi r) e f) 10).symm.trans ?_
  rw [sum_part]
  have hrow : blockRow m c (t.val / 11) hi r = tokenRow (m ((c : Thread nD τ).loc main_arg0)) (m ((c : Thread nD τ).loc main_arg1))
      (m ((c : Thread nD τ).loc main_arg2)) ⟨t.val / 22, by omega⟩ ⟨t.val / 11 % 2 * 1024 + r, by omega⟩ := by
    funext d
    unfold blockRow
    simp only [hd]
  rw [hrow]

/-- The kernel's result array, element by element. -/
theorem final : (dats m 0 c).arrAt 8 cfg0.N = fun i : S32768x2048.Idx =>
      elem (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨(i 0).val / 2048, by have : (i 0).val < 32768 := (i 0).isLt; omega⟩ ⟨(i 0).val % 2048, by omega⟩ (i 1) := by
  refine (dats m 0 c).arrAt_eq_of_covers 8 _ (by decide +kernel) fun t hf y => ?_
  have hlt := lt_N t
  have ht : t.val % 11 = 10 := (by decide +kernel : ∀ t : Fin cfg0.N, (cfg0.win 8).flush t = true → t.val % 11 = 10) t hf
  blk_simp
  rw [after0_8]
  obtain ⟨r, e, rfl⟩ : ∃ (r : Fin 1024) (e : Fin 2048), y = ix2 r e := ⟨y 0, y 1, eq_ix2 y⟩
  refine (last m c t ht r e).trans ?_
  have e0 : win0_8.index t 0 = t.val / 11 := congrFun (idx t).2.2.2.2.2.2.2.2 0
  have e1 : (win0_8.blk t).view.emb (ix2 r e) 1 = e := by
    refine Fin.ext ?_
    blk_point [idx t]
  refine congr (congrArg₂ _ (Fin.ext ?_) (Fin.ext ?_)) e1.symm
  · show t.val / 22 = (win0_8.index t 0 * 1024 + r.val) / 2048
    rw [e0]; omega
  · show t.val / 11 % 2 * 1024 + r.val = (win0_8.index t 0 * 1024 + r.val) % 2048
    rw [e0]; omega

end Cert.Kernel2Ideal.Ffn
end
-- ==== Proof.Ffn.Reference.lean ====
/- The reference feed-forward's result, element by element. -/
module

public import proofs.«01_k».proof.Proof.Gen.Reference2Ideal.Run
public import proofs.«01_k».proof.Proof.Ffn.Math
public import Idealize.ShloMosaic.Lib.Pipeline.ValueKit
public import Idealize.ShloMosaic.Lib.Pointwise

@[expose] public section

set_option maxRecDepth 16384

noncomputable section

namespace Cert.Reference2Ideal.Ffn

open Cert.Reference2Ideal Cert.Reference2Ideal.Gen Idealize.ShloMosaic Idealize.ShloMosaic.TcCoe Idealize.SL.Sem
open Cert.Ffn (normMod hiddenUnit tokenRow unitTerm elem row)

/-- The normed and modulated tokens. -/
def normed (x : FVec Ideal S16x2048x2048 .f32) (md : FVec Ideal S24x12288 .f32) (g : FVec Ideal S2048 .f32) : FVec Ideal S16x2048x2048 .f32 :=
  addf (mulf (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (extractStridedSlice S16x2048 ![0, 8192] (extractStridedSlice S16x12288 ![0, 0] md slices_S24x12288_S16x12288_0_0) slices_S16x12288_S16x2048_0_8192))))) (broadcastInDim S16x2048x2048 ![0, 1, 2] bcast_S16x1x2048_S16x2048x2048_0_1_2 (broadcastInDim S16x1x2048 ![0, 2] bcast_S16x2048_S16x1x2048_0_2 (extractStridedSlice S16x2048 ![0, 6144] (extractStridedSlice S16x12288 ![0, 0] md slices_S24x12288_S16x12288_0_0) slices_S16x12288_S16x2048_0_6144)))

/-- A product of the tokens with one of the two wide weights. -/
def wide (u : FVec Ideal S16x2048x2048 .f32) (w : FVec Ideal S1x2048x5632 .f32) : FVec Ideal S32768x5632 .f32 :=
  Host.dotGeneral dot_S32768x2048_S2048x5632_S32768x5632_1_0_0_1_n_n none (shapeCast _ u shapeCasts_S16x2048x2048_S32768x2048)
    (shapeCast _ w shapeCasts_S1x2048x5632_S2048x5632)

/-- The logistic-gated product. -/
def gated (p q : FVec Ideal S32768x5632 .f32) : FVec Ideal S32768x5632 .f32 :=
  mulf (mulf p (Host.divf (broadcastInDim S32768x5632 ![] bcast_S_S32768x5632 (constant S_ .f32 0x3F800000#32))
    (addf (broadcastInDim S32768x5632 ![] bcast_S_S32768x5632 (constant S_ .f32 0x3F800000#32)) (Host.exp (Host.negf p))))) q

/-- The product with the down weights. -/
def down (h : FVec Ideal S32768x5632 .f32) (wd : FVec Ideal S1x5632x2048 .f32) : FVec Ideal S32768x2048 .f32 :=
  Host.dotGeneral dot_S32768x5632_S5632x2048_S32768x2048_1_0_0_1_n_n none h (shapeCast _ wd shapeCasts_S1x5632x2048_S5632x2048)

/-- The gate and the residual. -/
def outp (x : FVec Ideal S16x2048x2048 .f32) (md : FVec Ideal S24x12288 .f32) (o : FVec Ideal S32768x2048 .f32) : FVec Ideal S32768x2048 .f32 :=
  shapeCast _ (addf x (mulf (broadcastInDim S16x2048x2048 ![0, 1, 2] bcast_S16x1x2048_S16x2048x2048_0_1_2 (broadcastInDim S16x1x2048 ![0, 2] bcast_S16x2048_S16x1x2048_0_2 (extractStridedSlice S16x2048 ![0, 10240] (extractStridedSlice S16x12288 ![0, 0] md slices_S24x12288_S16x12288_0_0) slices_S16x12288_S16x2048_0_10240)))
    (shapeCast _ o shapeCasts_S32768x2048_S16x2048x2048))) shapeCasts_S16x2048x2048_S32768x2048

theorem normed_apply (x : FVec Ideal S16x2048x2048 .f32) (md : FVec Ideal S24x12288 .f32) (g : FVec Ideal S2048 .f32) (b : Fin 16)
    (s d : Fin 2048) : normed x md g (ix3 b s d) = tokenRow x md g b s d := by
  unfold tokenRow normMod
  rw [← mul_assoc]
  pointwise [normed]

theorem wide_apply (u : FVec Ideal S16x2048x2048 .f32) (w : FVec Ideal S1x2048x5632 .f32) (R : Fin 32768) (j : Fin 5632) :
    wide u w (ix2 R j) = ∑ d : Fin 2048, u (ix3 ⟨R.val / 2048, by omega⟩ ⟨R.val % 2048, by omega⟩ d) * w (ix3 0 d j) := by
  pointwise [wide]

theorem gated_apply (p q : FVec Ideal S32768x5632 .f32) (R : Fin 32768) (j : Fin 5632) :
    gated p q (ix2 R j) = p (ix2 R j) * Ideal.div 1 (1 + Ideal.exp (0 - p (ix2 R j))) * q (ix2 R j) := by
  rw [zero_sub]
  pointwise [gated]

theorem down_apply (h : FVec Ideal S32768x5632 .f32) (wd : FVec Ideal S1x5632x2048 .f32) (R : Fin 32768) (e : Fin 2048) :
    down h wd (ix2 R e) = ∑ j : Fin 5632, h (ix2 R j) * wd (ix3 0 j e) := by
  pointwise [down]

theorem outp_apply (x : FVec Ideal S16x2048x2048 .f32) (md : FVec Ideal S24x12288 .f32) (o : FVec Ideal S32768x2048 .f32) (R : Fin 32768)
    (e : Fin 2048) : outp x md o (ix2 R e) = x (ix3 ⟨R.val / 2048, by omega⟩ ⟨R.val % 2048, by omega⟩ e)
      + md (ix2 (row ⟨R.val / 2048, by omega⟩) ⟨10240 + e, by omega⟩) * o (ix2 R e) := by
  pointwise [outp]

/-- The reference's result from its arguments. -/
def result (x : FVec Ideal S16x2048x2048 .f32) (md : FVec Ideal S24x12288 .f32) (g : FVec Ideal S2048 .f32)
    (wg wu : FVec Ideal S1x2048x5632 .f32) (wd : FVec Ideal S1x5632x2048 .f32) : FVec Ideal S32768x2048 .f32 :=
  outp x md (down (gated (wide (normed x md g) wg) (wide (normed x md g) wu)) wd)

variable (m : (ℓ : Loc nD τ sig) → Buf (Elt Ideal) ℓ) (c : Dev nD)

theorem res_eq : Value.res_main_v45 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

theorem result_apply (x : FVec Ideal S16x2048x2048 .f32) (md : FVec Ideal S24x12288 .f32) (g : FVec Ideal S2048 .f32)
    (wg wu : FVec Ideal S1x2048x5632 .f32) (wd : FVec Ideal S1x5632x2048 .f32) (R : Fin 32768) (e : Fin 2048) :
    result x md g wg wu wd (ix2 R e) = elem x md g wg wu wd ⟨R.val / 2048, by omega⟩ ⟨R.val % 2048, by omega⟩ e := by
  unfold result elem unitTerm hiddenUnit
  rw [outp_apply, down_apply]
  simp only [gated_apply, wide_apply, normed_apply]

end Cert.Reference2Ideal.Ffn
end
-- ==== Proof.Ffn.Claim.lean ====
/- The dense feed-forward kernel's claim: its result is the gated feed-forward of the normed tokens, for all extended reals. -/
module

public import proofs.«01_k».proof.Defs
public import proofs.«01_k».proof.Proof.Ffn.Sweep
public import proofs.«01_k».proof.Proof.Ffn.Reference
public import Idealize.ShloMosaic.Lib.Quiescent

@[expose] public section

set_option maxRecDepth 16384

noncomputable section

namespace Cert.Ffn

open Idealize.ShloMosaic Idealize.ShloMosaic.TcCoe Idealize.SL.Sem

/-- The reference runs and leaves its arguments and the counters as they were. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result is the reference's, element by element. -/
theorem algebraic : Cert.algebraic_Kernel2Ideal_Reference2Ideal := by
  intro m g m' g' _ hagree
  refine ⟨fun c => (Cert.Kernel2Ideal.Gen.dats m 0 c).arrAt 8 Cert.Kernel2Ideal.cfg0.N,
    Cert.Kernel2Ideal.Value.run_blocks (F := Ideal) m g,
    (θ_run Cert.Reference2Ideal.defs _ _).mono (fun r h c => ⟨?_, (h c).2⟩)
      (Cert.Reference2Ideal.Value.run (F := Ideal) m' g')⟩
  obtain ⟨a0, a1, a2, a3, a4, a5⟩ := hagree c
  have e : r.2.mem ((c.tc : Thread Cert.Reference2Ideal.nD Cert.Reference2Ideal.τ).loc Cert.Reference2Ideal.main_v45) =
      Cert.Reference2Ideal.Ffn.result _ _ _ _ _ _ := (h c).1.trans (Cert.Reference2Ideal.Ffn.res_eq m' c)
  refine e.trans ?_
  rw [a0, a1, a2, a3, a4, a5]
  refine Eq.trans ?_ (Cert.Kernel2Ideal.Ffn.final m c).symm
  funext i
  obtain ⟨R, e, rfl⟩ : ∃ (R : Fin 32768) (e : Fin 2048), i = ix2 R e := ⟨i 0, i 1, eq_ix2 i⟩
  exact Cert.Reference2Ideal.Ffn.result_apply _ _ _ _ _ _ R e

end Cert.Ffn

end
-- ==== Proof.FfnCtx.Points.lean ====
/- What a grid point of the dense feed-forward kernel leaves on the context stream: at a run's first point the normed rows and the first partial
   sum, at a later point one partial sum more, at the last one the gated residual. -/
module

public import proofs.«01_k».proof.Proof.Ffn.Math
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Ffn

open Cert.Kernel8Ideal Cert.Kernel8Ideal.Gen Idealize.ShloMosaic Idealize.ShloMosaic.TcCoe Idealize.SL.Sem
open Cert.Ffn (normMod hiddenUnit width eps)

/-- An element of the normed rows, from a row block and its modulation. -/
def rowOf (x0 : Vec Ideal S1024x2048 .f32) (x1 x2 : Vec Ideal S1x1x2048 .f32) (x4 : Vec Ideal S1x2048 .f32) (r : Fin 1024)
    (d : Fin 2048) : EReal :=
  normMod width eps (fun j => x0 (ix2 r j)) (fun j => x4 (ix2 0 j)) (fun j => x2 (ix3 0 0 j)) (fun j => x1 (ix3 0 0 j)) d

/-- A partial down product: the hidden units of one block, contracted with their rows of the down weights. -/
def downOf (u : Fin 2048 → EReal) (x5 x6 : Vec Ideal S2048x512 .bf16) (x7 : Vec Ideal S512x2048 .bf16) (e : Fin 2048) : EReal :=
  ∑ j : Fin 512, hiddenUnit u (fun d => x5 (ix2 d j)) (fun d => x6 (ix2 d j)) * x7 (ix2 j e)

/-- What the body stores for sixteen rows, by its first text. -/
def chunk (G S : Vec Ideal S1x2048 .f32) (X : Vec Ideal S16x2048 .f32) : FVec Ideal S16x2048 .bf16 := k0_pay70 G S X

theorem chunk_apply (x4 : Vec Ideal S1x2048 .f32) (x2 x1 : Vec Ideal S1x1x2048 .f32) (X : Vec Ideal S16x2048 .f32) (r : Fin 16)
    (d : Fin 2048) : chunk (k0_pay7 x4 x2) (k0_pay8 x1) X (ix2 r d) =
      normMod width eps (fun j => X (ix2 r j)) (fun j => x4 (ix2 0 j)) (fun j => x2 (ix3 0 0 j)) (fun j => x1 (ix3 0 0 j)) d := by
  unfold chunk normMod
  pointwise [k0_pay70, k0_pay7, k0_pay8]

/-- The four row blocks' updates are one function of the normed rows, the weights' blocks and the sum so far. -/
theorem update_apply (u : Vec Ideal S256x2048 .bf16) (x5 x6 : Vec Ideal S2048x512 .bf16) (x7 : Vec Ideal S512x2048 .bf16)
    (a : Vec Ideal S256x2048 .f32) (r : Fin 256) (e : Fin 2048) :
    k0_pay5 (k0_pay137 u x5 x6) x7 a (ix2 r e) = a (ix2 r e) + downOf (fun d => u (ix2 r d)) x5 x6 x7 e := by
  unfold downOf hiddenUnit
  pointwise [k0_pay5, k0_pay137]

/-- The four row blocks' updates, side by side, at an element: one partial product on top of the sum so far. -/
theorem update_tiles (u : Vec Ideal S1024x2048 .bf16) (x5 x6 : Vec Ideal S2048x512 .bf16) (x7 : Vec Ideal S512x2048 .bf16)
    (a : Vec Ideal S1024x2048 .f32) (r : Fin 1024) (e : Fin 2048) :
    View.canon (Val := Elt Ideal) (e := .f32) [
      ⟨Rect.unit ![768, 0] ![256, 2048] inb_S1024x2048_S256x2048_768_0,
        k0_pay5 (k0_pay137 (View.ld u (Rect.unit ![768, 0] ![256, 2048] inb_S1024x2048_S256x2048_768_0)) x5 x6) x7
          (View.ld a (Rect.unit ![768, 0] ![256, 2048] inb_S1024x2048_S256x2048_768_0))⟩,
      ⟨Rect.unit ![512, 0] ![256, 2048] inb_S1024x2048_S256x2048_512_0,
        k0_pay4 (k0_pay136 (View.ld u (Rect.unit ![512, 0] ![256, 2048] inb_S1024x2048_S256x2048_512_0)) x5 x6) x7
          (View.ld a (Rect.unit ![512, 0] ![256, 2048] inb_S1024x2048_S256x2048_512_0))⟩,
      ⟨Rect.unit ![256, 0] ![256, 2048] inb_S1024x2048_S256x2048_256_0,
        k0_pay3 (k0_pay135 (View.ld u (Rect.unit ![256, 0] ![256, 2048] inb_S1024x2048_S256x2048_256_0)) x5 x6) x7
          (View.ld a (Rect.unit ![256, 0] ![256, 2048] inb_S1024x2048_S256x2048_256_0))⟩,
      ⟨Rect.unit ![0, 0] ![256, 2048] inb_S1024x2048_S256x2048_0_0,
        k0_pay2 (k0_pay138 (k0_pay134 (View.ld u (Rect.unit ![0, 0] ![256, 2048] inb_S1024x2048_S256x2048_0_0)) x5 x6) x7)
          (View.ld a (Rect.unit ![0, 0] ![256, 2048] inb_S1024x2048_S256x2048_0_0))⟩] (ix2 r e) =
      a (ix2 r e) + downOf (fun d => u (ix2 r d)) x5 x6 x7 e := by
  canon_tiles x h
  all_goals
    obtain ⟨r', e', rfl⟩ : ∃ (r' : Fin 256) (e' : Fin 2048), x = ix2 r' e' := ⟨x 0, x 1, eq_ix2 x⟩
    obtain rfl : e' = e := Fin.ext h1.symm
    replace h0 : (r : ℕ) = _ := h0
    simp only [ix2_0] at h0
    refine (update_apply _ _ _ _ _ r' e').trans ?_
    pointwise
    blk_point []

/-- The last point's store: the input plus the gate times the finished sum. -/
theorem residual_apply (x : Vec Ideal S1024x2048 .f32) (g : Vec Ideal S1x1x2048 .f32) (a : Vec Ideal S1024x2048 .f32)
    (r : Fin 1024) (e : Fin 2048) : k0_pay6 x g a (ix2 r e) = x (ix2 r e) + g (ix3 0 0 e) * a (ix2 r e) := by
  pointwise [k0_pay6]

variable (m : (ℓ : Loc nD τ sig) → Buf (Elt Ideal) ℓ) (c : Dev nD) (t : Fin cfg0.N)

/-- At an inner point of a run: one partial product is added to what the point before left. -/
theorem caseB (h0 : ¬t.val % 11 = 0) (h1 : 1 ≤ t.val % 11) (h2 : ¬t.val % 11 = 10) (r : Fin 1024) (e : Fin 2048) :
    (outsAt0 m c t.val t.isLt).1 (ix2 r e) =
      (outsAt0 m c (t.val - 1) (by omega)).1 (ix2 r e)
        + downOf (fun d => (outsAt0 m c (t.val - 1) (by omega)).2 (ix2 r d)) (iblk m c 5 t) (iblk m c 6 t) (iblk m c 7 t) e := by
  rw [outsAt0_B m c t h0 h1 h2]
  frame_out
  simp only [read_unread_whole]
  exact update_tiles _ _ _ _ _ r e

/-- An inner point leaves the normed rows as they are. -/
theorem caseB_scratch (h0 : ¬t.val % 11 = 0) (h1 : 1 ≤ t.val % 11) (h2 : ¬t.val % 11 = 10) :
    (outsAt0 m c t.val t.isLt).2 = (outsAt0 m c (t.val - 1) (by omega)).2 := by
  rw [outsAt0_B m c t h0 h1 h2]
  rfl

/-- The input block's element. -/
abbrev inAt (r : Fin 1024) (e : Fin 2048) : EReal := iblk m c 0 t (ix2 r e)

/-- The gate's element at a point. -/
abbrev gateAt (e : Fin 2048) : EReal := iblk m c 3 t (ix3 0 0 e)

/-- At a run's last point: the input plus the gate times the sum with its last partial product. -/
theorem caseC (h0 : ¬t.val % 11 = 0) (h1 : 1 ≤ t.val % 11) (h2 : t.val % 11 = 10) (r : Fin 1024) (e : Fin 2048) :
    (outsAt0 m c t.val t.isLt).1 (ix2 r e) = inAt m c t r e + gateAt m c t e *
      ((outsAt0 m c (t.val - 1) (by omega)).1 (ix2 r e)
        + downOf (fun d => (outsAt0 m c (t.val - 1) (by omega)).2 (ix2 r d)) (iblk m c 5 t) (iblk m c 6 t) (iblk m c 7 t) e) := by
  rw [outsAt0_C m c t h0 h1 h2]
  frame_out
  simp only [read_unread_whole]
  refine (residual_apply _ _ _ r e).trans ?_
  have hi : (Rect.unit ![0, 0] ![1024, 2048] inb_S1024x2048_S1024x2048_0_0).toLoadRect.idx (ix2 r e) = ix2 r e := by
    funext k
    fin_cases k
    · exact Fin.ext (show 0 + 1 * (r : ℕ) = r by omega)
    · exact Fin.ext (show 0 + 1 * (e : ℕ) = e by omega)
  rw [View.readCov_eq_canon']
  beta_reduce
  rw [hi]
  generalize outsAt0 m c (t.val - 1) _ = o
  exact congrArg₂ (· + ·) rfl (congrArg₂ (· * ·) rfl (update_tiles _ _ _ _ _ r e))

end Cert.Kernel8Ideal.Ffn
end
-- ==== Proof.FfnCtx.First.lean ====
/- What a run's first point of the dense feed-forward kernel leaves on the context stream: the normed rows and the first partial sum. -/
module

public import proofs.«01_k».proof.Proof.FfnCtx.Points
public import proofs.«01_k».proof.Proof.Rows.Filled
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Ffn

open Cert.Kernel8Ideal Cert.Kernel8Ideal.Gen Idealize.ShloMosaic Idealize.ShloMosaic.TcCoe Idealize.SL.Sem
open Cert.Ffn (normMod hiddenUnit width eps)
open Cert.Rows (Filled filled_zero filled_step filled_read)

variable (m : (ℓ : Loc nD τ sig) → Buf (Elt Ideal) ℓ) (c : Dev nD) (t : Fin cfg0.N)

/-- The normed rows of one row block. -/
def normed (x0 : Vec Ideal S1024x2048 .f32) (x1 x2 : Vec Ideal S1x1x2048 .f32) (x4 : Vec Ideal S1x2048 .f32) : Vec Ideal S1024x2048 .bf16 :=
  fun y => rowOf x0 x1 x2 x4 (y 0) (y 1)

/-- Sixteen stored rows are rows of the normed ones. -/
theorem chunk_rows (x0 : Vec Ideal S1024x2048 .f32) (x1 x2 : Vec Ideal S1x1x2048 .f32) (x4 : Vec Ideal S1x2048 .f32) (o : ℕ)
    (inb : ∀ a, (![o, 0] : Fin 2 → ℕ) a + (![16, 2048] : Fin 2 → ℕ) a ≤ S1024x2048.size a) (w : FVec Ideal S16x2048 .bf16)
    (hw : w = chunk (k0_pay7 x4 x2) (k0_pay8 x1) (View.ld x0 (Rect.unit ![o, 0] ![16, 2048] inb)))
    (r : Fin 16) (d : Fin 2048) (R : Fin 1024) (hR : (R : ℕ) = o + r) : w (ix2 r d) = normed x0 x1 x2 x4 (ix2 R d) := by
  subst hw
  refine (chunk_apply _ _ _ _ r d).trans ?_
  have hr : ∀ j : Fin 2048, View.ld x0 (Rect.unit ![o, 0] ![16, 2048] inb) (ix2 r j) = x0 (ix2 R j) := fun j =>
    congrArg x0 (funext fun k => by
      fin_cases k
      · exact Fin.ext (show o + 1 * (r : ℕ) = R by omega)
      · exact Fin.ext (show 0 + 1 * (j : ℕ) = j by omega))
  simp only [hr]
  rfl

/-- What the body stores for 256 rows at the first point: their partial down product. -/
def firstDown (u : Vec Ideal S256x2048 .bf16) (x5 x6 : Vec Ideal S2048x512 .bf16) (x7 : Vec Ideal S512x2048 .bf16) : FVec Ideal S256x2048 .f32 :=
  k0_pay131 (k0_pay137 u x5 x6) x7

theorem firstDown_apply (u : Vec Ideal S256x2048 .bf16) (x5 x6 : Vec Ideal S2048x512 .bf16) (x7 : Vec Ideal S512x2048 .bf16)
    (r : Fin 256) (e : Fin 2048) : firstDown u x5 x6 x7 (ix2 r e) = downOf (fun d => u (ix2 r d)) x5 x6 x7 e := by
  unfold downOf hiddenUnit firstDown
  pointwise [k0_pay131, k0_pay137]

/-- A partial product of 256 rows read back from the filled ones. -/
theorem firstDown_rows (U : Vec Ideal S1024x2048 .bf16) (x5 x6 : Vec Ideal S2048x512 .bf16) (x7 : Vec Ideal S512x2048 .bf16) (n o : ℕ)
    (inb : ∀ a, (![o, 0] : Fin 2 → ℕ) a + (![256, 2048] : Fin 2 → ℕ) a ≤ S1024x2048.size a)
    (hn : o + 256 ≤ 16 * n)
    {κ : Kind} {sp : Space} (v : View sig κ sp S1024x2048 .bf16)
    (L : List (View.Piece (Elt Ideal) S1024x2048 .bf16)) (hL : Filled 16 U n L) (w : FVec Ideal S256x2048 .f32)
    (hw : w = firstDown (v.readCov L (Rect.unit (s := S1024x2048) ![o, 0] ![256, 2048] inb).toLoadRect) x5 x6 x7)
    (r : Fin 256) (e : Fin 2048) (R : Fin 1024) (hR : (R : ℕ) = o + r) :
    w (ix2 r e) = downOf (fun d => U (ix2 R d)) x5 x6 x7 e := by
  subst hw
  refine (firstDown_apply _ _ _ _ r e).trans ?_
  rw [View.readCov_eq_canon']
  have hr : ∀ d : Fin 2048, View.canon L ((Rect.unit (s := S1024x2048) ![o, 0] ![256, 2048] inb).toLoadRect.idx (ix2 r d)) = U (ix2 R d) :=
    fun d => filled_read 16 U n 256 o inb hn L hL r d R hR
  exact congrArg (fun u => downOf u x5 x6 x7 e) (funext hr)

/-- At a run's first point: the normed rows. -/
theorem caseA_scratch (h0 : t.val % 11 = 0) (h1 : ¬1 ≤ t.val % 11) (h2 : ¬t.val % 11 = 10) (r : Fin 1024) (d : Fin 2048) :
    (outsAt0 m c t.val t.isLt).2 (ix2 r d) = rowOf (iblk m c 0 t) (iblk m c 1 t) (iblk m c 2 t) (iblk m c 4 t) r d := by
  rw [outsAt0_A m c t h0 h1 h2]
  frame_out
  have key : ∀ L, Filled 16 (normed (iblk m c 0 t) (iblk m c 1 t) (iblk m c 2 t) (iblk m c 4 t)) 64 L →
      View.canon L (ix2 r d) = rowOf (iblk m c 0 t) (iblk m c 1 t) (iblk m c 2 t) (iblk m c 4 t) r d :=
    fun L h => h r d r.isLt
  refine key _ ?_
  iterate 64 refine filled_step _ _ _ _ rfl _ _ (chunk_rows _ _ _ _ _ _ _ rfl) _ ?_
  exact filled_zero _ _ _

/-- The first point's four partial products. -/
def firstSum (u : Vec Ideal S1024x2048 .bf16) (x5 x6 : Vec Ideal S2048x512 .bf16) (x7 : Vec Ideal S512x2048 .bf16) : Vec Ideal S1024x2048 .f32 :=
  fun y => downOf (fun d => u (ix2 (y 0) d)) x5 x6 x7 (y 1)

/-- At a run's first point: the first partial product. -/
theorem caseA (h0 : t.val % 11 = 0) (h1 : ¬1 ≤ t.val % 11) (h2 : ¬t.val % 11 = 10) (r : Fin 1024) (e : Fin 2048) :
    (outsAt0 m c t.val t.isLt).1 (ix2 r e) =
      downOf (rowOf (iblk m c 0 t) (iblk m c 1 t) (iblk m c 2 t) (iblk m c 4 t) r) (iblk m c 5 t) (iblk m c 6 t) (iblk m c 7 t) e := by
  rw [outsAt0_A m c t h0 h1 h2]
  frame_out
  have key : ∀ L, Filled 256 (firstSum (normed (iblk m c 0 t) (iblk m c 1 t) (iblk m c 2 t) (iblk m c 4 t)) (iblk m c 5 t) (iblk m c 6 t) (iblk m c 7 t)) 4 L →
      View.canon L (ix2 r e) = downOf (rowOf (iblk m c 0 t) (iblk m c 1 t) (iblk m c 2 t) (iblk m c 4 t) r) (iblk m c 5 t) (iblk m c 6 t) (iblk m c 7 t) e :=
    fun L h => h r e r.isLt
  refine key _ ?_
  refine filled_step _ _ _ _ rfl _ _ (firstDown_rows _ _ _ _ 64 _ _ (by decide) _ _ ?_ _ rfl) _ ?_
  · iterate 64 refine filled_step _ _ _ _ rfl _ _ (chunk_rows _ _ _ _ _ _ _ rfl) _ ?_
    exact filled_zero _ _ _
  refine filled_step _ _ _ _ rfl _ _ (firstDown_rows _ _ _ _ 48 _ _ (by decide) _ _ ?_ _ rfl) _ ?_
  · iterate 48 refine filled_step _ _ _ _ rfl _ _ (chunk_rows _ _ _ _ _ _ _ rfl) _ ?_
    exact filled_zero _ _ _
  refine filled_step _ _ _ _ rfl _ _ (firstDown_rows _ _ _ _ 32 _ _ (by decide) _ _ ?_ _ rfl) _ ?_
  · iterate 32 refine filled_step _ _ _ _ rfl _ _ (chunk_rows _ _ _ _ _ _ _ rfl) _ ?_
    exact filled_zero _ _ _
  refine filled_step _ _ _ _ rfl _ _ (firstDown_rows _ _ _ _ 16 _ _ (by decide) _ _ ?_ _ rfl) _ ?_
  · iterate 16 refine filled_step _ _ _ _ rfl _ _ (chunk_rows _ _ _ _ _ _ _ rfl) _ ?_
    exact filled_zero _ _ _
  exact filled_zero _ _ _

end Cert.Kernel8Ideal.Ffn
end
-- ==== Proof.FfnCtx.Blocks.lean ====
/- The dense feed-forward kernel's input blocks at a grid point on the context stream, read off the arguments. Point `t` works on the row block
   `t / 11` and on the hidden block `t % 11`. -/
module

public import proofs.«01_k».proof.Proof.Gen.Kernel8Ideal.Value
public import Idealize.ShloMosaic.Lib.Pipeline.ValueKit
public import Idealize.ShloMosaic.Lib.Pointwise

@[expose] public section

set_option maxRecDepth 16384

noncomputable section

namespace Cert.Kernel8Ideal.Ffn

open Cert.Kernel8Ideal Cert.Kernel8Ideal.Gen Idealize.ShloMosaic Idealize.ShloMosaic.TcCoe Idealize.SL.Sem

/-- The windows' block indices, from the grid point's number. -/
theorem idx : ∀ t : Fin cfg0.N,
    win0_0.index t = ![t.val / 11, 0] ∧ win0_1.index t = ![99, 0, 0]
    ∧ win0_2.index t = ![100, 0, 0] ∧ win0_3.index t = ![101, 0, 0]
    ∧ win0_4.index t = ![0, 0] ∧ win0_5.index t = ![0, t.val % 11] ∧ win0_6.index t = ![0, t.val % 11]
    ∧ win0_7.index t = ![t.val % 11, 0] ∧ win0_8.index t = ![t.val / 11, 0] :=
  (by decide +kernel : ∀ t : Fin grid0.N,
    win0_0.index t = ![t.val / 11, 0] ∧ win0_1.index t = ![99, 0, 0]
    ∧ win0_2.index t = ![100, 0, 0] ∧ win0_3.index t = ![101, 0, 0]
    ∧ win0_4.index t = ![0, 0] ∧ win0_5.index t = ![0, t.val % 11] ∧ win0_6.index t = ![0, t.val % 11]
    ∧ win0_7.index t = ![t.val % 11, 0] ∧ win0_8.index t = ![t.val / 11, 0])

theorem lt_N (t : Fin cfg0.N) : t.val < 44 := lt_of_lt_of_eq t.isLt (show cfg0.N = 44 from N_0)

variable (m : (ℓ : Loc nD τ sig) → Buf (Elt Ideal) ℓ) (c : Dev nD) (t : Fin cfg0.N)

/-- The input's rows. -/
theorem blk_x (r : Fin 1024) (d : Fin 2048) :
    iblk m c 0 t (ix2 r d) = m ((c : Thread nD τ).loc main_arg0)
      (ix3 ⟨t.val / 11 * 4 + r.val / 256, by have := lt_N t; omega⟩ ⟨r.val % 256, by omega⟩ d) := by
  have := lt_N t
  blk_ext! [iblk, V, idx t]

/-- The shift row. -/
theorem blk_shift (d : Fin 2048) :
    iblk m c 1 t (ix3 0 0 d) = m ((c : Thread nD τ).loc main_arg1)
      (ix2 ⟨16, by decide⟩ ⟨6144 + d, by omega⟩) := by
  have := lt_N t
  blk_ext! [iblk, V, idx t]

/-- The scale row. -/
theorem blk_scale (d : Fin 2048) :
    iblk m c 2 t (ix3 0 0 d) = m ((c : Thread nD τ).loc main_arg1)
      (ix2 ⟨16, by decide⟩ ⟨8192 + d, by omega⟩) := by
  have := lt_N t
  blk_ext! [iblk, V, idx t]

/-- The gate row. -/
theorem blk_gate (d : Fin 2048) :
    iblk m c 3 t (ix3 0 0 d) = m ((c : Thread nD τ).loc main_arg1)
      (ix2 ⟨16, by decide⟩ ⟨10240 + d, by omega⟩) := by
  have := lt_N t
  blk_ext! [iblk, V, idx t]

/-- The norm's gain. -/
theorem blk_gain (d : Fin 2048) : iblk m c 4 t (ix2 0 d) = m ((c : Thread nD τ).loc main_arg2) (ix1 d) := by
  blk_ext! [iblk, V, idx t]

/-- The gate weights' columns. -/
theorem blk_wg (d : Fin 2048) (j : Fin 512) :
    iblk m c 5 t (ix2 d j) = m ((c : Thread nD τ).loc main_arg3) (ix3 0 d ⟨t.val % 11 * 512 + j, by omega⟩) := by
  blk_ext! [iblk, V, idx t]

/-- The up weights' columns. -/
theorem blk_wu (d : Fin 2048) (j : Fin 512) :
    iblk m c 6 t (ix2 d j) = m ((c : Thread nD τ).loc main_arg4) (ix3 0 d ⟨t.val % 11 * 512 + j, by omega⟩) := by
  blk_ext! [iblk, V, idx t]

/-- The down weights' rows. -/
theorem blk_wd (j : Fin 512) (e : Fin 2048) :
    iblk m c 7 t (ix2 j e) = m ((c : Thread nD τ).loc main_arg5) (ix3 0 ⟨t.val % 11 * 512 + j, by omega⟩ e) := by
  blk_ext! [iblk, V, idx t]

end Cert.Kernel8Ideal.Ffn
end
-- ==== Proof.FfnCtx.Math.lean ====
/- The element of the feed-forward on the context stream, whose tokens all have one modulation. -/
module

public import proofs.«01_k».proof.Proof.Ffn.Math
public import Idealize.ShloMosaic.PureOps.Ideal
public import Idealize.ShloMosaic.Lib.Pointwise

@[expose] public section

noncomputable section

namespace Cert.FfnCtx

open Idealize.ShloMosaic
open Cert.Ffn (normMod unitTerm width eps)

/-- The modulation's row for the context: the one after the batches'. -/
abbrev ctxRow : Fin 24 := ⟨16, by decide⟩

/-- The normed and modulated row of a context token. -/
def tokenRow (x : FVec Ideal ⟨3, ![16, 256, 2048]⟩ .f32) (md : FVec Ideal ⟨2, ![24, 12288]⟩ .f32) (g : FVec Ideal ⟨1, ![2048]⟩ .f32)
    (b : Fin 16) (s : Fin 256) (d : Fin 2048) : EReal :=
  normMod width eps (fun j => x (ix3 b s j)) (fun j => g (ix1 j)) (fun j => md (ix2 ctxRow ⟨8192 + j, by omega⟩))
    (fun j => md (ix2 ctxRow ⟨6144 + j, by omega⟩)) d

/-- The result's element: the input plus the gate times the down-projected hidden units of the normed row. -/
def elem (x : FVec Ideal ⟨3, ![16, 256, 2048]⟩ .f32) (md : FVec Ideal ⟨2, ![24, 12288]⟩ .f32) (g : FVec Ideal ⟨1, ![2048]⟩ .f32)
    (wg wu : FVec Ideal ⟨3, ![1, 2048, 5632]⟩ .f32) (wd : FVec Ideal ⟨3, ![1, 5632, 2048]⟩ .f32) (b : Fin 16) (s : Fin 256)
    (e : Fin 2048) : EReal :=
  x (ix3 b s e) + md (ix2 ctxRow ⟨10240 + e, by omega⟩) * ∑ j : Fin 5632, unitTerm wg wu wd (tokenRow x md g b s) e j

end Cert.FfnCtx
end
-- ==== Proof.FfnCtx.Sweep.lean ====
/- The dense feed-forward kernel's grid on the context stream: what its runs of eleven points carry, and the array they leave. -/
module

public import proofs.«01_k».proof.Proof.FfnCtx.First
public import proofs.«01_k».proof.Proof.FfnCtx.Blocks
public import proofs.«01_k».proof.Proof.FfnCtx.Math
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Ffn

open Cert.Kernel8Ideal Cert.Kernel8Ideal.Gen Idealize.ShloMosaic Idealize.ShloMosaic.TcCoe Idealize.SL.Sem
open Cert.Ffn (hiddenUnit unitTerm)
open Cert.FfnCtx (tokenRow elem ctxRow)

variable (m : (ℓ : Loc nD τ sig) → Buf (Elt Ideal) ℓ) (c : Dev nD)

/-- The arguments' hidden-unit terms, block `f` of 512, summed. -/
def part (u : Fin 2048 → EReal) (e : Fin 2048) (f : ℕ) : EReal :=
  ∑ j : Fin 512, if h : f * 512 + j < 5632 then
    unitTerm (m ((c : Thread nD τ).loc main_arg3)) (m ((c : Thread nD τ).loc main_arg4)) (m ((c : Thread nD τ).loc main_arg5)) u e ⟨f * 512 + j, h⟩
    else 0

/-- The normed row of the token at row `r` of row block `i`. -/
def blockRow (i : ℕ) (hi : i < 4) (r : Fin 1024) (d : Fin 2048) : EReal :=
  tokenRow (m ((c : Thread nD τ).loc main_arg0)) (m ((c : Thread nD τ).loc main_arg1)) (m ((c : Thread nD τ).loc main_arg2))
    ⟨i * 4 + r.val / 256, by omega⟩ ⟨r.val % 256, by omega⟩ d

/-- A grid point's normed rows, read off the arguments. -/
theorem rowOf_blk (t : Fin cfg0.N) (r : Fin 1024) (d : Fin 2048) (i : ℕ) (hi : i < 4) (ht : t.val / 11 = i) :
    rowOf (iblk m c 0 t) (iblk m c 1 t) (iblk m c 2 t) (iblk m c 4 t) r d = blockRow m c i hi r d := by
  subst ht
  unfold rowOf blockRow tokenRow
  congr 1
  · funext j; exact blk_x m c t r j
  · funext j; exact blk_gain m c t j
  · funext j; exact blk_scale m c t j
  · funext j; exact blk_shift m c t j

/-- A grid point's partial down product, read off the arguments. -/
theorem downOf_blk (t : Fin cfg0.N) (u : Fin 2048 → EReal) (e : Fin 2048) (f : ℕ) (ht : t.val % 11 = f) :
    downOf u (iblk m c 5 t) (iblk m c 6 t) (iblk m c 7 t) e = part m c u e f := by
  subst ht
  unfold downOf part unitTerm
  refine Finset.sum_congr rfl fun j _ => ?_
  rw [dif_pos (by omega : t.val % 11 * 512 + j.val < 5632)]
  refine congrArg₂ (· * ·) ?_ (blk_wd m c t j e)
  exact congrArg₂ (hiddenUnit u) (funext fun d => blk_wg m c t d j) (funext fun d => blk_wu m c t d j)

/-- Up to the last point but one, the carried rows are the normed ones and the output block is the sum so far. -/
theorem sweep (i : ℕ) (hi : i < 4) : ∀ k : ℕ, k ≤ 9 → ∀ n (hn : n = 11 * i + k) (hN : n < cfg0.N),
    (∀ (r : Fin 1024) (d : Fin 2048), (outsAt0 m c n hN).2 (ix2 r d) = blockRow m c i hi r d) ∧
    (∀ (r : Fin 1024) (e : Fin 2048), (outsAt0 m c n hN).1 (ix2 r e) =
      ∑ f ∈ Finset.range (k + 1), part m c (blockRow m c i hi r) e f)
  | 0, _, n, hn, hN => by
    have h0 : n % 11 = 0 := by omega
    have h1 : ¬1 ≤ n % 11 := by omega
    have h2 : ¬n % 11 = 10 := by omega
    have hr : ∀ r, rowOf (iblk m c 0 ⟨n, hN⟩) (iblk m c 1 ⟨n, hN⟩) (iblk m c 2 ⟨n, hN⟩) (iblk m c 4 ⟨n, hN⟩) r = blockRow m c i hi r :=
      fun r => funext fun d => rowOf_blk m c ⟨n, hN⟩ r d i hi (by show n / 11 = i; omega)
    refine ⟨fun r d => (caseA_scratch m c ⟨n, hN⟩ h0 h1 h2 r d).trans (congrFun (hr r) d), fun r e => ?_⟩
    refine (caseA m c ⟨n, hN⟩ h0 h1 h2 r e).trans ?_
    rw [hr, downOf_blk m c ⟨n, hN⟩ _ e 0 h0, Finset.sum_range_one]
  | k + 1, hk, n, hn, hN => by
    have h0 : ¬n % 11 = 0 := by omega
    have h1 : 1 ≤ n % 11 := by omega
    have h2 : ¬n % 11 = 10 := by omega
    obtain ⟨ihs, ihv⟩ := sweep i hi k (by omega) (n - 1) (by omega) (by omega)
    refine ⟨fun r d => (congrFun (caseB_scratch m c ⟨n, hN⟩ h0 h1 h2) (ix2 r d)).trans (ihs r d), fun r e => ?_⟩
    refine (caseB m c ⟨n, hN⟩ h0 h1 h2 r e).trans ?_
    have hr : (fun d => (outsAt0 m c (n - 1) (by omega)).2 (ix2 r d)) = blockRow m c i hi r := funext (ihs r)
    rw [Finset.sum_range_succ]
    refine congrArg₂ (· + ·) (ihv r e) ?_
    refine (congrArg (fun u => downOf u (iblk m c 5 ⟨n, hN⟩) (iblk m c 6 ⟨n, hN⟩) (iblk m c 7 ⟨n, hN⟩) e) hr).trans ?_
    exact downOf_blk m c ⟨n, hN⟩ _ e (k + 1) (by show n % 11 = k + 1; omega)

/-- All eleven partial sums are the sum over the hidden units. -/
theorem sum_part (u : Fin 2048 → EReal) (e : Fin 2048) : ∑ f ∈ Finset.range 11, part m c u e f =
    ∑ j : Fin 5632, unitTerm (m ((c : Thread nD τ).loc main_arg3)) (m ((c : Thread nD τ).loc main_arg4)) (m ((c : Thread nD τ).loc main_arg5)) u e j := by
  rw [← Fin.sum_univ_eq_sum_range]
  unfold part
  refine Fin.sum_mul_add_congr fun s k hl => ?_
  rw [dif_pos hl]

/-- What a run's last point stores. -/
theorem last (t : Fin cfg0.N) (ht : t.val % 11 = 10) (r : Fin 1024) (e : Fin 2048) :
    (outsAt0 m c t.val t.isLt).1 (ix2 r e) =
      elem (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨t.val / 11 * 4 + r.val / 256, by have := lt_N t; omega⟩ ⟨r.val % 256, by omega⟩ e := by
  have hlt := lt_N t
  have hi : t.val / 11 < 4 := by omega
  have hN : t.val - 1 < cfg0.N := by have := t.isLt; omega
  obtain ⟨ihs, ihv⟩ := sweep m c (t.val / 11) hi 9 le_rfl (t.val - 1) (by omega) hN
  refine (caseC m c t (by omega) (by omega) ht r e).trans ?_
  have hr : (fun d => (outsAt0 m c (t.val - 1) hN).2 (ix2 r d)) = blockRow m c (t.val / 11) hi r := funext (ihs r)
  unfold elem
  refine congrArg₂ (· + ·) (blk_x m c t r e) (congrArg₂ (· * ·) (blk_gate m c t e) ?_)
  refine (congrArg₂ (· + ·) (ihv r e) ((congrArg (fun u => downOf u (iblk m c 5 t) (iblk m c 6 t) (iblk m c 7 t) e) hr).trans
    (downOf_blk m c t _ e 10 ht))).trans ?_
  refine (Finset.sum_range_succ (fun f => part m c (blockRow m c (t.val / 11) hi r) e f) 10).symm.trans ?_
  rw [sum_part]
  have hrow : blockRow m c (t.val / 11) hi r = tokenRow (m ((c : Thread nD τ).loc main_arg0)) (m ((c : Thread nD τ).loc main_arg1))
      (m ((c : Thread nD τ).loc main_arg2)) ⟨t.val / 11 * 4 + r.val / 256, by omega⟩ ⟨r.val % 256, by omega⟩ := rfl
  rw [hrow]

/-- The kernel's result array, element by element. -/
theorem final : (dats m 0 c).arrAt 8 cfg0.N = fun i : S4096x2048.Idx =>
      elem (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨(i 0).val / 256, by have : (i 0).val < 4096 := (i 0).isLt; omega⟩ ⟨(i 0).val % 256, by omega⟩ (i 1) := by
  refine (dats m 0 c).arrAt_eq_of_covers 8 _ (by decide +kernel) fun t hf y => ?_
  have hlt := lt_N t
  have ht : t.val % 11 = 10 := (by decide +kernel : ∀ t : Fin cfg0.N, (cfg0.win 8).flush t = true → t.val % 11 = 10) t hf
  blk_simp
  rw [after0_8]
  obtain ⟨r, e, rfl⟩ : ∃ (r : Fin 1024) (e : Fin 2048), y = ix2 r e := ⟨y 0, y 1, eq_ix2 y⟩
  refine (last m c t ht r e).trans ?_
  have e0 : win0_8.index t 0 = t.val / 11 := congrFun (idx t).2.2.2.2.2.2.2.2 0
  have e1 : (win0_8.blk t).view.emb (ix2 r e) 1 = e := by
    refine Fin.ext ?_
    blk_point [idx t]
  refine congr (congrArg₂ _ (Fin.ext ?_) (Fin.ext ?_)) e1.symm
  · show t.val / 11 * 4 + r.val / 256 = (win0_8.index t 0 * 1024 + r.val) / 256
    rw [e0]; omega
  · show r.val % 256 = (win0_8.index t 0 * 1024 + r.val) % 256
    rw [e0]; omega

end Cert.Kernel8Ideal.Ffn
end
-- ==== Proof.FfnCtx.Reference.lean ====
/- The reference feed-forward's result on the context stream, element by element. -/
module

public import proofs.«01_k».proof.Proof.Gen.Reference8Ideal.Run
public import proofs.«01_k».proof.Proof.FfnCtx.Math
public import Idealize.ShloMosaic.Lib.Pipeline.ValueKit
public import Idealize.ShloMosaic.Lib.Pointwise

@[expose] public section

set_option maxRecDepth 16384

noncomputable section

namespace Cert.Reference8Ideal.Ffn

open Cert.Reference8Ideal Cert.Reference8Ideal.Gen Idealize.ShloMosaic Idealize.ShloMosaic.TcCoe Idealize.SL.Sem
open Cert.Ffn (normMod hiddenUnit unitTerm)
open Cert.FfnCtx (tokenRow elem ctxRow)

/-- The normed and modulated tokens. -/
def normed (x : FVec Ideal S16x256x2048 .f32) (md : FVec Ideal S24x12288 .f32) (g : FVec Ideal S2048 .f32) : FVec Ideal S16x256x2048 .f32 :=
  addf (mulf (mulf (mulf x (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf x x) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 g))) (broadcastInDim S16x256x2048 ![0, 1, 2] bcast_S1x1x2048_S16x256x2048_0_1_2 (broadcastInDim S1x1x2048 ![2] bcast_S2048_S1x1x2048_2 (addf (broadcastInDim S2048 ![] bcast_S_S2048 (constant S_ .f32 0x3F800000#32)) (extractStridedSlice S2048 ![8192] (shapeCast _ (extractStridedSlice S1x12288 ![16, 0] md slices_S24x12288_S1x12288_16_0) shapeCasts_S1x12288_S12288) slices_S12288_S2048_8192))))) (broadcastInDim S16x256x2048 ![0, 1, 2] bcast_S1x1x2048_S16x256x2048_0_1_2 (broadcastInDim S1x1x2048 ![2] bcast_S2048_S1x1x2048_2 (extractStridedSlice S2048 ![6144] (shapeCast _ (extractStridedSlice S1x12288 ![16, 0] md slices_S24x12288_S1x12288_16_0) shapeCasts_S1x12288_S12288) slices_S12288_S2048_6144)))

/-- A product of the tokens with one of the two wide weights. -/
def wide (u : FVec Ideal S16x256x2048 .f32) (w : FVec Ideal S1x2048x5632 .f32) : FVec Ideal S4096x5632 .f32 :=
  Host.dotGeneral dot_S4096x2048_S2048x5632_S4096x5632_1_0_0_1_n_n none (shapeCast _ u shapeCasts_S16x256x2048_S4096x2048)
    (shapeCast _ w shapeCasts_S1x2048x5632_S2048x5632)

/-- The logistic-gated product. -/
def gated (p q : FVec Ideal S4096x5632 .f32) : FVec Ideal S4096x5632 .f32 :=
  mulf (mulf p (Host.divf (broadcastInDim S4096x5632 ![] bcast_S_S4096x5632 (constant S_ .f32 0x3F800000#32))
    (addf (broadcastInDim S4096x5632 ![] bcast_S_S4096x5632 (constant S_ .f32 0x3F800000#32)) (Host.exp (Host.negf p))))) q

/-- The product with the down weights. -/
def down (h : FVec Ideal S4096x5632 .f32) (wd : FVec Ideal S1x5632x2048 .f32) : FVec Ideal S4096x2048 .f32 :=
  Host.dotGeneral dot_S4096x5632_S5632x2048_S4096x2048_1_0_0_1_n_n none h (shapeCast _ wd shapeCasts_S1x5632x2048_S5632x2048)

/-- The gate and the residual. -/
def outp (x : FVec Ideal S16x256x2048 .f32) (md : FVec Ideal S24x12288 .f32) (o : FVec Ideal S4096x2048 .f32) : FVec Ideal S4096x2048 .f32 :=
  shapeCast _ (addf x (mulf (broadcastInDim S16x256x2048 ![0, 1, 2] bcast_S1x1x2048_S16x256x2048_0_1_2 (broadcastInDim S1x1x2048 ![2] bcast_S2048_S1x1x2048_2 (extractStridedSlice S2048 ![10240] (shapeCast _ (extractStridedSlice S1x12288 ![16, 0] md slices_S24x12288_S1x12288_16_0) shapeCasts_S1x12288_S12288) slices_S12288_S2048_10240)))
    (shapeCast _ o shapeCasts_S4096x2048_S16x256x2048))) shapeCasts_S16x256x2048_S4096x2048

theorem normed_apply (x : FVec Ideal S16x256x2048 .f32) (md : FVec Ideal S24x12288 .f32) (g : FVec Ideal S2048 .f32) (b : Fin 16)
    (s : Fin 256) (d : Fin 2048) : normed x md g (ix3 b s d) = tokenRow x md g b s d := by
  unfold tokenRow normMod
  rw [← mul_assoc]
  pointwise [normed]
  rfl

theorem wide_apply (u : FVec Ideal S16x256x2048 .f32) (w : FVec Ideal S1x2048x5632 .f32) (R : Fin 4096) (j : Fin 5632) :
    wide u w (ix2 R j) = ∑ d : Fin 2048, u (ix3 ⟨R.val / 256, by omega⟩ ⟨R.val % 256, by omega⟩ d) * w (ix3 0 d j) := by
  pointwise [wide]

theorem gated_apply (p q : FVec Ideal S4096x5632 .f32) (R : Fin 4096) (j : Fin 5632) :
    gated p q (ix2 R j) = p (ix2 R j) * Ideal.div 1 (1 + Ideal.exp (0 - p (ix2 R j))) * q (ix2 R j) := by
  rw [zero_sub]
  pointwise [gated]

theorem down_apply (h : FVec Ideal S4096x5632 .f32) (wd : FVec Ideal S1x5632x2048 .f32) (R : Fin 4096) (e : Fin 2048) :
    down h wd (ix2 R e) = ∑ j : Fin 5632, h (ix2 R j) * wd (ix3 0 j e) := by
  pointwise [down]

theorem outp_apply (x : FVec Ideal S16x256x2048 .f32) (md : FVec Ideal S24x12288 .f32) (o : FVec Ideal S4096x2048 .f32) (R : Fin 4096)
    (e : Fin 2048) : outp x md o (ix2 R e) = x (ix3 ⟨R.val / 256, by omega⟩ ⟨R.val % 256, by omega⟩ e)
      + md (ix2 ctxRow ⟨10240 + e, by omega⟩) * o (ix2 R e) := by
  pointwise [outp]
  rfl

/-- The reference's result from its arguments. -/
def result (x : FVec Ideal S16x256x2048 .f32) (md : FVec Ideal S24x12288 .f32) (g : FVec Ideal S2048 .f32)
    (wg wu : FVec Ideal S1x2048x5632 .f32) (wd : FVec Ideal S1x5632x2048 .f32) : FVec Ideal S4096x2048 .f32 :=
  outp x md (down (gated (wide (normed x md g) wg) (wide (normed x md g) wu)) wd)

variable (m : (ℓ : Loc nD τ sig) → Buf (Elt Ideal) ℓ) (c : Dev nD)

theorem res_eq : Value.res_main_v43 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

theorem result_apply (x : FVec Ideal S16x256x2048 .f32) (md : FVec Ideal S24x12288 .f32) (g : FVec Ideal S2048 .f32)
    (wg wu : FVec Ideal S1x2048x5632 .f32) (wd : FVec Ideal S1x5632x2048 .f32) (R : Fin 4096) (e : Fin 2048) :
    result x md g wg wu wd (ix2 R e) = elem x md g wg wu wd ⟨R.val / 256, by omega⟩ ⟨R.val % 256, by omega⟩ e := by
  unfold result elem unitTerm hiddenUnit
  rw [outp_apply, down_apply]
  simp only [gated_apply, wide_apply, normed_apply]

end Cert.Reference8Ideal.Ffn
end
-- ==== Proof.FfnCtx.Claim.lean ====
/- The dense feed-forward kernel's claim on the context stream: its result is the gated feed-forward of the normed tokens, for all extended reals. -/
module

public import proofs.«01_k».proof.Defs
public import proofs.«01_k».proof.Proof.FfnCtx.Sweep
public import proofs.«01_k».proof.Proof.FfnCtx.Reference
public import Idealize.ShloMosaic.Lib.Quiescent

@[expose] public section

set_option maxRecDepth 16384

noncomputable section

namespace Cert.FfnCtx

open Idealize.ShloMosaic Idealize.ShloMosaic.TcCoe Idealize.SL.Sem

/-- The reference runs and leaves its arguments and the counters as they were. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's result is the reference's, element by element. -/
theorem algebraic : Cert.algebraic_Kernel8Ideal_Reference8Ideal := by
  intro m g m' g' _ hagree
  refine ⟨fun c => (Cert.Kernel8Ideal.Gen.dats m 0 c).arrAt 8 Cert.Kernel8Ideal.cfg0.N,
    Cert.Kernel8Ideal.Value.run_blocks (F := Ideal) m g,
    (θ_run Cert.Reference8Ideal.defs _ _).mono (fun r h c => ⟨?_, (h c).2⟩)
      (Cert.Reference8Ideal.Value.run (F := Ideal) m' g')⟩
  obtain ⟨a0, a1, a2, a3, a4, a5⟩ := hagree c
  have e : r.2.mem ((c.tc : Thread Cert.Reference8Ideal.nD Cert.Reference8Ideal.τ).loc Cert.Reference8Ideal.main_v43) =
      Cert.Reference8Ideal.Ffn.result _ _ _ _ _ _ := (h c).1.trans (Cert.Reference8Ideal.Ffn.res_eq m' c)
  refine e.trans ?_
  rw [a0, a1, a2, a3, a4, a5]
  refine Eq.trans ?_ (Cert.Kernel8Ideal.Ffn.final m c).symm
  funext i
  obtain ⟨R, e, rfl⟩ : ∃ (R : Fin 4096) (e : Fin 2048), i = ix2 R e := ⟨i 0, i 1, eq_ix2 i⟩
  exact Cert.Reference8Ideal.Ffn.result_apply _ _ _ _ _ _ R e

end Cert.FfnCtx

end
-- ==== Proof.In.Math.lean ====
/- The element of an input projection of normed and modulated tokens, on extended reals. -/
module

public import proofs.«01_k».proof.Proof.Ffn.Math
public import Idealize.ShloMosaic.PureOps.Ideal
public import Idealize.ShloMosaic.Lib.Pointwise

@[expose] public section

noncomputable section

namespace Cert.In

open Idealize.ShloMosaic
open Cert.Ffn (normMod row width eps)

/-- The normed and modulated row of a token: the scale is the modulation's second part, the shift its first. -/
def tokenRow (x : FVec Ideal ⟨3, ![16, 2048, 2048]⟩ .f32) (md : FVec Ideal ⟨2, ![24, 12288]⟩ .f32) (g : FVec Ideal ⟨1, ![2048]⟩ .f32)
    (b : Fin 16) (s d : Fin 2048) : EReal :=
  normMod width eps (fun j => x (ix3 b s j)) (fun j => g (ix1 j)) (fun j => md (ix2 (row b) ⟨2048 + j, by omega⟩))
    (fun j => md (ix2 (row b) ⟨j, by omega⟩)) d

/-- The result's element at token `R` and column `j`: the token's row times the weights' column. -/
def elem (x : FVec Ideal ⟨3, ![16, 2048, 2048]⟩ .f32) (md : FVec Ideal ⟨2, ![24, 12288]⟩ .f32) (g : FVec Ideal ⟨1, ![2048]⟩ .f32)
    (w : FVec Ideal ⟨3, ![1, 2048, 3072]⟩ .f32) (R : Fin 32768) (j : Fin 3072) : EReal :=
  ∑ d : Fin 2048, tokenRow x md g ⟨R.val / 2048, by omega⟩ ⟨R.val % 2048, by omega⟩ d * w (ix3 0 d j)

end Cert.In
end
-- ==== Proof.In.Points.lean ====
/- What a grid point of the input projection leaves: at a row block's first point the normed rows and their product with the
   first half of the weights' columns, at its second point the product of the kept rows with the second half. -/
module

public import proofs.«01_k».proof.Proof.Ffn.Math
public import proofs.«01_k».proof.Proof.Rows.Filled
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.In

open Cert.Kernel4Ideal Cert.Kernel4Ideal.Gen Idealize.ShloMosaic Idealize.ShloMosaic.TcCoe Idealize.SL.Sem
open Cert.Ffn (normMod width eps)
open Cert.Rows (Filled filled_zero filled_step filled_read)

/-- An element of the normed rows, from a row block and its modulation. -/
def rowOf (x0 : Vec Ideal S1024x2048 .f32) (x1 x2 : Vec Ideal S1x1x2048 .f32) (x3 : Vec Ideal S1x2048 .f32) (r : Fin 1024)
    (d : Fin 2048) : EReal :=
  normMod width eps (fun j => x0 (ix2 r j)) (fun j => x3 (ix2 0 j)) (fun j => x2 (ix3 0 0 j)) (fun j => x1 (ix3 0 0 j)) d

/-- A row times one column of a block of weights. -/
def dotOf (u : Fin 2048 → EReal) (x4 : Vec Ideal S2048x1536 .bf16) (j : Fin 1536) : EReal := ∑ d : Fin 2048, u d * x4 (ix2 d j)

/-- What the body stores for sixteen rows, by its first text. -/
def chunk (G S : Vec Ideal S1x2048 .f32) (X : Vec Ideal S16x2048 .f32) : FVec Ideal S16x2048 .bf16 := k0_pay9 G S X

theorem chunk_apply (x3 : Vec Ideal S1x2048 .f32) (x2 x1 : Vec Ideal S1x1x2048 .f32) (X : Vec Ideal S16x2048 .f32) (r : Fin 16)
    (d : Fin 2048) : chunk (k0_pay3 x3 x2) (k0_pay4 x1) X (ix2 r d) =
      normMod width eps (fun j => X (ix2 r j)) (fun j => x3 (ix2 0 j)) (fun j => x2 (ix3 0 0 j)) (fun j => x1 (ix3 0 0 j)) d := by
  unfold chunk normMod
  pointwise [k0_pay9, k0_pay3, k0_pay4]

/-- The normed rows of one row block. -/
def normed (x0 : Vec Ideal S1024x2048 .f32) (x1 x2 : Vec Ideal S1x1x2048 .f32) (x3 : Vec Ideal S1x2048 .f32) : Vec Ideal S1024x2048 .bf16 :=
  fun y => rowOf x0 x1 x2 x3 (y 0) (y 1)

/-- Sixteen stored rows are rows of the normed ones. -/
theorem chunk_rows (x0 : Vec Ideal S1024x2048 .f32) (x1 x2 : Vec Ideal S1x1x2048 .f32) (x3 : Vec Ideal S1x2048 .f32) (o : ℕ)
    (inb : ∀ a, (![o, 0] : Fin 2 → ℕ) a + (![16, 2048] : Fin 2 → ℕ) a ≤ S1024x2048.size a) (w : FVec Ideal S16x2048 .bf16)
    (hw : w = chunk (k0_pay3 x3 x2) (k0_pay4 x1) (View.ld x0 (Rect.unit ![o, 0] ![16, 2048] inb)))
    (r : Fin 16) (d : Fin 2048) (R : Fin 1024) (hR : (R : ℕ) = o + r) : w (ix2 r d) = normed x0 x1 x2 x3 (ix2 R d) := by
  subst hw
  refine (chunk_apply _ _ _ _ r d).trans ?_
  have hr : ∀ j : Fin 2048, View.ld x0 (Rect.unit ![o, 0] ![16, 2048] inb) (ix2 r j) = x0 (ix2 R j) := fun j =>
    congrArg x0 (funext fun k => by
      fin_cases k
      · exact Fin.ext (show o + 1 * (r : ℕ) = R by omega)
      · exact Fin.ext (show 0 + 1 * (j : ℕ) = j by omega))
  simp only [hr]
  rfl

/-- What the body stores for 256 rows at a first point: their product with the block of weights. -/
def part (u : Vec Ideal S256x2048 .bf16) (x4 : Vec Ideal S2048x1536 .bf16) : FVec Ideal S256x1536 .bf16 := k0_pay32 u x4

theorem part_apply (u : Vec Ideal S256x2048 .bf16) (x4 : Vec Ideal S2048x1536 .bf16) (r : Fin 256) (j : Fin 1536) :
    part u x4 (ix2 r j) = dotOf (fun d => u (ix2 r d)) x4 j := by
  unfold part dotOf
  pointwise [k0_pay32]

/-- What the body stores at a second point. -/
theorem whole_apply (u : Vec Ideal S1024x2048 .bf16) (x4 : Vec Ideal S2048x1536 .bf16) (r : Fin 1024) (j : Fin 1536) :
    k0_pay2 u x4 (ix2 r j) = dotOf (fun d => u (ix2 r d)) x4 j := by
  unfold dotOf
  pointwise [k0_pay2]

/-- The product of all the rows with the block of weights. -/
def products (u : Vec Ideal S1024x2048 .bf16) (x4 : Vec Ideal S2048x1536 .bf16) : Vec Ideal S1024x1536 .bf16 :=
  fun y => dotOf (fun d => u (ix2 (y 0) d)) x4 (y 1)

/-- A product of 256 rows read back from the filled ones. -/
theorem part_rows (U : Vec Ideal S1024x2048 .bf16) (x4 : Vec Ideal S2048x1536 .bf16) (n o : ℕ)
    (inb : ∀ a, (![o, 0] : Fin 2 → ℕ) a + (![256, 2048] : Fin 2 → ℕ) a ≤ S1024x2048.size a) (hn : o + 256 ≤ 16 * n)
    {κ : Kind} {sp : Space} (v : View sig κ sp S1024x2048 .bf16)
    (L : List (View.Piece (Elt Ideal) S1024x2048 .bf16)) (hL : Filled 16 U n L) (w : FVec Ideal S256x1536 .bf16)
    (hw : w = part (v.readCov L (Rect.unit (s := S1024x2048) ![o, 0] ![256, 2048] inb).toLoadRect) x4)
    (r : Fin 256) (j : Fin 1536) (R : Fin 1024) (hR : (R : ℕ) = o + r) : w (ix2 r j) = products U x4 (ix2 R j) := by
  subst hw
  refine (part_apply _ _ r j).trans ?_
  rw [View.readCov_eq_canon']
  exact congrArg (fun u => dotOf u x4 j) (funext fun d => filled_read 16 U n 256 o inb hn L hL r d R hR)

variable (m : (ℓ : Loc nD τ sig) → Buf (Elt Ideal) ℓ) (c : Dev nD) (t : Fin cfg0.N)

/-- At a row block's first point: the normed rows. -/
theorem caseA_scratch (h0 : t.val % 2 = 0) (h1 : ¬t.val % 2 = 1) (r : Fin 1024) (d : Fin 2048) :
    (outsAt0 m c t.val t.isLt).2 (ix2 r d) = rowOf (iblk m c 0 t) (iblk m c 1 t) (iblk m c 2 t) (iblk m c 3 t) r d := by
  rw [outsAt0_A m c t h0 h1]
  frame_out
  have key : ∀ L, Filled 16 (normed (iblk m c 0 t) (iblk m c 1 t) (iblk m c 2 t) (iblk m c 3 t)) 64 L →
      View.canon L (ix2 r d) = rowOf (iblk m c 0 t) (iblk m c 1 t) (iblk m c 2 t) (iblk m c 3 t) r d :=
    fun L h => h r d r.isLt
  refine key _ ?_
  iterate 64 refine filled_step _ _ _ _ rfl _ _ (chunk_rows _ _ _ _ _ _ _ rfl) _ ?_
  exact filled_zero _ _ _

/-- At a row block's first point: the normed rows' product with the block of weights. -/
theorem caseA (h0 : t.val % 2 = 0) (h1 : ¬t.val % 2 = 1) (r : Fin 1024) (j : Fin 1536) :
    (outsAt0 m c t.val t.isLt).1 (ix2 r j) =
      dotOf (rowOf (iblk m c 0 t) (iblk m c 1 t) (iblk m c 2 t) (iblk m c 3 t) r) (iblk m c 4 t) j := by
  rw [outsAt0_A m c t h0 h1]
  frame_out
  have key : ∀ L, Filled 256 (products (normed (iblk m c 0 t) (iblk m c 1 t) (iblk m c 2 t) (iblk m c 3 t)) (iblk m c 4 t)) 4 L →
      View.canon L (ix2 r j) = dotOf (rowOf (iblk m c 0 t) (iblk m c 1 t) (iblk m c 2 t) (iblk m c 3 t) r) (iblk m c 4 t) j :=
    fun L h => h r j r.isLt
  refine key _ ?_
  refine filled_step _ _ _ _ rfl _ _ (part_rows _ _ 64 _ _ (by decide) _ _ ?_ _ rfl) _ ?_
  · iterate 64 refine filled_step _ _ _ _ rfl _ _ (chunk_rows _ _ _ _ _ _ _ rfl) _ ?_
    exact filled_zero _ _ _
  refine filled_step _ _ _ _ rfl _ _ (part_rows _ _ 48 _ _ (by decide) _ _ ?_ _ rfl) _ ?_
  · iterate 48 refine filled_step _ _ _ _ rfl _ _ (chunk_rows _ _ _ _ _ _ _ rfl) _ ?_
    exact filled_zero _ _ _
  refine filled_step _ _ _ _ rfl _ _ (part_rows _ _ 32 _ _ (by decide) _ _ ?_ _ rfl) _ ?_
  · iterate 32 refine filled_step _ _ _ _ rfl _ _ (chunk_rows _ _ _ _ _ _ _ rfl) _ ?_
    exact filled_zero _ _ _
  refine filled_step _ _ _ _ rfl _ _ (part_rows _ _ 16 _ _ (by decide) _ _ ?_ _ rfl) _ ?_
  · iterate 16 refine filled_step _ _ _ _ rfl _ _ (chunk_rows _ _ _ _ _ _ _ rfl) _ ?_
    exact filled_zero _ _ _
  exact filled_zero _ _ _

/-- At a row block's second point: the product of the rows that the point before left. -/
theorem caseB (h0 : ¬t.val % 2 = 0) (h1 : t.val % 2 = 1) (r : Fin 1024) (j : Fin 1536) :
    (outsAt0 m c t.val t.isLt).1 (ix2 r j) =
      dotOf (fun d => (outsAt0 m c (t.val - 1) (by omega)).2 (ix2 r d)) (iblk m c 4 t) j := by
  rw [outsAt0_B m c t h0 h1]
  refine Eq.trans ?_ (whole_apply _ _ r j)
  frame_out
  simp only [read_unread_whole]

end Cert.Kernel4Ideal.In
end
-- ==== Proof.In.Blocks.lean ====
/- The input projection's input blocks at a grid point, read off the arguments. Point `t` works on the row block `t / 2` and
   on the half `t % 2` of the weights' columns. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Kernel4Ideal.In

open Cert.Kernel4Ideal Cert.Kernel4Ideal.Gen Idealize.ShloMosaic Idealize.ShloMosaic.TcCoe Idealize.SL.Sem

/-- The windows' block indices, from the grid point's number. -/
theorem idx : ∀ t : Fin cfg0.N,
    win0_0.index t = ![t.val / 2, 0] ∧ win0_1.index t = ![t.val / 4 * 6, 0, 0] ∧ win0_2.index t = ![t.val / 4 * 6 + 1, 0, 0]
    ∧ win0_3.index t = ![0, 0] ∧ win0_4.index t = ![0, t.val % 2] ∧ win0_5.index t = ![t.val / 2, t.val % 2] :=
  (by decide +kernel : ∀ t : Fin grid0.N,
    win0_0.index t = ![t.val / 2, 0] ∧ win0_1.index t = ![t.val / 4 * 6, 0, 0] ∧ win0_2.index t = ![t.val / 4 * 6 + 1, 0, 0]
    ∧ win0_3.index t = ![0, 0] ∧ win0_4.index t = ![0, t.val % 2] ∧ win0_5.index t = ![t.val / 2, t.val % 2])

theorem lt_N (t : Fin cfg0.N) : t.val < 64 := lt_of_lt_of_eq t.isLt (show cfg0.N = 64 from N_0)

variable (m : (ℓ : Loc nD τ sig) → Buf (Elt Ideal) ℓ) (c : Dev nD) (t : Fin cfg0.N)

/-- The input's rows. -/
theorem blk_x (r : Fin 1024) (d : Fin 2048) :
    iblk m c 0 t (ix2 r d) = m ((c : Thread nD τ).loc main_arg0)
      (ix3 ⟨t.val / 4, by have := lt_N t; omega⟩ ⟨t.val / 2 % 2 * 1024 + r, by omega⟩ d) := by
  have := lt_N t
  blk_ext! [iblk, V, idx t]

/-- The shift row. -/
theorem blk_shift (d : Fin 2048) :
    iblk m c 1 t (ix3 0 0 d) = m ((c : Thread nD τ).loc main_arg1) (ix2 ⟨t.val / 4, by have := lt_N t; omega⟩ ⟨d, by omega⟩) := by
  have := lt_N t
  blk_ext! [iblk, V, idx t]

/-- The scale row. -/
theorem blk_scale (d : Fin 2048) :
    iblk m c 2 t (ix3 0 0 d) = m ((c : Thread nD τ).loc main_arg1)
      (ix2 ⟨t.val / 4, by have := lt_N t; omega⟩ ⟨2048 + d, by omega⟩) := by
  have := lt_N t
  blk_ext! [iblk, V, idx t]

/-- The norm's gain. -/
theorem blk_gain (d : Fin 2048) : iblk m c 3 t (ix2 0 d) = m ((c : Thread nD τ).loc main_arg2) (ix1 d) := by
  blk_ext! [iblk, V, idx t]

/-- The weights' columns. -/
theorem blk_w (d : Fin 2048) (j : Fin 1536) :
    iblk m c 4 t (ix2 d j) = m ((c : Thread nD τ).loc main_arg3) (ix3 0 d ⟨t.val % 2 * 1536 + j, by omega⟩) := by
  blk_ext! [iblk, V, idx t]

end Cert.Kernel4Ideal.In
end
-- ==== Proof.In.Kernel.lean ====
/- What the input projection leaves in its result array, element by element. -/
module

public import proofs.«01_k».proof.Proof.In.Math
public import proofs.«01_k».proof.Proof.In.Points
public import proofs.«01_k».proof.Proof.In.Blocks
public import Idealize.ShloMosaic.Lib.Pipeline.ValueKit
public import Idealize.ShloMosaic.Lib.Pointwise

@[expose] public section

set_option maxRecDepth 16384

noncomputable section

namespace Cert.Kernel4Ideal.In

open Cert.Kernel4Ideal Cert.Kernel4Ideal.Gen Idealize.ShloMosaic Idealize.ShloMosaic.TcCoe Idealize.SL.Sem
open Cert.Ffn (row)
open Cert.In (tokenRow elem)

variable (m : (ℓ : Loc nD τ sig) → Buf (Elt Ideal) ℓ) (c : Dev nD)

/-- The normed row of token `R`. -/
def argRow (R : Fin 32768) (d : Fin 2048) : EReal :=
  tokenRow (m ((c : Thread nD τ).loc main_arg0)) (m ((c : Thread nD τ).loc main_arg1)) (m ((c : Thread nD τ).loc main_arg2))
    ⟨R.val / 2048, by omega⟩ ⟨R.val % 2048, by omega⟩ d

/-- A grid point's normed rows, read off the arguments. -/
theorem rowOf_blk (t : Fin cfg0.N) (r : Fin 1024) (R : Fin 32768) (hR : (R : ℕ) = t.val / 2 * 1024 + r) :
    rowOf (iblk m c 0 t) (iblk m c 1 t) (iblk m c 2 t) (iblk m c 3 t) r = argRow m c R := by
  have hq : (R : ℕ) / 2048 = t.val / 4 := by omega
  have hr : (R : ℕ) % 2048 = t.val / 2 % 2 * 1024 + r := by omega
  funext d
  unfold rowOf argRow tokenRow
  congr 1
  · funext j; refine (blk_x m c t r j).trans ?_; simp only [hq, hr]
  · funext j; exact blk_gain m c t j
  · funext j; refine (blk_scale m c t j).trans ?_; simp only [row, hq]
  · funext j; refine (blk_shift m c t j).trans ?_; simp only [row, hq]

/-- A row's product with a grid point's block of weights, read off the arguments. -/
theorem dotOf_blk (t : Fin cfg0.N) (R : Fin 32768) (j : Fin 1536) (J : Fin 3072) (hJ : (J : ℕ) = t.val % 2 * 1536 + j) :
    dotOf (argRow m c R) (iblk m c 4 t) j =
      elem (m ((c : Thread nD τ).loc main_arg0)) (m ((c : Thread nD τ).loc main_arg1)) (m ((c : Thread nD τ).loc main_arg2))
        (m ((c : Thread nD τ).loc main_arg3)) R J := by
  have e : J = ⟨t.val % 2 * 1536 + j, by omega⟩ := Fin.ext hJ
  rw [e]
  exact Finset.sum_congr rfl fun d _ => congrArg₂ (· * ·) rfl (blk_w m c t d j)

/-- What a grid point stores, read off the arguments. -/
theorem point (t : Fin cfg0.N) (r : Fin 1024) (j : Fin 1536) (R : Fin 32768) (hR : (R : ℕ) = t.val / 2 * 1024 + r)
    (J : Fin 3072) (hJ : (J : ℕ) = t.val % 2 * 1536 + j) :
    (outsAt0 m c t.val t.isLt).1 (ix2 r j) =
      elem (m ((c : Thread nD τ).loc main_arg0)) (m ((c : Thread nD τ).loc main_arg1)) (m ((c : Thread nD τ).loc main_arg2))
        (m ((c : Thread nD τ).loc main_arg3)) R J := by
  by_cases h0 : t.val % 2 = 0
  · refine (caseA m c t h0 (by omega) r j).trans ?_
    rw [rowOf_blk m c t r R hR]
    exact dotOf_blk m c t R j J hJ
  · refine (caseB m c t h0 (by omega) r j).trans ?_
    have hN : t.val - 1 < cfg0.N := by have := t.isLt; omega
    have hp : (t.val - 1) % 2 = 0 := by omega
    have hrow : (fun d => (outsAt0 m c (t.val - 1) hN).2 (ix2 r d)) = argRow m c R :=
      (funext fun d => caseA_scratch m c ⟨t.val - 1, hN⟩ hp (by show ¬(t.val - 1) % 2 = 1; omega) r d).trans
        (rowOf_blk m c ⟨t.val - 1, hN⟩ r R (by show (R : ℕ) = (t.val - 1) / 2 * 1024 + r; omega))
    exact (congrArg (fun u => dotOf u (iblk m c 4 t) j) hrow).trans (dotOf_blk m c t R j J hJ)

/-- The kernel's result array, element by element. -/
theorem final : (dats m 0 c).arrAt 5 cfg0.N = fun i : S32768x3072.Idx =>
      elem (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 5 _ (by decide +kernel) fun t hf y => ?_
  blk_simp
  rw [after0_5]
  obtain ⟨r, j, rfl⟩ : ∃ (r : Fin 1024) (j : Fin 1536), y = ix2 r j := ⟨y 0, y 1, eq_ix2 y⟩
  have e0 : win0_5.index t 0 = t.val / 2 := congrFun (idx t).2.2.2.2.2 0
  have e1 : win0_5.index t 1 = t.val % 2 := congrFun (idx t).2.2.2.2.2 1
  refine point m c t r j ((win0_5.blk t).view.emb (ix2 r j) 0) ?_ ((win0_5.blk t).view.emb (ix2 r j) 1) ?_
  · show win0_5.index t 0 * 1024 + 1 * r.val = t.val / 2 * 1024 + r.val
    rw [e0]; omega
  · show win0_5.index t 1 * 1536 + 1 * j.val = t.val % 2 * 1536 + j.val
    rw [e1]; omega

end Cert.Kernel4Ideal.In
end
-- ==== Proof.In.Reference.lean ====
/- The reference input projection's result, element by element. -/
module

public import proofs.«01_k».proof.Proof.Gen.Reference4Ideal.Run
public import proofs.«01_k».proof.Proof.In.Math
public import Idealize.ShloMosaic.Lib.Pipeline.ValueKit
public import Idealize.ShloMosaic.Lib.Pointwise

@[expose] public section

set_option maxRecDepth 16384

noncomputable section

namespace Cert.Reference4Ideal.In

open Cert.Reference4Ideal Cert.Reference4Ideal.Gen Idealize.ShloMosaic Idealize.ShloMosaic.TcCoe Idealize.SL.Sem
open Cert.Ffn (normMod row)
open Cert.In (tokenRow elem)

/-- The normed and modulated tokens. -/
def normed (x : FVec Ideal S16x2048x2048 .f32) (md : FVec Ideal S24x12288 .f32) (g : FVec Ideal S2048 .f32) : FVec Ideal S16x2048x2048 .f32 :=
  addf (mulf (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (extractStridedSlice S16x2048 ![0, 2048] (extractStridedSlice S16x12288 ![0, 0] md slices_S24x12288_S16x12288_0_0) slices_S16x12288_S16x2048_0_2048))))) (broadcastInDim S16x2048x2048 ![0, 1, 2] bcast_S16x1x2048_S16x2048x2048_0_1_2 (broadcastInDim S16x1x2048 ![0, 2] bcast_S16x2048_S16x1x2048_0_2 (extractStridedSlice S16x2048 ![0, 0] (extractStridedSlice S16x12288 ![0, 0] md slices_S24x12288_S16x12288_0_0) slices_S16x12288_S16x2048_0_0)))

/-- The product of the tokens with the input weights. -/
def product (u : FVec Ideal S16x2048x2048 .f32) (w : FVec Ideal S1x2048x3072 .f32) : FVec Ideal S32768x3072 .bf16 :=
  truncf .bf16 (Host.dotGeneral dot_S32768x2048_S2048x3072_S32768x3072_1_0_0_1_n_n none (shapeCast _ u shapeCasts_S16x2048x2048_S32768x2048)
    (shapeCast _ w shapeCasts_S1x2048x3072_S2048x3072)) bitsLt_bf16_f32

theorem normed_apply (x : FVec Ideal S16x2048x2048 .f32) (md : FVec Ideal S24x12288 .f32) (g : FVec Ideal S2048 .f32) (b : Fin 16)
    (s d : Fin 2048) : normed x md g (ix3 b s d) = tokenRow x md g b s d := by
  unfold tokenRow normMod
  rw [← mul_assoc]
  pointwise [normed]

theorem product_apply (u : FVec Ideal S16x2048x2048 .f32) (w : FVec Ideal S1x2048x3072 .f32) (R : Fin 32768) (j : Fin 3072) :
    product u w (ix2 R j) = ∑ d : Fin 2048, u (ix3 ⟨R.val / 2048, by omega⟩ ⟨R.val % 2048, by omega⟩ d) * w (ix3 0 d j) := by
  pointwise [product]

/-- The reference's result from its arguments. -/
def result (x : FVec Ideal S16x2048x2048 .f32) (md : FVec Ideal S24x12288 .f32) (g : FVec Ideal S2048 .f32)
    (w : FVec Ideal S1x2048x3072 .f32) : FVec Ideal S32768x3072 .bf16 :=
  product (normed x md g) w

theorem result_apply (x : FVec Ideal S16x2048x2048 .f32) (md : FVec Ideal S24x12288 .f32) (g : FVec Ideal S2048 .f32)
    (w : FVec Ideal S1x2048x3072 .f32) (R : Fin 32768) (j : Fin 3072) : result x md g w (ix2 R j) = elem x md g w R j := by
  unfold result elem
  rw [product_apply]
  simp only [normed_apply]

end Cert.Reference4Ideal.In
end
-- ==== Proof.In.Claim.lean ====
/- The claim of the input projection: its result is the product of the normed and modulated tokens with the input weights, for
   all extended reals. -/
module

public import proofs.«01_k».proof.Defs
public import proofs.«01_k».proof.Proof.In.Kernel
public import proofs.«01_k».proof.Proof.In.Reference
public import Idealize.ShloMosaic.Lib.Quiescent

@[expose] public section

set_option maxRecDepth 16384

noncomputable section

namespace Cert.In

open Idealize.ShloMosaic Idealize.ShloMosaic.TcCoe Idealize.SL.Sem

/-- The reference runs and leaves its arguments and the counters as they were. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's, element by element. -/
theorem algebraic : Cert.algebraic_Kernel4Ideal_Reference4Ideal := by
  intro m g m' g' _ hagree
  refine ⟨fun c => (Cert.Kernel4Ideal.Gen.dats m 0 c).arrAt 5 Cert.Kernel4Ideal.cfg0.N,
    Cert.Kernel4Ideal.Value.run_blocks (F := Ideal) m g,
    (θ_run Cert.Reference4Ideal.defs _ _).mono (fun r h c => ⟨?_, (h c).2⟩)
      (Cert.Reference4Ideal.Value.run (F := Ideal) m' g')⟩
  obtain ⟨a0, a1, a2, a3⟩ := hagree c
  have e : r.2.mem ((c.tc : Thread Cert.Reference4Ideal.nD Cert.Reference4Ideal.τ).loc Cert.Reference4Ideal.main_v35) =
      Cert.Reference4Ideal.In.result _ _ _ _ := (h c).1
  refine e.trans ?_
  rw [a0, a1, a2, a3]
  refine Eq.trans ?_ (Cert.Kernel4Ideal.In.final m c).symm
  funext i
  obtain ⟨R, e, rfl⟩ : ∃ (R : Fin 32768) (e : Fin 3072), i = ix2 R e := ⟨i 0, i 1, eq_ix2 i⟩
  exact Cert.Reference4Ideal.In.result_apply _ _ _ _ R e

end Cert.In

end
-- ==== Proof.InEven.Math.lean ====
/- The element of the even layer's input projection, whose result has the weights' columns in another order. -/
module

public import proofs.«01_k».proof.Proof.In.Math
public import Idealize.ShloMosaic.PureOps.Ideal
public import Idealize.ShloMosaic.Lib.Pointwise

@[expose] public section

noncomputable section

namespace Cert.InEven

open Idealize.ShloMosaic
open Cert.In (tokenRow)

/-- The weights' column behind the result's column `J`: the convolution's columns come first, then the attention's 832, then zeros. -/
def column (w : FVec Ideal ⟨3, ![1, 2048, 2880]⟩ .f32) (d : Fin 2048) (J : Fin 3072) : EReal :=
  if h : (J : ℕ) < 2048 then w (ix3 0 d ⟨832 + J, by omega⟩)
  else if h' : (J : ℕ) - 2048 < 832 then w (ix3 0 d ⟨J - 2048, by omega⟩) else 0

/-- The result's element at token `R` and column `J`. -/
def elem (x : FVec Ideal ⟨3, ![16, 2048, 2048]⟩ .f32) (md : FVec Ideal ⟨2, ![24, 12288]⟩ .f32) (g : FVec Ideal ⟨1, ![2048]⟩ .f32)
    (w : FVec Ideal ⟨3, ![1, 2048, 2880]⟩ .f32) (R : Fin 32768) (J : Fin 3072) : EReal :=
  ∑ d : Fin 2048, tokenRow x md g ⟨R.val / 2048, by omega⟩ ⟨R.val % 2048, by omega⟩ d * column w d J

end Cert.InEven
end
-- ==== Proof.InEven.Points.lean ====
/- What a grid point of the even layer's input projection leaves: at a row block's first point the normed rows and their product with the
   first half of the weights' columns, at its second point the product of the kept rows with the second half. -/
module

public import proofs.«01_k».proof.Proof.Ffn.Math
public import proofs.«01_k».proof.Proof.Rows.Filled
public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.In

open Cert.Kernel7Ideal Cert.Kernel7Ideal.Gen Idealize.ShloMosaic Idealize.ShloMosaic.TcCoe Idealize.SL.Sem
open Cert.Ffn (normMod width eps)
open Cert.Rows (Filled filled_zero filled_step filled_read)

/-- An element of the normed rows, from a row block and its modulation. -/
def rowOf (x0 : Vec Ideal S1024x2048 .f32) (x1 x2 : Vec Ideal S1x1x2048 .f32) (x3 : Vec Ideal S1x2048 .f32) (r : Fin 1024)
    (d : Fin 2048) : EReal :=
  normMod width eps (fun j => x0 (ix2 r j)) (fun j => x3 (ix2 0 j)) (fun j => x2 (ix3 0 0 j)) (fun j => x1 (ix3 0 0 j)) d

/-- A row times one column of a block of weights. -/
def dotOf (u : Fin 2048 → EReal) (x4 : Vec Ideal S2048x1536 .bf16) (j : Fin 1536) : EReal := ∑ d : Fin 2048, u d * x4 (ix2 d j)

/-- What the body stores for sixteen rows, by its first text. -/
def chunk (G S : Vec Ideal S1x2048 .f32) (X : Vec Ideal S16x2048 .f32) : FVec Ideal S16x2048 .bf16 := k0_pay9 G S X

theorem chunk_apply (x3 : Vec Ideal S1x2048 .f32) (x2 x1 : Vec Ideal S1x1x2048 .f32) (X : Vec Ideal S16x2048 .f32) (r : Fin 16)
    (d : Fin 2048) : chunk (k0_pay3 x3 x2) (k0_pay4 x1) X (ix2 r d) =
      normMod width eps (fun j => X (ix2 r j)) (fun j => x3 (ix2 0 j)) (fun j => x2 (ix3 0 0 j)) (fun j => x1 (ix3 0 0 j)) d := by
  unfold chunk normMod
  pointwise [k0_pay9, k0_pay3, k0_pay4]

/-- The normed rows of one row block. -/
def normed (x0 : Vec Ideal S1024x2048 .f32) (x1 x2 : Vec Ideal S1x1x2048 .f32) (x3 : Vec Ideal S1x2048 .f32) : Vec Ideal S1024x2048 .bf16 :=
  fun y => rowOf x0 x1 x2 x3 (y 0) (y 1)

/-- Sixteen stored rows are rows of the normed ones. -/
theorem chunk_rows (x0 : Vec Ideal S1024x2048 .f32) (x1 x2 : Vec Ideal S1x1x2048 .f32) (x3 : Vec Ideal S1x2048 .f32) (o : ℕ)
    (inb : ∀ a, (![o, 0] : Fin 2 → ℕ) a + (![16, 2048] : Fin 2 → ℕ) a ≤ S1024x2048.size a) (w : FVec Ideal S16x2048 .bf16)
    (hw : w = chunk (k0_pay3 x3 x2) (k0_pay4 x1) (View.ld x0 (Rect.unit ![o, 0] ![16, 2048] inb)))
    (r : Fin 16) (d : Fin 2048) (R : Fin 1024) (hR : (R : ℕ) = o + r) : w (ix2 r d) = normed x0 x1 x2 x3 (ix2 R d) := by
  subst hw
  refine (chunk_apply _ _ _ _ r d).trans ?_
  have hr : ∀ j : Fin 2048, View.ld x0 (Rect.unit ![o, 0] ![16, 2048] inb) (ix2 r j) = x0 (ix2 R j) := fun j =>
    congrArg x0 (funext fun k => by
      fin_cases k
      · exact Fin.ext (show o + 1 * (r : ℕ) = R by omega)
      · exact Fin.ext (show 0 + 1 * (j : ℕ) = j by omega))
  simp only [hr]
  rfl

/-- What the body stores for 256 rows at a first point: their product with the block of weights. -/
def part (u : Vec Ideal S256x2048 .bf16) (x4 : Vec Ideal S2048x1536 .bf16) : FVec Ideal S256x1536 .bf16 := k0_pay32 u x4

theorem part_apply (u : Vec Ideal S256x2048 .bf16) (x4 : Vec Ideal S2048x1536 .bf16) (r : Fin 256) (j : Fin 1536) :
    part u x4 (ix2 r j) = dotOf (fun d => u (ix2 r d)) x4 j := by
  unfold part dotOf
  pointwise [k0_pay32]

/-- What the body stores at a second point. -/
theorem whole_apply (u : Vec Ideal S1024x2048 .bf16) (x4 : Vec Ideal S2048x1536 .bf16) (r : Fin 1024) (j : Fin 1536) :
    k0_pay2 u x4 (ix2 r j) = dotOf (fun d => u (ix2 r d)) x4 j := by
  unfold dotOf
  pointwise [k0_pay2]

/-- The product of all the rows with the block of weights. -/
def products (u : Vec Ideal S1024x2048 .bf16) (x4 : Vec Ideal S2048x1536 .bf16) : Vec Ideal S1024x1536 .bf16 :=
  fun y => dotOf (fun d => u (ix2 (y 0) d)) x4 (y 1)

/-- A product of 256 rows read back from the filled ones. -/
theorem part_rows (U : Vec Ideal S1024x2048 .bf16) (x4 : Vec Ideal S2048x1536 .bf16) (n o : ℕ)
    (inb : ∀ a, (![o, 0] : Fin 2 → ℕ) a + (![256, 2048] : Fin 2 → ℕ) a ≤ S1024x2048.size a) (hn : o + 256 ≤ 16 * n)
    {κ : Kind} {sp : Space} (v : View sig κ sp S1024x2048 .bf16)
    (L : List (View.Piece (Elt Ideal) S1024x2048 .bf16)) (hL : Filled 16 U n L) (w : FVec Ideal S256x1536 .bf16)
    (hw : w = part (v.readCov L (Rect.unit (s := S1024x2048) ![o, 0] ![256, 2048] inb).toLoadRect) x4)
    (r : Fin 256) (j : Fin 1536) (R : Fin 1024) (hR : (R : ℕ) = o + r) : w (ix2 r j) = products U x4 (ix2 R j) := by
  subst hw
  refine (part_apply _ _ r j).trans ?_
  rw [View.readCov_eq_canon']
  exact congrArg (fun u => dotOf u x4 j) (funext fun d => filled_read 16 U n 256 o inb hn L hL r d R hR)

variable (m : (ℓ : Loc nD τ sig) → Buf (Elt Ideal) ℓ) (c : Dev nD) (t : Fin cfg0.N)

/-- At a row block's first point: the normed rows. -/
theorem caseA_scratch (h0 : t.val % 2 = 0) (h1 : ¬t.val % 2 = 1) (r : Fin 1024) (d : Fin 2048) :
    (outsAt0 m c t.val t.isLt).2 (ix2 r d) = rowOf (iblk m c 0 t) (iblk m c 1 t) (iblk m c 2 t) (iblk m c 3 t) r d := by
  rw [outsAt0_A m c t h0 h1]
  frame_out
  have key : ∀ L, Filled 16 (normed (iblk m c 0 t) (iblk m c 1 t) (iblk m c 2 t) (iblk m c 3 t)) 64 L →
      View.canon L (ix2 r d) = rowOf (iblk m c 0 t) (iblk m c 1 t) (iblk m c 2 t) (iblk m c 3 t) r d :=
    fun L h => h r d r.isLt
  refine key _ ?_
  iterate 64 refine filled_step _ _ _ _ rfl _ _ (chunk_rows _ _ _ _ _ _ _ rfl) _ ?_
  exact filled_zero _ _ _

/-- At a row block's first point: the normed rows' product with the block of weights. -/
theorem caseA (h0 : t.val % 2 = 0) (h1 : ¬t.val % 2 = 1) (r : Fin 1024) (j : Fin 1536) :
    (outsAt0 m c t.val t.isLt).1 (ix2 r j) =
      dotOf (rowOf (iblk m c 0 t) (iblk m c 1 t) (iblk m c 2 t) (iblk m c 3 t) r) (iblk m c 4 t) j := by
  rw [outsAt0_A m c t h0 h1]
  frame_out
  have key : ∀ L, Filled 256 (products (normed (iblk m c 0 t) (iblk m c 1 t) (iblk m c 2 t) (iblk m c 3 t)) (iblk m c 4 t)) 4 L →
      View.canon L (ix2 r j) = dotOf (rowOf (iblk m c 0 t) (iblk m c 1 t) (iblk m c 2 t) (iblk m c 3 t) r) (iblk m c 4 t) j :=
    fun L h => h r j r.isLt
  refine key _ ?_
  refine filled_step _ _ _ _ rfl _ _ (part_rows _ _ 64 _ _ (by decide) _ _ ?_ _ rfl) _ ?_
  · iterate 64 refine filled_step _ _ _ _ rfl _ _ (chunk_rows _ _ _ _ _ _ _ rfl) _ ?_
    exact filled_zero _ _ _
  refine filled_step _ _ _ _ rfl _ _ (part_rows _ _ 48 _ _ (by decide) _ _ ?_ _ rfl) _ ?_
  · iterate 48 refine filled_step _ _ _ _ rfl _ _ (chunk_rows _ _ _ _ _ _ _ rfl) _ ?_
    exact filled_zero _ _ _
  refine filled_step _ _ _ _ rfl _ _ (part_rows _ _ 32 _ _ (by decide) _ _ ?_ _ rfl) _ ?_
  · iterate 32 refine filled_step _ _ _ _ rfl _ _ (chunk_rows _ _ _ _ _ _ _ rfl) _ ?_
    exact filled_zero _ _ _
  refine filled_step _ _ _ _ rfl _ _ (part_rows _ _ 16 _ _ (by decide) _ _ ?_ _ rfl) _ ?_
  · iterate 16 refine filled_step _ _ _ _ rfl _ _ (chunk_rows _ _ _ _ _ _ _ rfl) _ ?_
    exact filled_zero _ _ _
  exact filled_zero _ _ _

/-- At a row block's second point: the product of the rows that the point before left. -/
theorem caseB (h0 : ¬t.val % 2 = 0) (h1 : t.val % 2 = 1) (r : Fin 1024) (j : Fin 1536) :
    (outsAt0 m c t.val t.isLt).1 (ix2 r j) =
      dotOf (fun d => (outsAt0 m c (t.val - 1) (by omega)).2 (ix2 r d)) (iblk m c 4 t) j := by
  rw [outsAt0_B m c t h0 h1]
  refine Eq.trans ?_ (whole_apply _ _ r j)
  frame_out
  simp only [read_unread_whole]

end Cert.Kernel7Ideal.In
end
-- ==== Proof.InEven.Blocks.lean ====
/- The even layer's input projection's input blocks at a grid point, read off the arguments. Point `t` works on the row block `t / 2` and
   on the half `t % 2` of the weights' columns. -/
module

public import proofs.«01_k».proof.Proof.InEven.Math
public import proofs.«01_k».proof.Proof.Gen.Kernel7Ideal.Value
public import Idealize.ShloMosaic.Lib.Pipeline.ValueKit
public import Idealize.ShloMosaic.Lib.Pointwise

@[expose] public section

set_option maxRecDepth 16384

noncomputable section

namespace Cert.Kernel7Ideal.In

open Cert.InEven (column)
open Cert.Kernel7Ideal Cert.Kernel7Ideal.Gen Idealize.ShloMosaic Idealize.ShloMosaic.TcCoe Idealize.SL.Sem

/-- The windows' block indices, from the grid point's number. -/
theorem idx : ∀ t : Fin cfg0.N,
    win0_0.index t = ![t.val / 2, 0] ∧ win0_1.index t = ![t.val / 4 * 6, 0, 0] ∧ win0_2.index t = ![t.val / 4 * 6 + 1, 0, 0]
    ∧ win0_3.index t = ![0, 0] ∧ win0_4.index t = ![0, t.val % 2] ∧ win0_5.index t = ![t.val / 2, t.val % 2] :=
  (by decide +kernel : ∀ t : Fin grid0.N,
    win0_0.index t = ![t.val / 2, 0] ∧ win0_1.index t = ![t.val / 4 * 6, 0, 0] ∧ win0_2.index t = ![t.val / 4 * 6 + 1, 0, 0]
    ∧ win0_3.index t = ![0, 0] ∧ win0_4.index t = ![0, t.val % 2] ∧ win0_5.index t = ![t.val / 2, t.val % 2])

theorem lt_N (t : Fin cfg0.N) : t.val < 64 := lt_of_lt_of_eq t.isLt (show cfg0.N = 64 from N_0)

variable (m : (ℓ : Loc nD τ sig) → Buf (Elt Ideal) ℓ) (c : Dev nD) (t : Fin cfg0.N)

/-- The input's rows. -/
theorem blk_x (r : Fin 1024) (d : Fin 2048) :
    iblk m c 0 t (ix2 r d) = m ((c : Thread nD τ).loc main_arg0)
      (ix3 ⟨t.val / 4, by have := lt_N t; omega⟩ ⟨t.val / 2 % 2 * 1024 + r, by omega⟩ d) := by
  have := lt_N t
  blk_ext! [iblk, V, idx t]

/-- The shift row. -/
theorem blk_shift (d : Fin 2048) :
    iblk m c 1 t (ix3 0 0 d) = m ((c : Thread nD τ).loc main_arg1) (ix2 ⟨t.val / 4, by have := lt_N t; omega⟩ ⟨d, by omega⟩) := by
  have := lt_N t
  blk_ext! [iblk, V, idx t]

/-- The scale row. -/
theorem blk_scale (d : Fin 2048) :
    iblk m c 2 t (ix3 0 0 d) = m ((c : Thread nD τ).loc main_arg1)
      (ix2 ⟨t.val / 4, by have := lt_N t; omega⟩ ⟨2048 + d, by omega⟩) := by
  have := lt_N t
  blk_ext! [iblk, V, idx t]

/-- The norm's gain. -/
theorem blk_gain (d : Fin 2048) : iblk m c 3 t (ix2 0 d) = m ((c : Thread nD τ).loc main_arg2) (ix1 d) := by
  blk_ext! [iblk, V, idx t]

/-- The weights as the call takes them: the columns in their new order, and the zeros. -/
def hostW (w : FVec Ideal S1x2048x2880 .f32) : FVec Ideal S2048x3072 .bf16 :=
  truncf .bf16 (concatenate S2048x3072 1 [
    ⟨S2048x2048, extractStridedSlice S2048x2048 ![0, 832] (shapeCast S2048x2880 w shapeCasts_S1x2048x2880_S2048x2880) slices_S2048x2880_S2048x2048_0_832⟩,
    ⟨S2048x832, extractStridedSlice S2048x832 ![0, 0] (shapeCast S2048x2880 w shapeCasts_S1x2048x2880_S2048x2880) slices_S2048x2880_S2048x832_0_0⟩,
    ⟨S2048x192, broadcastInDim S2048x192 ![] bcast_S_S2048x192 (constant (F := Ideal) S_ .f32 0x00000000#32)⟩]
    concatenates_S2048x2048_S2048x832_S2048x192_S2048x3072_d1) bitsLt_bf16_f32

theorem hostW_apply (w : FVec Ideal S1x2048x2880 .f32) (d : Fin 2048) (J : Fin 3072) : hostW w (ix2 d J) = column w d J := by
  unfold column
  pointwise [hostW]

/-- The weights' columns. -/
theorem blk_w (d : Fin 2048) (j : Fin 1536) (J : Fin 3072) (hJ : (J : ℕ) = t.val % 2 * 1536 + j) :
    iblk m c 4 t (ix2 d j) = column (m ((c : Thread nD τ).loc main_arg3)) d J := by
  rw [← hostW_apply]
  show hostW (m ((c : Thread nD τ).loc main_arg3)) ((win0_4.blk t).view.emb (ix2 d j)) = _
  refine congrArg _ (funext fun k => Fin.ext ?_)
  fin_cases k
  · show win0_4.index t 0 * 2048 + 1 * d.val = d.val
    rw [show win0_4.index t 0 = 0 from congrFun (idx t).2.2.2.2.1 0]; omega
  · show win0_4.index t 1 * 1536 + 1 * j.val = J.val
    rw [show win0_4.index t 1 = t.val % 2 from congrFun (idx t).2.2.2.2.1 1]; omega

end Cert.Kernel7Ideal.In
end
-- ==== Proof.InEven.Kernel.lean ====
/- What the even layer's input projection leaves in its result array, element by element. -/
module

public import proofs.«01_k».proof.Proof.InEven.Math
public import proofs.«01_k».proof.Proof.InEven.Points
public import proofs.«01_k».proof.Proof.InEven.Blocks
public import Idealize.ShloMosaic.Lib.Pipeline.ValueKit
public import Idealize.ShloMosaic.Lib.Pointwise

@[expose] public section

set_option maxRecDepth 16384

noncomputable section

namespace Cert.Kernel7Ideal.In

open Cert.Kernel7Ideal Cert.Kernel7Ideal.Gen Idealize.ShloMosaic Idealize.ShloMosaic.TcCoe Idealize.SL.Sem
open Cert.Ffn (row)
open Cert.In (tokenRow)
open Cert.InEven (elem)

variable (m : (ℓ : Loc nD τ sig) → Buf (Elt Ideal) ℓ) (c : Dev nD)

/-- The normed row of token `R`. -/
def argRow (R : Fin 32768) (d : Fin 2048) : EReal :=
  tokenRow (m ((c : Thread nD τ).loc main_arg0)) (m ((c : Thread nD τ).loc main_arg1)) (m ((c : Thread nD τ).loc main_arg2))
    ⟨R.val / 2048, by omega⟩ ⟨R.val % 2048, by omega⟩ d

/-- A grid point's normed rows, read off the arguments. -/
theorem rowOf_blk (t : Fin cfg0.N) (r : Fin 1024) (R : Fin 32768) (hR : (R : ℕ) = t.val / 2 * 1024 + r) :
    rowOf (iblk m c 0 t) (iblk m c 1 t) (iblk m c 2 t) (iblk m c 3 t) r = argRow m c R := by
  have hq : (R : ℕ) / 2048 = t.val / 4 := by omega
  have hr : (R : ℕ) % 2048 = t.val / 2 % 2 * 1024 + r := by omega
  funext d
  unfold rowOf argRow tokenRow
  congr 1
  · funext j; refine (blk_x m c t r j).trans ?_; simp only [hq, hr]
  · funext j; exact blk_gain m c t j
  · funext j; refine (blk_scale m c t j).trans ?_; simp only [row, hq]
  · funext j; refine (blk_shift m c t j).trans ?_; simp only [row, hq]

/-- A row's product with a grid point's block of weights, read off the arguments. -/
theorem dotOf_blk (t : Fin cfg0.N) (R : Fin 32768) (j : Fin 1536) (J : Fin 3072) (hJ : (J : ℕ) = t.val % 2 * 1536 + j) :
    dotOf (argRow m c R) (iblk m c 4 t) j =
      elem (m ((c : Thread nD τ).loc main_arg0)) (m ((c : Thread nD τ).loc main_arg1)) (m ((c : Thread nD τ).loc main_arg2))
        (m ((c : Thread nD τ).loc main_arg3)) R J := by
  exact Finset.sum_congr rfl fun d _ => congrArg₂ (· * ·) rfl (blk_w m c t d j J hJ)

/-- What a grid point stores, read off the arguments. -/
theorem point (t : Fin cfg0.N) (r : Fin 1024) (j : Fin 1536) (R : Fin 32768) (hR : (R : ℕ) = t.val / 2 * 1024 + r)
    (J : Fin 3072) (hJ : (J : ℕ) = t.val % 2 * 1536 + j) :
    (outsAt0 m c t.val t.isLt).1 (ix2 r j) =
      elem (m ((c : Thread nD τ).loc main_arg0)) (m ((c : Thread nD τ).loc main_arg1)) (m ((c : Thread nD τ).loc main_arg2))
        (m ((c : Thread nD τ).loc main_arg3)) R J := by
  by_cases h0 : t.val % 2 = 0
  · refine (caseA m c t h0 (by omega) r j).trans ?_
    rw [rowOf_blk m c t r R hR]
    exact dotOf_blk m c t R j J hJ
  · refine (caseB m c t h0 (by omega) r j).trans ?_
    have hN : t.val - 1 < cfg0.N := by have := t.isLt; omega
    have hp : (t.val - 1) % 2 = 0 := by omega
    have hrow : (fun d => (outsAt0 m c (t.val - 1) hN).2 (ix2 r d)) = argRow m c R :=
      (funext fun d => caseA_scratch m c ⟨t.val - 1, hN⟩ hp (by show ¬(t.val - 1) % 2 = 1; omega) r d).trans
        (rowOf_blk m c ⟨t.val - 1, hN⟩ r R (by show (R : ℕ) = (t.val - 1) / 2 * 1024 + r; omega))
    exact (congrArg (fun u => dotOf u (iblk m c 4 t) j) hrow).trans (dotOf_blk m c t R j J hJ)

/-- The kernel's result array, element by element. -/
theorem final : (dats m 0 c).arrAt 5 cfg0.N = fun i : S32768x3072.Idx =>
      elem (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 5 _ (by decide +kernel) fun t hf y => ?_
  blk_simp
  rw [after0_5]
  obtain ⟨r, j, rfl⟩ : ∃ (r : Fin 1024) (j : Fin 1536), y = ix2 r j := ⟨y 0, y 1, eq_ix2 y⟩
  have e0 : win0_5.index t 0 = t.val / 2 := congrFun (idx t).2.2.2.2.2 0
  have e1 : win0_5.index t 1 = t.val % 2 := congrFun (idx t).2.2.2.2.2 1
  refine point m c t r j ((win0_5.blk t).view.emb (ix2 r j) 0) ?_ ((win0_5.blk t).view.emb (ix2 r j) 1) ?_
  · show win0_5.index t 0 * 1024 + 1 * r.val = t.val / 2 * 1024 + r.val
    rw [e0]; omega
  · show win0_5.index t 1 * 1536 + 1 * j.val = t.val % 2 * 1536 + j.val
    rw [e1]; omega

end Cert.Kernel7Ideal.In
end
-- ==== Proof.InEven.Reference.lean ====
/- The reference's input projection of the even layer, element by element. -/
module

public import proofs.«01_k».proof.Proof.Gen.Reference7Ideal.Run
public import proofs.«01_k».proof.Proof.InEven.Math
public import Idealize.ShloMosaic.Lib.Pipeline.ValueKit
public import Idealize.ShloMosaic.Lib.Pointwise

@[expose] public section

set_option maxRecDepth 16384

noncomputable section

namespace Cert.Reference7Ideal.In

open Cert.Reference7Ideal Cert.Reference7Ideal.Gen Idealize.ShloMosaic Idealize.ShloMosaic.TcCoe Idealize.SL.Sem
open Cert.Ffn (normMod row)
open Cert.In (tokenRow)
open Cert.InEven (column elem)

/-- The normed and modulated tokens. -/
def normed (x : FVec Ideal S16x2048x2048 .f32) (md : FVec Ideal S24x12288 .f32) (g : FVec Ideal S2048 .f32) : FVec Ideal S16x2048x2048 .f32 :=
  addf (mulf (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (extractStridedSlice S16x2048 ![0, 2048] (extractStridedSlice S16x12288 ![0, 0] md slices_S24x12288_S16x12288_0_0) slices_S16x12288_S16x2048_0_2048))))) (broadcastInDim S16x2048x2048 ![0, 1, 2] bcast_S16x1x2048_S16x2048x2048_0_1_2 (broadcastInDim S16x1x2048 ![0, 2] bcast_S16x2048_S16x1x2048_0_2 (extractStridedSlice S16x2048 ![0, 0] (extractStridedSlice S16x12288 ![0, 0] md slices_S24x12288_S16x12288_0_0) slices_S16x12288_S16x2048_0_0)))

/-- The product of the tokens with the input weights. -/
def product (u : FVec Ideal S16x2048x2048 .f32) (w : FVec Ideal S1x2048x2880 .f32) : FVec Ideal S32768x2880 .f32 :=
  Host.dotGeneral dot_S32768x2048_S2048x2880_S32768x2880_1_0_0_1_n_n none (shapeCast _ u shapeCasts_S16x2048x2048_S32768x2048)
    (shapeCast _ w shapeCasts_S1x2048x2880_S2048x2880)

/-- The product's columns in the call's order: the convolution's, the attention's, then zeros. -/
def ordered (p : FVec Ideal S32768x2880 .f32) : FVec Ideal S32768x3072 .bf16 :=
  truncf .bf16 (concatenate S32768x3072 1 [
    ⟨S32768x2048, extractStridedSlice S32768x2048 ![0, 832] p slices_S32768x2880_S32768x2048_0_832⟩,
    ⟨S32768x832, extractStridedSlice S32768x832 ![0, 0] p slices_S32768x2880_S32768x832_0_0⟩,
    ⟨S32768x192, broadcastInDim S32768x192 ![] bcast_S_S32768x192 (constant (F := Ideal) S_ .f32 0x00000000#32)⟩]
    concatenates_S32768x2048_S32768x832_S32768x192_S32768x3072_d1) bitsLt_bf16_f32

theorem normed_apply (x : FVec Ideal S16x2048x2048 .f32) (md : FVec Ideal S24x12288 .f32) (g : FVec Ideal S2048 .f32) (b : Fin 16)
    (s d : Fin 2048) : normed x md g (ix3 b s d) = tokenRow x md g b s d := by
  unfold tokenRow normMod
  rw [← mul_assoc]
  pointwise [normed]

theorem product_apply (u : FVec Ideal S16x2048x2048 .f32) (w : FVec Ideal S1x2048x2880 .f32) (R : Fin 32768) (j : Fin 2880) :
    product u w (ix2 R j) = ∑ d : Fin 2048, u (ix3 ⟨R.val / 2048, by omega⟩ ⟨R.val % 2048, by omega⟩ d) * w (ix3 0 d j) := by
  pointwise [product]

theorem ordered_apply (p : FVec Ideal S32768x2880 .f32) (R : Fin 32768) (J : Fin 3072) : ordered p (ix2 R J) =
    if h : (J : ℕ) < 2048 then p (ix2 R ⟨832 + J, by omega⟩)
    else if h' : (J : ℕ) - 2048 < 832 then p (ix2 R ⟨J - 2048, by omega⟩) else 0 := by
  pointwise [ordered]

/-- The reference's result from its arguments. -/
def result (x : FVec Ideal S16x2048x2048 .f32) (md : FVec Ideal S24x12288 .f32) (g : FVec Ideal S2048 .f32)
    (w : FVec Ideal S1x2048x2880 .f32) : FVec Ideal S32768x3072 .bf16 :=
  ordered (product (normed x md g) w)

theorem result_apply (x : FVec Ideal S16x2048x2048 .f32) (md : FVec Ideal S24x12288 .f32) (g : FVec Ideal S2048 .f32)
    (w : FVec Ideal S1x2048x2880 .f32) (R : Fin 32768) (J : Fin 3072) : result x md g w (ix2 R J) = elem x md g w R J := by
  unfold result elem column
  rw [ordered_apply]
  split_ifs
  · rw [product_apply]
    simp only [normed_apply]
  · rw [product_apply]
    simp only [normed_apply]
  · simp only [mul_zero, Finset.sum_const_zero]

variable (m : (ℓ : Loc nD τ sig) → Buf (Elt Ideal) ℓ) (c : Dev nD)

theorem res_eq : Value.res_main_v39 m c = result (m ((c.tc : Thread nD τ).loc main_arg0)) (m ((c.tc : Thread nD τ).loc main_arg1))
    (m ((c.tc : Thread nD τ).loc main_arg2)) (m ((c.tc : Thread nD τ).loc main_arg3)) := rfl

end Cert.Reference7Ideal.In
end
-- ==== Proof.InEven.Claim.lean ====
/- The claim of the even layer's input projection: its result is the product of the normed and modulated tokens with the input
   weights, its columns in the call's order, for all extended reals. -/
module

public import proofs.«01_k».proof.Defs
public import proofs.«01_k».proof.Proof.InEven.Kernel
public import proofs.«01_k».proof.Proof.InEven.Reference
public import Idealize.ShloMosaic.Lib.Quiescent

@[expose] public section

set_option maxRecDepth 16384

noncomputable section

namespace Cert.InEven

open Idealize.ShloMosaic Idealize.ShloMosaic.TcCoe Idealize.SL.Sem

/-- The reference runs and leaves its arguments and the counters as they were. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's result is the reference's, element by element. -/
theorem algebraic : Cert.algebraic_Kernel7Ideal_Reference7Ideal := by
  intro m g m' g' _ hagree
  refine ⟨fun c => (Cert.Kernel7Ideal.Gen.dats m 0 c).arrAt 5 Cert.Kernel7Ideal.cfg0.N,
    Cert.Kernel7Ideal.Value.run_blocks (F := Ideal) m g,
    (θ_run Cert.Reference7Ideal.defs _ _).mono (fun r h c => ⟨?_, (h c).2⟩)
      (Cert.Reference7Ideal.Value.run (F := Ideal) m' g')⟩
  obtain ⟨a0, a1, a2, a3⟩ := hagree c
  have e : r.2.mem ((c.tc : Thread Cert.Reference7Ideal.nD Cert.Reference7Ideal.τ).loc Cert.Reference7Ideal.main_v39) =
      Cert.Reference7Ideal.In.result _ _ _ _ := (h c).1.trans (Cert.Reference7Ideal.In.res_eq m' c)
  refine e.trans ?_
  rw [a0, a1, a2, a3]
  refine Eq.trans ?_ (Cert.Kernel7Ideal.In.final m c).symm
  funext i
  obtain ⟨R, e, rfl⟩ : ∃ (R : Fin 32768) (e : Fin 3072), i = ix2 R e := ⟨i 0, i 1, eq_ix2 i⟩
  exact Cert.Reference7Ideal.In.result_apply _ _ _ _ R e

end Cert.InEven

end
-- ==== Proof.Out.Math.lean ====
/- The element of an output projection with its gate and residual, on extended reals. -/
module

public import proofs.«01_k».proof.Proof.Ffn.Math
public import Idealize.ShloMosaic.PureOps.Ideal
public import Idealize.ShloMosaic.Lib.Pointwise

@[expose] public section

noncomputable section

namespace Cert.Out

open Idealize.ShloMosaic
open Cert.Ffn (row)

/-- A sum over `k1 + k2` indices is the sum over the first `k1` and the sum over the other `k2`. -/
theorem sum_split {n : ℕ} (k1 k2 : ℕ) (h : k1 + k2 = n) (f : Fin n → EReal) :
    ∑ k, f k = ∑ k : Fin k1, f ⟨k, by omega⟩ + ∑ k : Fin k2, f ⟨k1 + k, by omega⟩ := by
  subst h
  exact Fin.sum_univ_add f

/-- The result's element at token `R` and column `e`: the input plus the gate times the two head groups' products with their
    rows of the weights. -/
def elem {k1 k2 : ℕ} (h : k1 + k2 = 2048) (a1 : FVec Ideal ⟨2, ![32768, k1]⟩ .bf16) (a2 : FVec Ideal ⟨2, ![32768, k2]⟩ .bf16)
    (w : FVec Ideal ⟨3, ![1, 2048, 2048]⟩ .f32) (x : FVec Ideal ⟨3, ![16, 2048, 2048]⟩ .f32)
    (md : FVec Ideal ⟨2, ![24, 12288]⟩ .f32) (R : Fin 32768) (e : Fin 2048) : EReal :=
  x (ix3 ⟨R.val / 2048, by omega⟩ ⟨R.val % 2048, by omega⟩ e)
    + md (ix2 (row ⟨R.val / 2048, by omega⟩) ⟨4096 + e, by omega⟩)
      * (∑ k : Fin k1, a1 (ix2 R k) * w (ix3 0 ⟨k, by omega⟩ e) + ∑ k : Fin k2, a2 (ix2 R k) * w (ix3 0 ⟨k1 + k, by omega⟩ e))

end Cert.Out
end
-- ==== Proof.Out.EvenKernel.lean ====
/- The output projection of the even layer, whose head groups are 1024 and 1024 wide: what the kernel leaves in its result
   array, element by element. -/
module

public import proofs.«01_k».proof.Proof.Out.Math
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.Out

open Cert.Kernel5Ideal Cert.Kernel5Ideal.Gen Idealize.ShloMosaic Idealize.ShloMosaic.TcCoe Idealize.SL.Sem
open Cert.Out (elem)
open Cert.Ffn (row)

/-- The windows' block indices, from the grid point's number. -/
theorem idx : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![t.val / 4 * 6 + 2, 0, 0] ∧ win0_6.index t = ![t.val, 0] :=
  (by decide +kernel : ∀ t : Fin grid0.N,
    win0_0.index t = ![t.val, 0] ∧ win0_1.index t = ![t.val, 0] ∧ win0_2.index t = ![0, 0] ∧ win0_3.index t = ![0, 0]
    ∧ win0_4.index t = ![t.val, 0] ∧ win0_5.index t = ![t.val / 4 * 6 + 2, 0, 0] ∧ win0_6.index t = ![t.val, 0])

theorem lt_N (t : Fin cfg0.N) : t.val < 64 := lt_of_lt_of_eq t.isLt (show cfg0.N = 64 from N_0)

/-- What the body stores, at an element: the input plus the gate times the sum of the two products. -/
theorem body_apply (a1 : Vec Ideal S512x1024 .bf16) (w1 : Vec Ideal S1024x2048 .bf16) (a2 : Vec Ideal S512x1024 .bf16)
    (w2 : Vec Ideal S1024x2048 .bf16) (x : Vec Ideal S512x2048 .f32) (g : Vec Ideal S1x1x2048 .f32) (r : Fin 512) (e : Fin 2048) :
    k0_pay1 a1 w1 a2 w2 x g (ix2 r e) = x (ix2 r e) + g (ix3 0 0 e)
      * (∑ k : Fin 1024, a1 (ix2 r k) * w1 (ix2 k e) + ∑ k : Fin 1024, a2 (ix2 r k) * w2 (ix2 k e)) := by
  pointwise [k0_pay1]

/-- The block a grid point leaves is the body's one store. -/
theorem out_apply (x0 : Vec Ideal S512x1024 .bf16) (x1 : Vec Ideal S512x1024 .bf16) (x2 : Vec Ideal S1024x2048 .bf16)
    (x3 : Vec Ideal S1024x2048 .bf16) (x4 : Vec Ideal S512x2048 .f32) (x5 : Vec Ideal S1x1x2048 .f32) (r : Fin 512) (e : Fin 2048) :
    out0_6 x0 x1 x2 x3 x4 x5 (ix2 r e) = x4 (ix2 r e) + x5 (ix3 0 0 e)
      * (∑ k : Fin 1024, x0 (ix2 r k) * x2 (ix2 k e) + ∑ k : Fin 1024, x1 (ix2 r k) * x3 (ix2 k e)) := by
  refine Eq.trans ?_ (body_apply x0 x2 x1 x3 x4 x5 r e)
  frame_out

variable (m : (ℓ : Loc nD τ sig) → Buf (Elt Ideal) ℓ) (c : Dev nD) (t : Fin cfg0.N)

/-- The first head group's rows. -/
theorem blk_a1 (r : Fin 512) (k : Fin 1024) :
    iblk m c 0 t (ix2 r k) = m ((c : Thread nD τ).loc main_arg0) (ix2 ⟨t.val * 512 + r, by have := lt_N t; omega⟩ k) := by
  have := lt_N t
  blk_ext! [iblk, V, idx t]

/-- The second head group's rows. -/
theorem blk_a2 (r : Fin 512) (k : Fin 1024) :
    iblk m c 1 t (ix2 r k) = m ((c : Thread nD τ).loc main_arg1) (ix2 ⟨t.val * 512 + r, by have := lt_N t; omega⟩ k) := by
  have := lt_N t
  blk_ext! [iblk, V, idx t]

/-- The first head group's weights. -/
theorem blk_w1 (k : Fin 1024) (e : Fin 2048) :
    iblk m c 2 t (ix2 k e) = m ((c : Thread nD τ).loc main_arg2) (ix3 0 ⟨k, by omega⟩ e) := by
  blk_ext! [iblk, V, idx t]

/-- The second head group's weights. -/
theorem blk_w2 (k : Fin 1024) (e : Fin 2048) :
    iblk m c 3 t (ix2 k e) = m ((c : Thread nD τ).loc main_arg2) (ix3 0 ⟨1024 + k, by omega⟩ e) := by
  blk_ext! [iblk, V, idx t]

/-- The input's rows. -/
theorem blk_x (r : Fin 512) (e : Fin 2048) :
    iblk m c 4 t (ix2 r e) = m ((c : Thread nD τ).loc main_arg3)
      (ix3 ⟨t.val / 4, by have := lt_N t; omega⟩ ⟨t.val % 4 * 512 + r, by omega⟩ e) := by
  have := lt_N t
  blk_ext! [iblk, V, idx t]

/-- The gate row. -/
theorem blk_gate (e : Fin 2048) :
    iblk m c 5 t (ix3 0 0 e) = m ((c : Thread nD τ).loc main_arg4)
      (ix2 ⟨t.val / 4, by have := lt_N t; omega⟩ ⟨4096 + e, by omega⟩) := by
  have := lt_N t
  blk_ext! [iblk, V, idx t]

/-- What a grid point stores, read off the arguments. -/
theorem point (r : Fin 512) (e : Fin 2048) (R : Fin 32768) (hR : (R : ℕ) = t.val * 512 + r) :
    out0_6 (iblk m c 0 t) (iblk m c 1 t) (iblk m c 2 t) (iblk m c 3 t) (iblk m c 4 t) (iblk m c 5 t) (ix2 r e) =
      elem (k1 := 1024) (k2 := 1024) (by decide) (m ((c : Thread nD τ).loc main_arg0)) (m ((c : Thread nD τ).loc main_arg1))
        (m ((c : Thread nD τ).loc main_arg2)) (m ((c : Thread nD τ).loc main_arg3)) (m ((c : Thread nD τ).loc main_arg4)) R e := by
  have hlt := lt_N t
  have hq : (R : ℕ) / 2048 = t.val / 4 := by omega
  have hr : (R : ℕ) % 2048 = t.val % 4 * 512 + r := by omega
  have hRe : R = ⟨t.val * 512 + r, by omega⟩ := Fin.ext hR
  refine (out_apply _ _ _ _ _ _ r e).trans ?_
  unfold elem
  refine congrArg₂ (· + ·) ((blk_x m c t r e).trans ?_) (congrArg₂ (· * ·) ((blk_gate m c t e).trans ?_)
    (congrArg₂ (· + ·) (Finset.sum_congr rfl fun k _ => ?_) (Finset.sum_congr rfl fun k _ => ?_)))
  · simp only [hq, hr]
  · simp only [row, hq]
  · rw [hRe]; exact congrArg₂ (· * ·) (blk_a1 m c t r k) (blk_w1 m c t k e)
  · rw [hRe]; exact congrArg₂ (· * ·) (blk_a2 m c t r k) (blk_w2 m c t k e)

/-- The kernel's result array, element by element. -/
theorem final : (dats m 0 c).arrAt 6 cfg0.N = fun i : S32768x2048.Idx =>
      elem (k1 := 1024) (k2 := 1024) (by decide) (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  obtain ⟨r, e, rfl⟩ : ∃ (r : Fin 512) (e : Fin 2048), y = ix2 r e := ⟨y 0, y 1, eq_ix2 y⟩
  have e0 : win0_6.index t 0 = t.val := congrFun (idx t).2.2.2.2.2.2 0
  have e1 : (win0_6.blk t).view.emb (ix2 r e) 1 = e := by
    refine Fin.ext ?_
    blk_point [idx t]
  refine (point m c t r e ((win0_6.blk t).view.emb (ix2 r e) 0) ?_).trans (congrArg _ e1.symm)
  show win0_6.index t 0 * 512 + 1 * r.val = t.val * 512 + r.val
  rw [e0]; omega

end Cert.Kernel5Ideal.Out
end
-- ==== Proof.Out.EvenReference.lean ====
/- The even layer's reference output projection, element by element. -/
module

public import proofs.«01_k».proof.Proof.Out.Math
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Reference5Ideal.Out

open Cert.Reference5Ideal Cert.Reference5Ideal.Gen Idealize.ShloMosaic Idealize.ShloMosaic.TcCoe Idealize.SL.Sem
open Cert.Out (elem sum_split)
open Cert.Ffn (row)

/-- The two head groups, side by side. -/
def joined (a1 : FVec Ideal S32768x1024 .bf16) (a2 : FVec Ideal S32768x1024 .bf16) : FVec Ideal S32768x2048 .bf16 :=
  concatenate S32768x2048 1 [⟨S32768x1024, a1⟩, ⟨S32768x1024, a2⟩] concatenates_S32768x1024_S32768x1024_S32768x2048_d1

/-- Their product with the output weights. -/
def product (a : FVec Ideal S32768x2048 .bf16) (w : FVec Ideal S1x2048x2048 .f32) : FVec Ideal S32768x2048 .f32 :=
  Host.dotGeneral dot_S32768x2048_S2048x2048_S32768x2048_1_0_0_1_n_n none (extf .f32 a bitsLt_bf16_f32) (shapeCast _ w shapeCasts_S1x2048x2048_S2048x2048)

/-- The gate and the residual. -/
def outp (x : FVec Ideal S16x2048x2048 .f32) (md : FVec Ideal S24x12288 .f32) (o : FVec Ideal S32768x2048 .f32) : FVec Ideal S32768x2048 .f32 :=
  shapeCast _ (addf x (mulf (broadcastInDim S16x2048x2048 ![0, 1, 2] bcast_S16x1x2048_S16x2048x2048_0_1_2 (broadcastInDim S16x1x2048 ![0, 2] bcast_S16x2048_S16x1x2048_0_2 (extractStridedSlice S16x2048 ![0, 4096] (extractStridedSlice S16x12288 ![0, 0] md slices_S24x12288_S16x12288_0_0) slices_S16x12288_S16x2048_0_4096)))
    (shapeCast _ o shapeCasts_S32768x2048_S16x2048x2048))) shapeCasts_S16x2048x2048_S32768x2048

theorem joined_left (a1 : FVec Ideal S32768x1024 .bf16) (a2 : FVec Ideal S32768x1024 .bf16) (R : Fin 32768) (k : Fin 1024) :
    joined a1 a2 (ix2 R ⟨k, by omega⟩) = a1 (ix2 R k) := by
  have hk : (k : ℕ) < 1024 := k.isLt
  pointwise [joined]

theorem joined_right (a1 : FVec Ideal S32768x1024 .bf16) (a2 : FVec Ideal S32768x1024 .bf16) (R : Fin 32768) (k : Fin 1024) :
    joined a1 a2 (ix2 R ⟨1024 + k, by omega⟩) = a2 (ix2 R k) := by
  have hk : ¬ 1024 + (k : ℕ) < 1024 := by omega
  pointwise [joined]

theorem product_apply (a : FVec Ideal S32768x2048 .bf16) (w : FVec Ideal S1x2048x2048 .f32) (R : Fin 32768) (e : Fin 2048) :
    product a w (ix2 R e) = ∑ k : Fin 2048, a (ix2 R k) * w (ix3 0 k e) := by
  pointwise [product]

theorem outp_apply (x : FVec Ideal S16x2048x2048 .f32) (md : FVec Ideal S24x12288 .f32) (o : FVec Ideal S32768x2048 .f32) (R : Fin 32768)
    (e : Fin 2048) : outp x md o (ix2 R e) = x (ix3 ⟨R.val / 2048, by omega⟩ ⟨R.val % 2048, by omega⟩ e)
      + md (ix2 (row ⟨R.val / 2048, by omega⟩) ⟨4096 + e, by omega⟩) * o (ix2 R e) := by
  pointwise [outp]

/-- The reference's result from its arguments. -/
def result (a1 : FVec Ideal S32768x1024 .bf16) (a2 : FVec Ideal S32768x1024 .bf16) (w : FVec Ideal S1x2048x2048 .f32)
    (x : FVec Ideal S16x2048x2048 .f32) (md : FVec Ideal S24x12288 .f32) : FVec Ideal S32768x2048 .f32 :=
  outp x md (product (joined a1 a2) w)

theorem result_apply (a1 : FVec Ideal S32768x1024 .bf16) (a2 : FVec Ideal S32768x1024 .bf16) (w : FVec Ideal S1x2048x2048 .f32)
    (x : FVec Ideal S16x2048x2048 .f32) (md : FVec Ideal S24x12288 .f32) (R : Fin 32768) (e : Fin 2048) :
    result a1 a2 w x md (ix2 R e) = elem (k1 := 1024) (k2 := 1024) (by decide) a1 a2 w x md R e := by
  unfold result elem
  rw [outp_apply, product_apply, sum_split 1024 1024 (by decide)]
  simp only [joined_left, joined_right]

end Cert.Reference5Ideal.Out
end
-- ==== Proof.Out.EvenClaim.lean ====
/- The claim of the even layer's output projection: its result is the input plus the gate times the product of the head
   groups with the output weights, for all extended reals. -/
module

public import proofs.«01_k».proof.Defs
public import proofs.«01_k».proof.Proof.Out.EvenKernel
public import proofs.«01_k».proof.Proof.Out.EvenReference
public import Idealize.ShloMosaic.Lib.Quiescent

@[expose] public section

set_option maxRecDepth 16384

noncomputable section

namespace Cert.Out.Even

open Idealize.ShloMosaic Idealize.ShloMosaic.TcCoe Idealize.SL.Sem

/-- The reference runs and leaves its arguments and the counters as they were. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result is the reference's, element by element. -/
theorem algebraic : Cert.algebraic_Kernel5Ideal_Reference5Ideal := by
  intro m g m' g' _ hagree
  refine ⟨fun c => (Cert.Kernel5Ideal.Gen.dats m 0 c).arrAt 6 Cert.Kernel5Ideal.cfg0.N,
    Cert.Kernel5Ideal.Value.run_blocks (F := Ideal) m g,
    (θ_run Cert.Reference5Ideal.defs _ _).mono (fun r h c => ⟨?_, (h c).2⟩)
      (Cert.Reference5Ideal.Value.run (F := Ideal) m' g')⟩
  obtain ⟨a0, a1, a2, a3, a4⟩ := hagree c
  have e : r.2.mem ((c.tc : Thread Cert.Reference5Ideal.nD Cert.Reference5Ideal.τ).loc Cert.Reference5Ideal.main_v21) =
      Cert.Reference5Ideal.Out.result _ _ _ _ _ := (h c).1
  refine e.trans ?_
  rw [a0, a1, a2, a3, a4]
  refine Eq.trans ?_ (Cert.Kernel5Ideal.Out.final m c).symm
  funext i
  obtain ⟨R, e, rfl⟩ : ∃ (R : Fin 32768) (e : Fin 2048), i = ix2 R e := ⟨i 0, i 1, eq_ix2 i⟩
  exact Cert.Reference5Ideal.Out.result_apply _ _ _ _ _ R e

end Cert.Out.Even

end
-- ==== Proof.Out.OddKernel.lean ====
/- The output projection of the odd layer, whose head groups are 1536 and 512 wide: what the kernel leaves in its result
   array, element by element. -/
module

public import proofs.«01_k».proof.Proof.Out.Math
public import proofs.«01_k».proof.Proof.Gen.Kernel6Ideal.Value
public import Idealize.ShloMosaic.Lib.Pipeline.ValueKit
public import Idealize.ShloMosaic.Lib.Pointwise

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Cert.Out (elem)
open Cert.Ffn (row)

/-- The windows' block indices, from the grid point's number. -/
theorem idx : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![t.val / 4 * 6 + 2, 0, 0] ∧ win0_6.index t = ![t.val, 0] :=
  (by decide +kernel : ∀ t : Fin grid0.N,
    win0_0.index t = ![t.val, 0] ∧ win0_1.index t = ![t.val, 0] ∧ win0_2.index t = ![0, 0] ∧ win0_3.index t = ![0, 0]
    ∧ win0_4.index t = ![t.val, 0] ∧ win0_5.index t = ![t.val / 4 * 6 + 2, 0, 0] ∧ win0_6.index t = ![t.val, 0])

theorem lt_N (t : Fin cfg0.N) : t.val < 64 := lt_of_lt_of_eq t.isLt (show cfg0.N = 64 from N_0)

/-- What the body stores, at an element: the input plus the gate times the sum of the two products. -/
theorem body_apply (a1 : Vec Ideal S512x1536 .bf16) (w1 : Vec Ideal S1536x2048 .bf16) (a2 : Vec Ideal S512x512 .bf16)
    (w2 : Vec Ideal S512x2048 .bf16) (x : Vec Ideal S512x2048 .f32) (g : Vec Ideal S1x1x2048 .f32) (r : Fin 512) (e : Fin 2048) :
    k0_pay1 a1 w1 a2 w2 x g (ix2 r e) = x (ix2 r e) + g (ix3 0 0 e)
      * (∑ k : Fin 1536, a1 (ix2 r k) * w1 (ix2 k e) + ∑ k : Fin 512, a2 (ix2 r k) * w2 (ix2 k e)) := by
  pointwise [k0_pay1]

/-- The block a grid point leaves is the body's one store. -/
theorem out_apply (x0 : Vec Ideal S512x1536 .bf16) (x1 : Vec Ideal S512x512 .bf16) (x2 : Vec Ideal S1536x2048 .bf16)
    (x3 : Vec Ideal S512x2048 .bf16) (x4 : Vec Ideal S512x2048 .f32) (x5 : Vec Ideal S1x1x2048 .f32) (r : Fin 512) (e : Fin 2048) :
    out0_6 x0 x1 x2 x3 x4 x5 (ix2 r e) = x4 (ix2 r e) + x5 (ix3 0 0 e)
      * (∑ k : Fin 1536, x0 (ix2 r k) * x2 (ix2 k e) + ∑ k : Fin 512, x1 (ix2 r k) * x3 (ix2 k e)) := by
  refine Eq.trans ?_ (body_apply x0 x2 x1 x3 x4 x5 r e)
  frame_out

variable (m : (ℓ : Loc nD τ sig) → Buf (Elt Ideal) ℓ) (c : Dev nD) (t : Fin cfg0.N)

/-- The first head group's rows. -/
theorem blk_a1 (r : Fin 512) (k : Fin 1536) :
    iblk m c 0 t (ix2 r k) = m ((c : Thread nD τ).loc main_arg0) (ix2 ⟨t.val * 512 + r, by have := lt_N t; omega⟩ k) := by
  have := lt_N t
  blk_ext! [iblk, V, idx t]

/-- The second head group's rows. -/
theorem blk_a2 (r : Fin 512) (k : Fin 512) :
    iblk m c 1 t (ix2 r k) = m ((c : Thread nD τ).loc main_arg1) (ix2 ⟨t.val * 512 + r, by have := lt_N t; omega⟩ k) := by
  have := lt_N t
  blk_ext! [iblk, V, idx t]

/-- The first head group's weights. -/
theorem blk_w1 (k : Fin 1536) (e : Fin 2048) :
    iblk m c 2 t (ix2 k e) = m ((c : Thread nD τ).loc main_arg2) (ix3 0 ⟨k, by omega⟩ e) := by
  blk_ext! [iblk, V, idx t]

/-- The second head group's weights. -/
theorem blk_w2 (k : Fin 512) (e : Fin 2048) :
    iblk m c 3 t (ix2 k e) = m ((c : Thread nD τ).loc main_arg2) (ix3 0 ⟨1536 + k, by omega⟩ e) := by
  blk_ext! [iblk, V, idx t]

/-- The input's rows. -/
theorem blk_x (r : Fin 512) (e : Fin 2048) :
    iblk m c 4 t (ix2 r e) = m ((c : Thread nD τ).loc main_arg3)
      (ix3 ⟨t.val / 4, by have := lt_N t; omega⟩ ⟨t.val % 4 * 512 + r, by omega⟩ e) := by
  have := lt_N t
  blk_ext! [iblk, V, idx t]

/-- The gate row. -/
theorem blk_gate (e : Fin 2048) :
    iblk m c 5 t (ix3 0 0 e) = m ((c : Thread nD τ).loc main_arg4)
      (ix2 ⟨t.val / 4, by have := lt_N t; omega⟩ ⟨4096 + e, by omega⟩) := by
  have := lt_N t
  blk_ext! [iblk, V, idx t]

/-- What a grid point stores, read off the arguments. -/
theorem point (r : Fin 512) (e : Fin 2048) (R : Fin 32768) (hR : (R : ℕ) = t.val * 512 + r) :
    out0_6 (iblk m c 0 t) (iblk m c 1 t) (iblk m c 2 t) (iblk m c 3 t) (iblk m c 4 t) (iblk m c 5 t) (ix2 r e) =
      elem (k1 := 1536) (k2 := 512) (by decide) (m ((c : Thread nD τ).loc main_arg0)) (m ((c : Thread nD τ).loc main_arg1))
        (m ((c : Thread nD τ).loc main_arg2)) (m ((c : Thread nD τ).loc main_arg3)) (m ((c : Thread nD τ).loc main_arg4)) R e := by
  have hlt := lt_N t
  have hq : (R : ℕ) / 2048 = t.val / 4 := by omega
  have hr : (R : ℕ) % 2048 = t.val % 4 * 512 + r := by omega
  have hRe : R = ⟨t.val * 512 + r, by omega⟩ := Fin.ext hR
  refine (out_apply _ _ _ _ _ _ r e).trans ?_
  unfold elem
  refine congrArg₂ (· + ·) ((blk_x m c t r e).trans ?_) (congrArg₂ (· * ·) ((blk_gate m c t e).trans ?_)
    (congrArg₂ (· + ·) (Finset.sum_congr rfl fun k _ => ?_) (Finset.sum_congr rfl fun k _ => ?_)))
  · simp only [hq, hr]
  · simp only [row, hq]
  · rw [hRe]; exact congrArg₂ (· * ·) (blk_a1 m c t r k) (blk_w1 m c t k e)
  · rw [hRe]; exact congrArg₂ (· * ·) (blk_a2 m c t r k) (blk_w2 m c t k e)

/-- The kernel's result array, element by element. -/
theorem final : (dats m 0 c).arrAt 6 cfg0.N = fun i : S32768x2048.Idx =>
      elem (k1 := 1536) (k2 := 512) (by decide) (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  obtain ⟨r, e, rfl⟩ : ∃ (r : Fin 512) (e : Fin 2048), y = ix2 r e := ⟨y 0, y 1, eq_ix2 y⟩
  have e0 : win0_6.index t 0 = t.val := congrFun (idx t).2.2.2.2.2.2 0
  have e1 : (win0_6.blk t).view.emb (ix2 r e) 1 = e := by
    refine Fin.ext ?_
    blk_point [idx t]
  refine (point m c t r e ((win0_6.blk t).view.emb (ix2 r e) 0) ?_).trans (congrArg _ e1.symm)
  show win0_6.index t 0 * 512 + 1 * r.val = t.val * 512 + r.val
  rw [e0]; omega

end Cert.Kernel6Ideal.Out
end
-- ==== Proof.Out.OddReference.lean ====
/- The odd layer's reference output projection, element by element. -/
module

public import proofs.«01_k».proof.Proof.Out.Math
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Reference6Ideal.Out

open Cert.Reference6Ideal Cert.Reference6Ideal.Gen Idealize.ShloMosaic Idealize.ShloMosaic.TcCoe Idealize.SL.Sem
open Cert.Out (elem sum_split)
open Cert.Ffn (row)

/-- The two head groups, side by side. -/
def joined (a1 : FVec Ideal S32768x1536 .bf16) (a2 : FVec Ideal S32768x512 .bf16) : FVec Ideal S32768x2048 .bf16 :=
  concatenate S32768x2048 1 [⟨S32768x1536, a1⟩, ⟨S32768x512, a2⟩] concatenates_S32768x1536_S32768x512_S32768x2048_d1

/-- Their product with the output weights. -/
def product (a : FVec Ideal S32768x2048 .bf16) (w : FVec Ideal S1x2048x2048 .f32) : FVec Ideal S32768x2048 .f32 :=
  Host.dotGeneral dot_S32768x2048_S2048x2048_S32768x2048_1_0_0_1_n_n none (extf .f32 a bitsLt_bf16_f32) (shapeCast _ w shapeCasts_S1x2048x2048_S2048x2048)

/-- The gate and the residual. -/
def outp (x : FVec Ideal S16x2048x2048 .f32) (md : FVec Ideal S24x12288 .f32) (o : FVec Ideal S32768x2048 .f32) : FVec Ideal S32768x2048 .f32 :=
  shapeCast _ (addf x (mulf (broadcastInDim S16x2048x2048 ![0, 1, 2] bcast_S16x1x2048_S16x2048x2048_0_1_2 (broadcastInDim S16x1x2048 ![0, 2] bcast_S16x2048_S16x1x2048_0_2 (extractStridedSlice S16x2048 ![0, 4096] (extractStridedSlice S16x12288 ![0, 0] md slices_S24x12288_S16x12288_0_0) slices_S16x12288_S16x2048_0_4096)))
    (shapeCast _ o shapeCasts_S32768x2048_S16x2048x2048))) shapeCasts_S16x2048x2048_S32768x2048

theorem joined_left (a1 : FVec Ideal S32768x1536 .bf16) (a2 : FVec Ideal S32768x512 .bf16) (R : Fin 32768) (k : Fin 1536) :
    joined a1 a2 (ix2 R ⟨k, by omega⟩) = a1 (ix2 R k) := by
  have hk : (k : ℕ) < 1536 := k.isLt
  pointwise [joined]

theorem joined_right (a1 : FVec Ideal S32768x1536 .bf16) (a2 : FVec Ideal S32768x512 .bf16) (R : Fin 32768) (k : Fin 512) :
    joined a1 a2 (ix2 R ⟨1536 + k, by omega⟩) = a2 (ix2 R k) := by
  have hk : ¬ 1536 + (k : ℕ) < 1536 := by omega
  pointwise [joined]

theorem product_apply (a : FVec Ideal S32768x2048 .bf16) (w : FVec Ideal S1x2048x2048 .f32) (R : Fin 32768) (e : Fin 2048) :
    product a w (ix2 R e) = ∑ k : Fin 2048, a (ix2 R k) * w (ix3 0 k e) := by
  pointwise [product]

theorem outp_apply (x : FVec Ideal S16x2048x2048 .f32) (md : FVec Ideal S24x12288 .f32) (o : FVec Ideal S32768x2048 .f32) (R : Fin 32768)
    (e : Fin 2048) : outp x md o (ix2 R e) = x (ix3 ⟨R.val / 2048, by omega⟩ ⟨R.val % 2048, by omega⟩ e)
      + md (ix2 (row ⟨R.val / 2048, by omega⟩) ⟨4096 + e, by omega⟩) * o (ix2 R e) := by
  pointwise [outp]

/-- The reference's result from its arguments. -/
def result (a1 : FVec Ideal S32768x1536 .bf16) (a2 : FVec Ideal S32768x512 .bf16) (w : FVec Ideal S1x2048x2048 .f32)
    (x : FVec Ideal S16x2048x2048 .f32) (md : FVec Ideal S24x12288 .f32) : FVec Ideal S32768x2048 .f32 :=
  outp x md (product (joined a1 a2) w)

theorem result_apply (a1 : FVec Ideal S32768x1536 .bf16) (a2 : FVec Ideal S32768x512 .bf16) (w : FVec Ideal S1x2048x2048 .f32)
    (x : FVec Ideal S16x2048x2048 .f32) (md : FVec Ideal S24x12288 .f32) (R : Fin 32768) (e : Fin 2048) :
    result a1 a2 w x md (ix2 R e) = elem (k1 := 1536) (k2 := 512) (by decide) a1 a2 w x md R e := by
  unfold result elem
  rw [outp_apply, product_apply, sum_split 1536 512 (by decide)]
  simp only [joined_left, joined_right]

end Cert.Reference6Ideal.Out
end
-- ==== Proof.Out.OddClaim.lean ====
/- The claim of the odd layer's output projection: its result is the input plus the gate times the product of the head
   groups with the output weights, for all extended reals. -/
module

public import proofs.«01_k».proof.Defs
public import proofs.«01_k».proof.Proof.Out.OddKernel
public import proofs.«01_k».proof.Proof.Out.OddReference
public import Idealize.ShloMosaic.Lib.Quiescent

@[expose] public section

set_option maxRecDepth 16384

noncomputable section

namespace Cert.Out.Odd

open Idealize.ShloMosaic Idealize.ShloMosaic.TcCoe Idealize.SL.Sem

/-- The reference runs and leaves its arguments and the counters as they were. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's result is the reference's, element by element. -/
theorem algebraic : Cert.algebraic_Kernel6Ideal_Reference6Ideal := by
  intro m g m' g' _ hagree
  refine ⟨fun c => (Cert.Kernel6Ideal.Gen.dats m 0 c).arrAt 6 Cert.Kernel6Ideal.cfg0.N,
    Cert.Kernel6Ideal.Value.run_blocks (F := Ideal) m g,
    (θ_run Cert.Reference6Ideal.defs _ _).mono (fun r h c => ⟨?_, (h c).2⟩)
      (Cert.Reference6Ideal.Value.run (F := Ideal) m' g')⟩
  obtain ⟨a0, a1, a2, a3, a4⟩ := hagree c
  have e : r.2.mem ((c.tc : Thread Cert.Reference6Ideal.nD Cert.Reference6Ideal.τ).loc Cert.Reference6Ideal.main_v21) =
      Cert.Reference6Ideal.Out.result _ _ _ _ _ := (h c).1
  refine e.trans ?_
  rw [a0, a1, a2, a3, a4]
  refine Eq.trans ?_ (Cert.Kernel6Ideal.Out.final m c).symm
  funext i
  obtain ⟨R, e, rfl⟩ : ∃ (R : Fin 32768) (e : Fin 2048), i = ix2 R e := ⟨i 0, i 1, eq_ix2 i⟩
  exact Cert.Reference6Ideal.Out.result_apply _ _ _ _ _ R e

end Cert.Out.Odd

end
-- ==== Proof.Moe.Base.lean ====
/- The expert feed-forward call: what its launch sets up, its grid points and its windows, for any contents of the two prefetched tables that place every block inside its array. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- A core's buffers when the call begins: as launched. -/
abbrev V (c : Dev nD) (b : Ref sig .tc) : Buf (Elt F) ((c : Thread nD τ).loc b) := m ((c : Thread nD τ).loc b)

/-- The program is the call alone. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The contents of the two prefetched tables: each tile's expert, and how many of the tile's rows are in use. -/
def tbl : pre0.Contents (Elt F) := fun j => V m (0 : Dev nD) (pre0.ref j)

/-- Every device (there is one) holds those contents. -/
theorem V_pre (c : Dev nD) (j : Fin 2) : V m c (pre0.ref j) = tbl m j := by
  obtain rfl : c = 0 := Subsingleton.elim _ _
  rfl

/-- The tables place every window's block inside its array. -/
abbrev Ok : Prop := ok0 (F := F) (tbl m)

/-- The tables' contents as admissible ones, and the pipeline at them. -/
abbrev adm (hO : Ok m) : (pcfg0 (F := F)).Adm := ⟨tbl m, hO⟩
abbrev cfgM (hO : Ok m) : Pipeline.Cfg sig Λ₀ := cfg0 (adm m hO)

/-- The tables' memrefs, and one held at half a share. -/
abbrev tbE : Memref sig .tc .smem S72 .i32 := Memref.whole main_arg1
abbrev tbR : Memref sig .tc .smem S72 .i32 := Memref.whole main_arg2
abbrev TbBuf (c : Dev nD) (M : Memref sig .tc .smem S72 .i32) : Type := Buf (Elt F) (M.view.loc (c : Thread nD τ))
abbrev tbPt (c : Dev nD) (M : Memref sig .tc .smem S72 .i32) (f : TbBuf (F := F) c M) : sProp 𝕄 :=
  M.view.loc (c : Thread nD τ) ↦{fullShare.right} f

/-- What the launch hands over of the tables, one by one. -/
theorem PhiT_eq (c : Dev nD) :
    (Pipeline.ΦT pre0 (tbl m) c : sProp 𝕄) = iprop(tbPt c tbE (tbl m 0) ∗ tbPt c tbR (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The points -/

theorem lt_N (hO : Ok m) (t : Fin (cfgM m hO).N) : t.val < 1008 :=
  lt_of_lt_of_eq t.isLt (show (cfgM m hO).N = 1008 from N_0)

/-- The first point of a tile: its rows are taken in and its sum is cleared. -/
abbrev isFirst (i : grid0.Coords) : Prop :=
  (Scalar.cmpi .ne (Scalar.extui (Scalar.cmpi .eq (BitVec.ofNat 32 (i 1).val) 0#32)) 0#32) = 1#1

theorem isFirst_iff (t : Fin grid0.N) : isFirst (grid0.coords t) ↔ t.val % 14 = 0 := by
  have ht : t.val < 1008 := Nat.lt_of_lt_of_eq t.isLt N_0
  have e1 : (grid0.coords t 1).val = t.val / 1 % 14 := Pipeline.Grid.coords_val t 1 (by decide) rfl
  simp only [isFirst, e1]
  word_cmp

/-- The last point of a tile: its sum is stored. -/
abbrev isLast (i : grid0.Coords) : Prop := k0_cond6 i = 1#1

theorem isLast_iff (t : Fin grid0.N) : isLast (grid0.coords t) ↔ t.val % 14 = 13 := by
  have ht : t.val < 1008 := Nat.lt_of_lt_of_eq t.isLt N_0
  have e1 : (grid0.coords t 1).val = t.val / 1 % 14 := Pipeline.Grid.coords_val t 1 (by decide) rfl
  simp only [isLast, k0_cond6, e1]
  word_cmp

/-- The number of rows in use lies above `lo` and is at most `hi`. -/
abbrev inBand (lo hi v : BitVec 32) : Prop :=
  (Scalar.cmpi .ne (Scalar.extui (Scalar.andi (Scalar.cmpi .sgt v lo) (Scalar.cmpi .sle v hi))) 0#32) = 1#1

/-- The output window is idle away from a tile's last point, and it is written back there alone. -/
theorem idle_out (hO : Ok m) : ∀ t : Fin (cfgM m hO).N, ¬isLast (grid0.coords t) → (cfgM m hO).idle 4 (grid0.coords t) = true :=
  (by decide +kernel : ∀ t : Fin grid0.N, ¬isLast (grid0.coords t) → idle0 4 (grid0.coords t) = true)
theorem live_out (hO : Ok m) : ∀ t : Fin (cfgM m hO).N, isLast (grid0.coords t) → (cfgM m hO).idle 4 (grid0.coords t) = false :=
  (by decide +kernel : ∀ t : Fin grid0.N, isLast (grid0.coords t) → idle0 4 (grid0.coords t) = false)
theorem noFlush_out (hO : Ok m) : ∀ t : Fin (cfgM m hO).N, ¬isLast (grid0.coords t) → ((cfgM m hO).win 4).flush t = false :=
  (by decide +kernel : ∀ t : Fin grid0.N, ¬isLast (grid0.coords t) → Pipeline.Window.flushOf grid0 true cc0_transform_4 t = false)
theorem flush_out (hO : Ok m) : ∀ t : Fin (cfgM m hO).N, isLast (grid0.coords t) → ((cfgM m hO).win 4).flush t = true :=
  (by decide +kernel : ∀ t : Fin grid0.N, isLast (grid0.coords t) → Pipeline.Window.flushOf grid0 true cc0_transform_4 t = true)

/-- The inputs' windows are never idle. -/
theorem live_in (hO : Ok m) (t : Fin (cfgM m hO).N) : (cfgM m hO).idle 0 (grid0.coords t) = false
    ∧ (cfgM m hO).idle 1 (grid0.coords t) = false ∧ (cfgM m hO).idle 2 (grid0.coords t) = false
    ∧ (cfgM m hO).idle 3 (grid0.coords t) = false := ⟨rfl, rfl, rfl, rfl⟩

/-! ## The windows' blocks and memrefs -/

/-- A window's block at a point, read off its array as launched. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

/-- An input's staging buffer holds its block at every point, for any proof data that starts from the launched arrays and
    leaves the inputs' blocks in place. -/
theorem before_x (hA : dat.A 0 = V m c (Pipeline.arrRef spec0 0)) (h : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [h]; unfold Dat.blockOf iblk; rw [hA]; rfl) t d).trans
    (by unfold Dat.fetched Dat.blockOf iblk; rw [hA]; rfl)
theorem before_wg (hA : dat.A 1 = V m c (Pipeline.arrRef spec0 1)) (h : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [h]; unfold Dat.blockOf iblk; rw [hA]; rfl) t d).trans
    (by unfold Dat.fetched Dat.blockOf iblk; rw [hA]; rfl)
theorem before_wu (hA : dat.A 2 = V m c (Pipeline.arrRef spec0 2)) (h : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [h]; unfold Dat.blockOf iblk; rw [hA]; rfl) t d).trans
    (by unfold Dat.fetched Dat.blockOf iblk; rw [hA]; rfl)
theorem before_wd (hA : dat.A 3 = V m c (Pipeline.arrRef spec0 3)) (h : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [h]; unfold Dat.blockOf iblk; rw [hA]; rfl) t d).trans
    (by unfold Dat.fetched Dat.blockOf iblk; rw [hA]; rfl)
end before

/-- A window's staging memref at a point, and that it is whole. -/
abbrev msx (hO : Ok m) (t : Fin (cfgM m hO).N) : Memref sig .tc .vmem S1024x1024 .i32 := spec0_0.stage ((cfgM m hO).slots t 0)
abbrev hsx (hO : Ok m) (t : Fin (cfgM m hO).N) : (msx m hO t).IsWhole := hstage0_0 (((cfgM m hO).slots t 0).cast nbuf0_0)
abbrev msg (hO : Ok m) (t : Fin (cfgM m hO).N) : Memref sig .tc .vmem S1x1x2048x512 .f32 := spec0_1.stage ((cfgM m hO).slots t 1)
abbrev hsg (hO : Ok m) (t : Fin (cfgM m hO).N) : (msg m hO t).IsWhole := hstage0_1 (((cfgM m hO).slots t 1).cast nbuf0_1)
abbrev msu (hO : Ok m) (t : Fin (cfgM m hO).N) : Memref sig .tc .vmem S1x1x2048x512 .f32 := spec0_2.stage ((cfgM m hO).slots t 2)
abbrev hsu (hO : Ok m) (t : Fin (cfgM m hO).N) : (msu m hO t).IsWhole := hstage0_2 (((cfgM m hO).slots t 2).cast nbuf0_2)
abbrev msd (hO : Ok m) (t : Fin (cfgM m hO).N) : Memref sig .tc .vmem S1x1x512x2048 .f32 := spec0_3.stage ((cfgM m hO).slots t 3)
abbrev hsd (hO : Ok m) (t : Fin (cfgM m hO).N) : (msd m hO t).IsWhole := hstage0_3 (((cfgM m hO).slots t 3).cast nbuf0_3)
abbrev mso (hO : Ok m) (t : Fin (cfgM m hO).N) : Memref sig .tc .vmem S1024x2048 .bf16 := spec0_4.stage ((cfgM m hO).slots t 4)
abbrev hso (hO : Ok m) (t : Fin (cfgM m hO).N) : (mso m hO t).IsWhole := hstage0_4 (((cfgM m hO).slots t 4).cast nbuf0_4)

/-- The two scratch buffers: the tile's rows and its running sum. -/
abbrev scU : Memref sig .tc .vmem S1024x2048 .bf16 := Memref.whole cc0_scratch0
abbrev scA : Memref sig .tc .vmem S1024x2048 .f32 := Memref.whole cc0_scratch1

/-- What the launch hands over of the scratch: both buffers at anything, and the generator's register. -/
theorem PhiA_eq (c : Dev nD) : (Pipeline.ΦA spec0 c : sProp 𝕄)
      = iprop(iprop((∃ d, owns (c : Thread nD τ) scU fullShare d) ∗ (∃ d, owns (c : Thread nD τ) scA fullShare d))
        ∗ (∃ r, prngReg c r)) := by
  unfold Pipeline.ΦA
  rw [scopedRest0_eq]
  simp only [scU, scA, owns_whole]
  try rfl

/-- The body at a point, on what the pipeline calls it with. -/
abbrev bodyAt (hO : Ok m) (t : Fin (cfgM m hO).N) : Prog (TpuEff nD τ sig (Elt F) Λ₀ .tc) PUnit :=
  cc0_moe_ffn (grid0.coords t) tbE (Memref.isWhole_whole _) tbR (Memref.isWhole_whole _) (msx m hO t) (hsx m hO t)
    (msg m hO t) (hsg m hO t) (msu m hO t) (hsu m hO t) (msd m hO t) (hsd m hO t) (mso m hO t) (hso m hO t)
    scU (Memref.isWhole_whole _) scA (Memref.isWhole_whole _)

/-- The argument arrays end unchanged, for any proof data that starts from the launched arrays. -/
theorem frame_of (hO : Ok m)
    (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3))⟩) h

end Cert.Kernel3Ideal.Moe
end
-- ==== Proof.Moe.Steps.lean ====
/- The body of the expert feed-forward call, statement by statement. -/
module

public import proofs.«01_k».proof.Proof.Moe.Base

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of rows in use, as the body reads it off its table. -/
abbrev rowsAt (c : Dev nD) (i : grid0.Coords) (n : TbBuf (F := F) c tbR) : BitVec 32 :=
  tbR.view.readAt (Elt F) (Rect.unit (s := S72) (k0_off1 i) S1.size (k0_off1_inb i)).toLoadRect n
    (Shape.Idx.first (numel1_S1.symm ▸ Nat.one_pos))

section runs
variable (c : Dev nD) (i : grid0.Coords) (mx : Memref sig .tc .vmem S1024x1024 .i32) (hx : mx.IsWhole) (mg : Memref sig .tc .vmem S1x1x2048x512 .f32) (hg : mg.IsWhole)
    (mu : Memref sig .tc .vmem S1x1x2048x512 .f32) (hu : mu.IsWhole) (md : Memref sig .tc .vmem S1x1x512x2048 .f32) (hd : md.IsWhole)
    (mo : Memref sig .tc .vmem S1024x2048 .bf16) (ho : mo.IsWhole)
    (x : Vec F S1024x1024 .i32) (g u : Vec F S1x1x2048x512 .f32) (d : Vec F S1x1x512x2048 .f32) (e : TbBuf (F := F) c tbE) (n : TbBuf (F := F) c tbR)

/-- What the body is called with beside the scratch: the inputs' blocks, the output block at anything, the tables. -/
abbrev held (o : Vec F S1024x2048 .bf16) : sProp 𝕄 :=
  iprop(owns (c : Thread nD τ) mx fullShare x ∗ owns (c : Thread nD τ) mg fullShare g ∗ owns (c : Thread nD τ) mu fullShare u
    ∗ owns (c : Thread nD τ) md fullShare d ∗ owns (c : Thread nD τ) mo fullShare o ∗ tbPt c tbE e ∗ tbPt c tbR n)

/-- The output block's buffer after the body: at a tile's last point with the pieces `LO` stored, otherwise as it was. -/
def outBuf (o : Vec F S1024x2048 .bf16) (LO : List (View.Piece (Elt F) S1024x2048 .bf16)) : Buf (Elt F) (mo.view.loc (c : Thread nD τ)) :=
  if _h : isLast i then mo.view.writes (Elt F) (ho.unread o) LO else ho.unread o

/-- What it leaves beside the scratch: the same, but at a tile's last point the output block with the pieces `LO` stored. -/
abbrev left (o : Vec F S1024x2048 .bf16) (LO : List (View.Piece (Elt F) S1024x2048 .bf16)) : sProp 𝕄 :=
  iprop(owns (c : Thread nD τ) mx fullShare x ∗ owns (c : Thread nD τ) mg fullShare g ∗ owns (c : Thread nD τ) mu fullShare u
    ∗ owns (c : Thread nD τ) md fullShare d
    ∗ (mo.view.loc (c : Thread nD τ) ↦[mo.view.set]{fullShare} outBuf c i mo ho o LO)
    ∗ tbPt c tbE e ∗ tbPt c tbR n)

/-- The body on these memrefs. -/
abbrev body : Prog (TpuEff nD τ sig (Elt F) Λ₀ .tc) PUnit :=
  cc0_moe_ffn i tbE (Memref.isWhole_whole _) tbR (Memref.isWhole_whole _) mx hx mg hg mu hu md hd mo ho
    scU (Memref.isWhole_whole _) scA (Memref.isWhole_whole _)

/-- At a tile's first point the body runs, whatever the scratch holds, and leaves the pieces `LU` and `LA` in it. -/
def RunsFirst (LO LU : List (View.Piece (Elt F) S1024x2048 .bf16)) (LA : List (View.Piece (Elt F) S1024x2048 .f32)) : Prop :=
  ∀ (o : Vec F S1024x2048 .bf16) (E : Set ℕ) (K : PUnit → sProp 𝕄),
    iprop(held c mx mg mu md mo x g u d e n o
        ∗ (∃ s, owns (c : Thread nD τ) scU fullShare s) ∗ (∃ s, owns (c : Thread nD τ) scA fullShare s)
        ∗ (iprop(left c i mx mg mu md mo ho x g u d e n o LO
            ∗ (∃ f, scU.view.loc (c : Thread nD τ) ↦[scU.view.set]{fullShare} scU.view.writes (Elt F) f LU)
            ∗ (∃ f, scA.view.loc (c : Thread nD τ) ↦[scA.view.set]{fullShare} scA.view.writes (Elt F) f LA)) -∗ K ⟨⟩))
      ⊢ wp frame (wpE (defs₀ (F := F)) Variants.none c none) E (body i mx hx mg hg mu hu md hd mo ho) K

/-- At a later point the body runs on the rows `r` and the sum `a` that it finds, keeps the rows and stores the pieces `LA` into
    the sum. -/
def RunsNext (r : Vec F S1024x2048 .bf16) (a : Vec F S1024x2048 .f32) (LO : List (View.Piece (Elt F) S1024x2048 .bf16))
    (LA : List (View.Piece (Elt F) S1024x2048 .f32)) : Prop :=
  ∀ (o : Vec F S1024x2048 .bf16) (E : Set ℕ) (K : PUnit → sProp 𝕄),
    iprop(held c mx mg mu md mo x g u d e n o
        ∗ owns (c : Thread nD τ) scU fullShare r ∗ owns (c : Thread nD τ) scA fullShare a
        ∗ (iprop(left c i mx mg mu md mo ho x g u d e n o LO ∗ owns (c : Thread nD τ) scU fullShare r
            ∗ (scA.view.loc (c : Thread nD τ) ↦[scA.view.set]{fullShare}
                scA.view.writes (Elt F) ((Memref.isWhole_whole _ : scA.IsWhole).unread a) LA)) -∗ K ⟨⟩))
      ⊢ wp frame (wpE (defs₀ (F := F)) Variants.none c none) E (body i mx hx mg hg mu hu md hd mo ho) K

set_option maxHeartbeats 1600000 in
/-- A tile's first point, no row in use: the pieces, found by running the body. -/
noncomputable def first0 (hf : isFirst i) (hb1 : ¬inBand 0#32 256#32 (rowsAt c i n)) (hb2 : ¬inBand 256#32 512#32 (rowsAt c i n)) (hb3 : ¬inBand 512#32 768#32 (rowsAt c i n)) (hb4 : ¬inBand 768#32 1024#32 (rowsAt c i n)) :
    Σ' (LO LU : List (View.Piece (Elt F) S1024x2048 .bf16)), { LA : List (View.Piece (Elt F) S1024x2048 .f32) //
      RunsFirst c i mx hx mg hg mu hu md hd mo ho x g u d e n LO LU LA } := by
  refine ⟨?_, ?_, ?_, fun o E K => ?_⟩
  rotate_left 3
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%sU, %fU, -, HU⟩, ⟨%sA, %fA, -, HA⟩, Hk⟩
  obtain rfl := hx.eq_unread hfx; obtain rfl := hg.eq_unread hfg; obtain rfl := hu.eq_unread hfu
  obtain rfl := hd.eq_unread hfd; obtain rfl := ho.eq_unread hfo
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]; · iexists _; iexact HU
  iexists _; iexact HA

set_option maxHeartbeats 1600000 in
/-- A later point, no row in use: the pieces, found by running the body. -/
noncomputable def next0 (r : Vec F S1024x2048 .bf16) (a : Vec F S1024x2048 .f32) (hf : ¬isFirst i) (hb1 : ¬inBand 0#32 256#32 (rowsAt c i n)) (hb2 : ¬inBand 256#32 512#32 (rowsAt c i n)) (hb3 : ¬inBand 512#32 768#32 (rowsAt c i n)) (hb4 : ¬inBand 768#32 1024#32 (rowsAt c i n)) :
    Σ' (LO : List (View.Piece (Elt F) S1024x2048 .bf16)), { LA : List (View.Piece (Elt F) S1024x2048 .f32) //
      RunsNext c i mx hx mg hg mu hu md hd mo ho x g u d e n r a LO LA } := by
  refine ⟨?_, [], fun o E K => ?_⟩
  rotate_left 1
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%fU, %hfU, HU⟩, ⟨%fA, %hfA, HA⟩, Hk⟩
  obtain rfl := hx.eq_unread hfx; obtain rfl := hg.eq_unread hfg; obtain rfl := hu.eq_unread hfu
  obtain rfl := hd.eq_unread hfd; obtain rfl := ho.eq_unread hfo
  obtain rfl := (Memref.isWhole_whole _ : scU.IsWhole).eq_unread hfU; obtain rfl := (Memref.isWhole_whole _ : scA.IsWhole).eq_unread hfA
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]
  · iexists _; isplitr; · ipureintro; exact (Memref.isWhole_whole _ : scU.IsWhole).read_unread _
    iexact HU
  iexact HA

set_option maxHeartbeats 1600000 in
/-- A tile's first point, up to 256 rows in use: the pieces, found by running the body. -/
noncomputable def first1 (hf : isFirst i) (hb1 : inBand 0#32 256#32 (rowsAt c i n)) (hb2 : ¬inBand 256#32 512#32 (rowsAt c i n)) (hb3 : ¬inBand 512#32 768#32 (rowsAt c i n)) (hb4 : ¬inBand 768#32 1024#32 (rowsAt c i n)) :
    Σ' (LO LU : List (View.Piece (Elt F) S1024x2048 .bf16)), { LA : List (View.Piece (Elt F) S1024x2048 .f32) //
      RunsFirst c i mx hx mg hg mu hu md hd mo ho x g u d e n LO LU LA } := by
  refine ⟨?_, ?_, ?_, fun o E K => ?_⟩
  rotate_left 3
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%sU, %fU, -, HU⟩, ⟨%sA, %fA, -, HA⟩, Hk⟩
  obtain rfl := hx.eq_unread hfx; obtain rfl := hg.eq_unread hfg; obtain rfl := hu.eq_unread hfu
  obtain rfl := hd.eq_unread hfd; obtain rfl := ho.eq_unread hfo
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]; · iexists _; iexact HU
  iexists _; iexact HA

set_option maxHeartbeats 1600000 in
/-- A later point, up to 256 rows in use: the pieces, found by running the body. -/
noncomputable def next1 (r : Vec F S1024x2048 .bf16) (a : Vec F S1024x2048 .f32) (hf : ¬isFirst i) (hb1 : inBand 0#32 256#32 (rowsAt c i n)) (hb2 : ¬inBand 256#32 512#32 (rowsAt c i n)) (hb3 : ¬inBand 512#32 768#32 (rowsAt c i n)) (hb4 : ¬inBand 768#32 1024#32 (rowsAt c i n)) :
    Σ' (LO : List (View.Piece (Elt F) S1024x2048 .bf16)), { LA : List (View.Piece (Elt F) S1024x2048 .f32) //
      RunsNext c i mx hx mg hg mu hu md hd mo ho x g u d e n r a LO LA } := by
  refine ⟨?_, ?_, fun o E K => ?_⟩
  rotate_left 2
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%fU, %hfU, HU⟩, ⟨%fA, %hfA, HA⟩, Hk⟩
  obtain rfl := hx.eq_unread hfx; obtain rfl := hg.eq_unread hfg; obtain rfl := hu.eq_unread hfu
  obtain rfl := hd.eq_unread hfd; obtain rfl := ho.eq_unread hfo
  obtain rfl := (Memref.isWhole_whole _ : scU.IsWhole).eq_unread hfU; obtain rfl := (Memref.isWhole_whole _ : scA.IsWhole).eq_unread hfA
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]
  · iexists _; isplitr; · ipureintro; exact (Memref.isWhole_whole _ : scU.IsWhole).read_unread _
    iexact HU
  iexact HA

set_option maxHeartbeats 1600000 in
/-- A tile's first point, 257 to 512 rows in use: the pieces, found by running the body. -/
noncomputable def first2 (hf : isFirst i) (hb1 : ¬inBand 0#32 256#32 (rowsAt c i n)) (hb2 : inBand 256#32 512#32 (rowsAt c i n)) (hb3 : ¬inBand 512#32 768#32 (rowsAt c i n)) (hb4 : ¬inBand 768#32 1024#32 (rowsAt c i n)) :
    Σ' (LO LU : List (View.Piece (Elt F) S1024x2048 .bf16)), { LA : List (View.Piece (Elt F) S1024x2048 .f32) //
      RunsFirst c i mx hx mg hg mu hu md hd mo ho x g u d e n LO LU LA } := by
  refine ⟨?_, ?_, ?_, fun o E K => ?_⟩
  rotate_left 3
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%sU, %fU, -, HU⟩, ⟨%sA, %fA, -, HA⟩, Hk⟩
  obtain rfl := hx.eq_unread hfx; obtain rfl := hg.eq_unread hfg; obtain rfl := hu.eq_unread hfu
  obtain rfl := hd.eq_unread hfd; obtain rfl := ho.eq_unread hfo
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]; · iexists _; iexact HU
  iexists _; iexact HA

set_option maxHeartbeats 1600000 in
/-- A later point, 257 to 512 rows in use: the pieces, found by running the body. -/
noncomputable def next2 (r : Vec F S1024x2048 .bf16) (a : Vec F S1024x2048 .f32) (hf : ¬isFirst i) (hb1 : ¬inBand 0#32 256#32 (rowsAt c i n)) (hb2 : inBand 256#32 512#32 (rowsAt c i n)) (hb3 : ¬inBand 512#32 768#32 (rowsAt c i n)) (hb4 : ¬inBand 768#32 1024#32 (rowsAt c i n)) :
    Σ' (LO : List (View.Piece (Elt F) S1024x2048 .bf16)), { LA : List (View.Piece (Elt F) S1024x2048 .f32) //
      RunsNext c i mx hx mg hg mu hu md hd mo ho x g u d e n r a LO LA } := by
  refine ⟨?_, ?_, fun o E K => ?_⟩
  rotate_left 2
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%fU, %hfU, HU⟩, ⟨%fA, %hfA, HA⟩, Hk⟩
  obtain rfl := hx.eq_unread hfx; obtain rfl := hg.eq_unread hfg; obtain rfl := hu.eq_unread hfu
  obtain rfl := hd.eq_unread hfd; obtain rfl := ho.eq_unread hfo
  obtain rfl := (Memref.isWhole_whole _ : scU.IsWhole).eq_unread hfU; obtain rfl := (Memref.isWhole_whole _ : scA.IsWhole).eq_unread hfA
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]
  · iexists _; isplitr; · ipureintro; exact (Memref.isWhole_whole _ : scU.IsWhole).read_unread _
    iexact HU
  iexact HA

set_option maxHeartbeats 1600000 in
/-- A tile's first point, 513 to 768 rows in use: the pieces, found by running the body. -/
noncomputable def first3 (hf : isFirst i) (hb1 : ¬inBand 0#32 256#32 (rowsAt c i n)) (hb2 : ¬inBand 256#32 512#32 (rowsAt c i n)) (hb3 : inBand 512#32 768#32 (rowsAt c i n)) (hb4 : ¬inBand 768#32 1024#32 (rowsAt c i n)) :
    Σ' (LO LU : List (View.Piece (Elt F) S1024x2048 .bf16)), { LA : List (View.Piece (Elt F) S1024x2048 .f32) //
      RunsFirst c i mx hx mg hg mu hu md hd mo ho x g u d e n LO LU LA } := by
  refine ⟨?_, ?_, ?_, fun o E K => ?_⟩
  rotate_left 3
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%sU, %fU, -, HU⟩, ⟨%sA, %fA, -, HA⟩, Hk⟩
  obtain rfl := hx.eq_unread hfx; obtain rfl := hg.eq_unread hfg; obtain rfl := hu.eq_unread hfu
  obtain rfl := hd.eq_unread hfd; obtain rfl := ho.eq_unread hfo
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]; · iexists _; iexact HU
  iexists _; iexact HA

set_option maxHeartbeats 1600000 in
/-- A later point, 513 to 768 rows in use: the pieces, found by running the body. -/
noncomputable def next3 (r : Vec F S1024x2048 .bf16) (a : Vec F S1024x2048 .f32) (hf : ¬isFirst i) (hb1 : ¬inBand 0#32 256#32 (rowsAt c i n)) (hb2 : ¬inBand 256#32 512#32 (rowsAt c i n)) (hb3 : inBand 512#32 768#32 (rowsAt c i n)) (hb4 : ¬inBand 768#32 1024#32 (rowsAt c i n)) :
    Σ' (LO : List (View.Piece (Elt F) S1024x2048 .bf16)), { LA : List (View.Piece (Elt F) S1024x2048 .f32) //
      RunsNext c i mx hx mg hg mu hu md hd mo ho x g u d e n r a LO LA } := by
  refine ⟨?_, ?_, fun o E K => ?_⟩
  rotate_left 2
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%fU, %hfU, HU⟩, ⟨%fA, %hfA, HA⟩, Hk⟩
  obtain rfl := hx.eq_unread hfx; obtain rfl := hg.eq_unread hfg; obtain rfl := hu.eq_unread hfu
  obtain rfl := hd.eq_unread hfd; obtain rfl := ho.eq_unread hfo
  obtain rfl := (Memref.isWhole_whole _ : scU.IsWhole).eq_unread hfU; obtain rfl := (Memref.isWhole_whole _ : scA.IsWhole).eq_unread hfA
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]
  · iexists _; isplitr; · ipureintro; exact (Memref.isWhole_whole _ : scU.IsWhole).read_unread _
    iexact HU
  iexact HA

set_option maxHeartbeats 1600000 in
/-- A tile's first point, 769 to 1024 rows in use: the pieces, found by running the body. -/
noncomputable def first4 (hf : isFirst i) (hb1 : ¬inBand 0#32 256#32 (rowsAt c i n)) (hb2 : ¬inBand 256#32 512#32 (rowsAt c i n)) (hb3 : ¬inBand 512#32 768#32 (rowsAt c i n)) (hb4 : inBand 768#32 1024#32 (rowsAt c i n)) :
    Σ' (LO LU : List (View.Piece (Elt F) S1024x2048 .bf16)), { LA : List (View.Piece (Elt F) S1024x2048 .f32) //
      RunsFirst c i mx hx mg hg mu hu md hd mo ho x g u d e n LO LU LA } := by
  refine ⟨?_, ?_, ?_, fun o E K => ?_⟩
  rotate_left 3
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%sU, %fU, -, HU⟩, ⟨%sA, %fA, -, HA⟩, Hk⟩
  obtain rfl := hx.eq_unread hfx; obtain rfl := hg.eq_unread hfg; obtain rfl := hu.eq_unread hfu
  obtain rfl := hd.eq_unread hfd; obtain rfl := ho.eq_unread hfo
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]; · iexists _; iexact HU
  iexists _; iexact HA

set_option maxHeartbeats 1600000 in
/-- A later point, 769 to 1024 rows in use: the pieces, found by running the body. -/
noncomputable def next4 (r : Vec F S1024x2048 .bf16) (a : Vec F S1024x2048 .f32) (hf : ¬isFirst i) (hb1 : ¬inBand 0#32 256#32 (rowsAt c i n)) (hb2 : ¬inBand 256#32 512#32 (rowsAt c i n)) (hb3 : ¬inBand 512#32 768#32 (rowsAt c i n)) (hb4 : inBand 768#32 1024#32 (rowsAt c i n)) :
    Σ' (LO : List (View.Piece (Elt F) S1024x2048 .bf16)), { LA : List (View.Piece (Elt F) S1024x2048 .f32) //
      RunsNext c i mx hx mg hg mu hu md hd mo ho x g u d e n r a LO LA } := by
  refine ⟨?_, ?_, fun o E K => ?_⟩
  rotate_left 2
  unfold held left body
  simp only [cc0_moe_ffn_eq_skeleton]
  unfold cc0_moe_ffn_skel
  simp only [k0_part1_eq_skeleton, k0_part2_eq_skeleton, k0_part3_eq_skeleton, k0_part4_eq_skeleton]
  unfold owns
  iintro ⟨⟨⟨%fx, %hfx, Hx⟩, ⟨%fg, %hfg, Hg⟩, ⟨%fu, %hfu, Hu⟩, ⟨%fd, %hfd, Hd⟩, ⟨%fo, %hfo, Ho⟩, He, Hn⟩, ⟨%fU, %hfU, HU⟩, ⟨%fA, %hfA, HA⟩, Hk⟩
  obtain rfl := hx.eq_unread hfx; obtain rfl := hg.eq_unread hfg; obtain rfl := hu.eq_unread hfu
  obtain rfl := hd.eq_unread hfd; obtain rfl := ho.eq_unread hfo
  obtain rfl := (Memref.isWhole_whole _ : scU.IsWhole).eq_unread hfU; obtain rfl := (Memref.isWhole_whole _ : scA.IsWhole).eq_unread hfA
  sl_exec (disch := first | sl_exact hf | sl_exact hb1 | sl_exact hb2 | sl_exact hb3 | sl_exact hb4)
  sl_step
  iapply Hk
  isplitl [Hx Hg Hu Hd Ho He Hn]
  · isplitl [Hx]
    · iexists _; isplitr; · ipureintro; exact hx.read_unread _
      iexact Hx
    isplitl [Hg]
    · iexists _; isplitr; · ipureintro; exact hg.read_unread _
      iexact Hg
    isplitl [Hu]
    · iexists _; isplitr; · ipureintro; exact hu.read_unread _
      iexact Hu
    isplitl [Hd]
    · iexists _; isplitr; · ipureintro; exact hd.read_unread _
      iexact Hd
    isplitl [Ho]; · unfold outBuf; iexact Ho
    isplitl [He]; · iexact He
    iexact Hn
  isplitl [HU]
  · iexists _; isplitr; · ipureintro; exact (Memref.isWhole_whole _ : scU.IsWhole).read_unread _
    iexact HU
  iexact HA

end runs

end Cert.Kernel3Ideal.Moe
end
-- ==== Proof.Moe.Frame.lean ====
/- The expert feed-forward call runs to its end and leaves its arguments alone. -/
module

public import proofs.«01_k».proof.Proof.Moe.Steps
public import Idealize.ShloMosaic.Lib.Claim

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word comparison behind a band, on the integers. -/
theorem inBand_iff (lo hi v : BitVec 32) : inBand lo hi v ↔ lo.toInt < v.toInt ∧ v.toInt ≤ hi.toInt := by
  unfold inBand
  rw [show Scalar.cmpi .sgt v lo = BitVec.ofBool (decide (lo.toInt < v.toInt)) from WordCmp.cmpi_sgt_eq v lo,
    show Scalar.cmpi .sle v hi = BitVec.ofBool (decide (v.toInt ≤ hi.toInt)) from WordCmp.cmpi_sle_eq v hi]
  by_cases h1 : lo.toInt < v.toInt <;> by_cases h2 : v.toInt ≤ hi.toInt <;> simp only [h1, h2] <;> decide

/-- A number of rows in one band is in no later one. -/
theorem band_later {lo hi lo' hi' v : BitVec 32} (h : inBand lo hi v) (hl : hi.toInt ≤ lo'.toInt) : ¬inBand lo' hi' v := by
  rw [inBand_iff] at h ⊢
  omega

section outs
variable (c : Dev nD) (i : grid0.Coords) (mx : Memref sig .tc .vmem S1024x1024 .i32) (hx : mx.IsWhole) (mg : Memref sig .tc .vmem S1x1x2048x512 .f32) (hg : mg.IsWhole)
    (mu : Memref sig .tc .vmem S1x1x2048x512 .f32) (hu : mu.IsWhole) (md : Memref sig .tc .vmem S1x1x512x2048 .f32) (hd : md.IsWhole)
    (mo : Memref sig .tc .vmem S1024x2048 .bf16) (ho : mo.IsWhole)
    (x : Vec F S1024x1024 .i32) (g u : Vec F S1x1x2048x512 .f32) (d : Vec F S1x1x512x2048 .f32) (e : TbBuf (F := F) c tbE) (n : TbBuf (F := F) c tbR)

/-- Every element of the shape lies in some piece. -/
abbrev Covers {el : EltTy} (L : List (View.Piece (Elt F) S1024x2048 el)) : Prop := ∀ y, ∃ p ∈ L, y ∈ p.1.set

/-- The pieces a tile's first point stores, whatever the number of rows in use. -/
def firstOut (hf : isFirst i) :
    { p : List (View.Piece (Elt F) S1024x2048 .bf16) × List (View.Piece (Elt F) S1024x2048 .bf16) × List (View.Piece (Elt F) S1024x2048 .f32) //
      RunsFirst c i mx hx mg hg mu hu md hd mo ho x g u d e n p.1 p.2.1 p.2.2 ∧ Covers p.1 ∧ Covers p.2.1 ∧ Covers p.2.2 } :=
  if h1 : inBand 0#32 256#32 (rowsAt c i n) then
    ⟨((first1 c i mx hx mg hg mu hu md hd mo ho x g u d e n  hf h1 (band_later h1 (by decide)) (band_later h1 (by decide)) (band_later h1 (by decide))).1, (first1 c i mx hx mg hg mu hu md hd mo ho x g u d e n  hf h1 (band_later h1 (by decide)) (band_later h1 (by decide)) (band_later h1 (by decide))).2.1, (first1 c i mx hx mg hg mu hu md hd mo ho x g u d e n  hf h1 (band_later h1 (by decide)) (band_later h1 (by decide)) (band_later h1 (by decide))).2.2.1), (first1 c i mx hx mg hg mu hu md hd mo ho x g u d e n  hf h1 (band_later h1 (by decide)) (band_later h1 (by decide)) (band_later h1 (by decide))).2.2.2,
      View.cover_of_wholeMem (first1 c i mx hx mg hg mu hu md hd mo ho x g u d e n  hf h1 (band_later h1 (by decide)) (band_later h1 (by decide)) (band_later h1 (by decide))).1 (by sl_whole_mem),
      View.cover_of_tiledL (first1 c i mx hx mg hg mu hu md hd mo ho x g u d e n  hf h1 (band_later h1 (by decide)) (band_later h1 (by decide)) (band_later h1 (by decide))).2.1 S1024x1024.size (by sl_kernel_rfl),
      View.cover_of_wholeMem (first1 c i mx hx mg hg mu hu md hd mo ho x g u d e n  hf h1 (band_later h1 (by decide)) (band_later h1 (by decide)) (band_later h1 (by decide))).2.2.1 (by sl_whole_mem)⟩
  else
  if h2 : inBand 256#32 512#32 (rowsAt c i n) then
    ⟨((first2 c i mx hx mg hg mu hu md hd mo ho x g u d e n  hf h1 h2 (band_later h2 (by decide)) (band_later h2 (by decide))).1, (first2 c i mx hx mg hg mu hu md hd mo ho x g u d e n  hf h1 h2 (band_later h2 (by decide)) (band_later h2 (by decide))).2.1, (first2 c i mx hx mg hg mu hu md hd mo ho x g u d e n  hf h1 h2 (band_later h2 (by decide)) (band_later h2 (by decide))).2.2.1), (first2 c i mx hx mg hg mu hu md hd mo ho x g u d e n  hf h1 h2 (band_later h2 (by decide)) (band_later h2 (by decide))).2.2.2,
      View.cover_of_wholeMem (first2 c i mx hx mg hg mu hu md hd mo ho x g u d e n  hf h1 h2 (band_later h2 (by decide)) (band_later h2 (by decide))).1 (by sl_whole_mem),
      View.cover_of_tiledL (first2 c i mx hx mg hg mu hu md hd mo ho x g u d e n  hf h1 h2 (band_later h2 (by decide)) (band_later h2 (by decide))).2.1 S1024x1024.size (by sl_kernel_rfl),
      View.cover_of_wholeMem (first2 c i mx hx mg hg mu hu md hd mo ho x g u d e n  hf h1 h2 (band_later h2 (by decide)) (band_later h2 (by decide))).2.2.1 (by sl_whole_mem)⟩
  else
  if h3 : inBand 512#32 768#32 (rowsAt c i n) then
    ⟨((first3 c i mx hx mg hg mu hu md hd mo ho x g u d e n  hf h1 h2 h3 (band_later h3 (by decide))).1, (first3 c i mx hx mg hg mu hu md hd mo ho x g u d e n  hf h1 h2 h3 (band_later h3 (by decide))).2.1, (first3 c i mx hx mg hg mu hu md hd mo ho x g u d e n  hf h1 h2 h3 (band_later h3 (by decide))).2.2.1), (first3 c i mx hx mg hg mu hu md hd mo ho x g u d e n  hf h1 h2 h3 (band_later h3 (by decide))).2.2.2,
      View.cover_of_wholeMem (first3 c i mx hx mg hg mu hu md hd mo ho x g u d e n  hf h1 h2 h3 (band_later h3 (by decide))).1 (by sl_whole_mem),
      View.cover_of_tiledL (first3 c i mx hx mg hg mu hu md hd mo ho x g u d e n  hf h1 h2 h3 (band_later h3 (by decide))).2.1 S1024x1024.size (by sl_kernel_rfl),
      View.cover_of_wholeMem (first3 c i mx hx mg hg mu hu md hd mo ho x g u d e n  hf h1 h2 h3 (band_later h3 (by decide))).2.2.1 (by sl_whole_mem)⟩
  else
  if h4 : inBand 768#32 1024#32 (rowsAt c i n) then
    ⟨((first4 c i mx hx mg hg mu hu md hd mo ho x g u d e n  hf h1 h2 h3 h4).1, (first4 c i mx hx mg hg mu hu md hd mo ho x g u d e n  hf h1 h2 h3 h4).2.1, (first4 c i mx hx mg hg mu hu md hd mo ho x g u d e n  hf h1 h2 h3 h4).2.2.1), (first4 c i mx hx mg hg mu hu md hd mo ho x g u d e n  hf h1 h2 h3 h4).2.2.2,
      View.cover_of_wholeMem (first4 c i mx hx mg hg mu hu md hd mo ho x g u d e n  hf h1 h2 h3 h4).1 (by sl_whole_mem),
      View.cover_of_tiledL (first4 c i mx hx mg hg mu hu md hd mo ho x g u d e n  hf h1 h2 h3 h4).2.1 S1024x1024.size (by sl_kernel_rfl),
      View.cover_of_wholeMem (first4 c i mx hx mg hg mu hu md hd mo ho x g u d e n  hf h1 h2 h3 h4).2.2.1 (by sl_whole_mem)⟩
  else
    ⟨((first0 c i mx hx mg hg mu hu md hd mo ho x g u d e n  hf h1 h2 h3 h4).1, (first0 c i mx hx mg hg mu hu md hd mo ho x g u d e n  hf h1 h2 h3 h4).2.1, (first0 c i mx hx mg hg mu hu md hd mo ho x g u d e n  hf h1 h2 h3 h4).2.2.1), (first0 c i mx hx mg hg mu hu md hd mo ho x g u d e n  hf h1 h2 h3 h4).2.2.2,
      View.cover_of_wholeMem (first0 c i mx hx mg hg mu hu md hd mo ho x g u d e n  hf h1 h2 h3 h4).1 (by sl_whole_mem),
      View.cover_of_tiledL (first0 c i mx hx mg hg mu hu md hd mo ho x g u d e n  hf h1 h2 h3 h4).2.1 S1024x1024.size (by sl_kernel_rfl),
      View.cover_of_wholeMem (first0 c i mx hx mg hg mu hu md hd mo ho x g u d e n  hf h1 h2 h3 h4).2.2.1 (by sl_whole_mem)⟩

/-- The pieces a later point stores, whatever the number of rows in use. -/
def nextOut (r : Vec F S1024x2048 .bf16) (a : Vec F S1024x2048 .f32) (hf : ¬isFirst i) :
    { p : List (View.Piece (Elt F) S1024x2048 .bf16) × List (View.Piece (Elt F) S1024x2048 .f32) //
      RunsNext c i mx hx mg hg mu hu md hd mo ho x g u d e n r a p.1 p.2 ∧ Covers p.1 } :=
  if h1 : inBand 0#32 256#32 (rowsAt c i n) then
    ⟨((next1 c i mx hx mg hg mu hu md hd mo ho x g u d e n r a hf h1 (band_later h1 (by decide)) (band_later h1 (by decide)) (band_later h1 (by decide))).1, (next1 c i mx hx mg hg mu hu md hd mo ho x g u d e n r a hf h1 (band_later h1 (by decide)) (band_later h1 (by decide)) (band_later h1 (by decide))).2.1), (next1 c i mx hx mg hg mu hu md hd mo ho x g u d e n r a hf h1 (band_later h1 (by decide)) (band_later h1 (by decide)) (band_later h1 (by decide))).2.2,
      View.cover_of_wholeMem (next1 c i mx hx mg hg mu hu md hd mo ho x g u d e n r a hf h1 (band_later h1 (by decide)) (band_later h1 (by decide)) (band_later h1 (by decide))).1 (by sl_whole_mem)⟩
  else
  if h2 : inBand 256#32 512#32 (rowsAt c i n) then
    ⟨((next2 c i mx hx mg hg mu hu md hd mo ho x g u d e n r a hf h1 h2 (band_later h2 (by decide)) (band_later h2 (by decide))).1, (next2 c i mx hx mg hg mu hu md hd mo ho x g u d e n r a hf h1 h2 (band_later h2 (by decide)) (band_later h2 (by decide))).2.1), (next2 c i mx hx mg hg mu hu md hd mo ho x g u d e n r a hf h1 h2 (band_later h2 (by decide)) (band_later h2 (by decide))).2.2,
      View.cover_of_wholeMem (next2 c i mx hx mg hg mu hu md hd mo ho x g u d e n r a hf h1 h2 (band_later h2 (by decide)) (band_later h2 (by decide))).1 (by sl_whole_mem)⟩
  else
  if h3 : inBand 512#32 768#32 (rowsAt c i n) then
    ⟨((next3 c i mx hx mg hg mu hu md hd mo ho x g u d e n r a hf h1 h2 h3 (band_later h3 (by decide))).1, (next3 c i mx hx mg hg mu hu md hd mo ho x g u d e n r a hf h1 h2 h3 (band_later h3 (by decide))).2.1), (next3 c i mx hx mg hg mu hu md hd mo ho x g u d e n r a hf h1 h2 h3 (band_later h3 (by decide))).2.2,
      View.cover_of_wholeMem (next3 c i mx hx mg hg mu hu md hd mo ho x g u d e n r a hf h1 h2 h3 (band_later h3 (by decide))).1 (by sl_whole_mem)⟩
  else
  if h4 : inBand 768#32 1024#32 (rowsAt c i n) then
    ⟨((next4 c i mx hx mg hg mu hu md hd mo ho x g u d e n r a hf h1 h2 h3 h4).1, (next4 c i mx hx mg hg mu hu md hd mo ho x g u d e n r a hf h1 h2 h3 h4).2.1), (next4 c i mx hx mg hg mu hu md hd mo ho x g u d e n r a hf h1 h2 h3 h4).2.2,
      View.cover_of_wholeMem (next4 c i mx hx mg hg mu hu md hd mo ho x g u d e n r a hf h1 h2 h3 h4).1 (by sl_whole_mem)⟩
  else
    ⟨((next0 c i mx hx mg hg mu hu md hd mo ho x g u d e n r a hf h1 h2 h3 h4).1, (next0 c i mx hx mg hg mu hu md hd mo ho x g u d e n r a hf h1 h2 h3 h4).2.1), (next0 c i mx hx mg hg mu hu md hd mo ho x g u d e n r a hf h1 h2 h3 h4).2.2,
      View.cover_of_wholeMem (next0 c i mx hx mg hg mu hu md hd mo ho x g u d e n r a hf h1 h2 h3 h4).1 (by sl_whole_mem)⟩

end outs

variable (m : (ℓ : Loc nD τ sig) → Buf (Elt F) ℓ) (ρ : Dev nD → PrngReg)

/-! ## What the points leave -/

/-- What a tile's first point stores. -/
abbrev firstAt (hO : Ok m) (c : Dev nD) (t : Fin (cfgM m hO).N) (hf : isFirst (grid0.coords t)) :=
  firstOut c (grid0.coords t) (msx m hO t) (hsx m hO t) (msg m hO t) (hsg m hO t) (msu m hO t) (hsu m hO t) (msd m hO t) (hsd m hO t)
    (mso m hO t) (hso m hO t) (iblk m hO c 0 t) (iblk m hO c 1 t) (iblk m hO c 2 t) (iblk m hO c 3 t) (tbl m 0) (tbl m 1) hf

/-- What a later point stores. -/
abbrev nextAt (hO : Ok m) (c : Dev nD) (t : Fin (cfgM m hO).N) (r : Vec F S1024x2048 .bf16) (a : Vec F S1024x2048 .f32)
    (hf : ¬isFirst (grid0.coords t)) :=
  nextOut c (grid0.coords t) (msx m hO t) (hsx m hO t) (msg m hO t) (hsg m hO t) (msu m hO t) (hsu m hO t) (msd m hO t) (hsd m hO t)
    (mso m hO t) (hso m hO t) (iblk m hO c 0 t) (iblk m hO c 1 t) (iblk m hO c 2 t) (iblk m hO c 3 t) (tbl m 0) (tbl m 1) r a hf

/-- The output block (as a last point would store it), the tile's rows and the sum, after a first point. -/
def afterFirst (hO : Ok m) (c : Dev nD) (t : Fin (cfgM m hO).N) (hf : isFirst (grid0.coords t)) :
    Vec F S1024x2048 .bf16 × Vec F S1024x2048 .bf16 × Vec F S1024x2048 .f32 :=
  ((mso m hO t).view.read (Elt F) ((mso m hO t).view.writes (Elt F) (mso m hO t).view.junk (firstAt m hO c t hf).1.1),
    scU.view.read (Elt F) (scU.view.writes (Elt F) scU.view.junk (firstAt m hO c t hf).1.2.1),
    scA.view.read (Elt F) (scA.view.writes (Elt F) scA.view.junk (firstAt m hO c t hf).1.2.2))

/-- The same after a later point, from what the point before left. -/
def afterNext (hO : Ok m) (c : Dev nD) (t : Fin (cfgM m hO).N) (r : Vec F S1024x2048 .bf16) (a : Vec F S1024x2048 .f32)
    (hf : ¬isFirst (grid0.coords t)) : Vec F S1024x2048 .bf16 × Vec F S1024x2048 .bf16 × Vec F S1024x2048 .f32 :=
  ((mso m hO t).view.read (Elt F) ((mso m hO t).view.writes (Elt F) (mso m hO t).view.junk (nextAt m hO c t r a hf).1.1),
    r,
    scA.view.read (Elt F) (scA.view.writes (Elt F) ((Memref.isWhole_whole _ : scA.IsWhole).unread a) (nextAt m hO c t r a hf).1.2))

/-- The output block, the tile's rows and the sum after each point. -/
def outs (hO : Ok m) (c : Dev nD) : (k : ℕ) → k < (cfgM m hO).N →
    Vec F S1024x2048 .bf16 × Vec F S1024x2048 .bf16 × Vec F S1024x2048 .f32
  | 0, h => afterFirst m hO c ⟨0, h⟩ ((isFirst_iff ⟨0, h⟩).mpr (Nat.zero_mod _))
  | k + 1, h =>
    if hf : isFirst (grid0.coords ⟨k + 1, h⟩) then afterFirst m hO c ⟨k + 1, h⟩ hf
    else afterNext m hO c ⟨k + 1, h⟩ (outs hO c k (Nat.lt_of_succ_lt h)).2.1 (outs hO c k (Nat.lt_of_succ_lt h)).2.2 hf

theorem outs_first (hO : Ok m) (c : Dev nD) (t : Fin (cfgM m hO).N) (hf : isFirst (grid0.coords t)) :
    outs m hO c t.val t.isLt = afterFirst m hO c t hf := by
  obtain ⟨k, h⟩ := t
  cases k with
  | zero => rfl
  | succ k => exact dif_pos hf

theorem pos_of_not_first (hO : Ok m) (t : Fin (cfgM m hO).N) (hf : ¬isFirst (grid0.coords t)) : t.val ≠ 0 := fun h =>
  hf ((isFirst_iff t).mpr (by rw [h]))

theorem outs_next (hO : Ok m) (c : Dev nD) (t : Fin (cfgM m hO).N) (hf : ¬isFirst (grid0.coords t)) :
    outs m hO c t.val t.isLt = afterNext m hO c t (outs m hO c (t.val - 1) (Nat.lt_of_le_of_lt (Nat.sub_le _ _) t.isLt)).2.1
      (outs m hO c (t.val - 1) (Nat.lt_of_le_of_lt (Nat.sub_le _ _) t.isLt)).2.2 hf := by
  obtain ⟨k, h⟩ := t
  cases k with
  | zero => exact absurd rfl (pos_of_not_first m hO ⟨0, h⟩ hf)
  | succ k => exact dif_neg hf

/-! ## The invariant and the proof data -/

/-- What the scratch holds before a point: anything before the first one, afterwards what the point before left. -/
def Inv (hO : Ok m) (c : Dev nD) : (k : ℕ) → k ≤ (cfgM m hO).N → sProp 𝕄
  | 0, _ => iprop(Pipeline.ΦA spec0 c ∗ Pipeline.ΦT pre0 (tbl m) c)
  | k + 1, h => iprop(iprop(iprop(owns (c : Thread nD τ) scU fullShare (outs m hO c k h).2.1
      ∗ owns (c : Thread nD τ) scA fullShare (outs m hO c k h).2.2) ∗ (∃ r, prngReg c r)) ∗ Pipeline.ΦT pre0 (tbl m) c)

theorem Inv_pos (hO : Ok m) (c : Dev nD) (k : ℕ) (h : k ≤ (cfgM m hO).N) (hz : k ≠ 0) :
    Inv m hO c k h = iprop(iprop(iprop(owns (c : Thread nD τ) scU fullShare (outs m hO c (k - 1) (by omega)).2.1
      ∗ owns (c : Thread nD τ) scA fullShare (outs m hO c (k - 1) (by omega)).2.2) ∗ (∃ r, prngReg c r)) ∗ Pipeline.ΦT pre0 (tbl m) c) := by
  cases k with
  | zero => exact absurd rfl hz
  | succ k => rfl

/-- Before any point the scratch holds something. -/
theorem Inv_any (hO : Ok m) (c : Dev nD) (k : ℕ) (h : k ≤ (cfgM m hO).N) :
    Inv m hO c k h ⊢ iprop(Pipeline.ΦA spec0 c ∗ Pipeline.ΦT pre0 (tbl m) c) := by
  cases k with
  | zero => exact .rfl
  | succ k =>
    rw [Inv_pos m hO c _ h (Nat.succ_ne_zero k), PhiA_eq]
    iintro ⟨⟨⟨HU, HA⟩, Hg⟩, HT⟩
    isplitl [HU HA Hg]
    · isplitl [HU HA]
      · isplitl [HU]
        · iexists _; iexact HU
        iexists _; iexact HA
      iexact Hg
    iexact HT

/-- The pipeline's proof data on a core: the launched arrays, the inputs' blocks left in place, the output block and the
    scratch as `outs` has them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outs m hO c t.val t.isLt).1
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem Inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t
theorem after_x (hO : Ok m) (c : Dev nD) (t : Fin (cfgM m hO).N) : (dats m hO 0 c).after 0 t = iblk m hO c 0 t := by
  dsimp only [dats]; try rfl
theorem after_wg (hO : Ok m) (c : Dev nD) (t : Fin (cfgM m hO).N) : (dats m hO 0 c).after 1 t = iblk m hO c 1 t := by
  dsimp only [dats]; try rfl
theorem after_wu (hO : Ok m) (c : Dev nD) (t : Fin (cfgM m hO).N) : (dats m hO 0 c).after 2 t = iblk m hO c 2 t := by
  dsimp only [dats]; try rfl
theorem after_wd (hO : Ok m) (c : Dev nD) (t : Fin (cfgM m hO).N) : (dats m hO 0 c).after 3 t = iblk m hO c 3 t := by
  dsimp only [dats]; try rfl
theorem after_o (hO : Ok m) (c : Dev nD) (t : Fin (cfgM m hO).N) :
    (dats m hO 0 c).after 4 t = (outs m hO c t.val t.isLt).1 := by
  dsimp only [dats]; try rfl

theorem found_x (hO : Ok m) (c : Dev nD) (t : Fin (cfgM m hO).N) (d) : (dats m hO 0 c).before 0 t d = iblk m hO c 0 t :=
  before_x m hO (dats m hO 0 c) (A_eq m hO c 0) (after_x m hO c) t d
theorem found_wg (hO : Ok m) (c : Dev nD) (t : Fin (cfgM m hO).N) (d) : (dats m hO 0 c).before 1 t d = iblk m hO c 1 t :=
  before_wg m hO (dats m hO 0 c) (A_eq m hO c 1) (after_wg m hO c) t d
theorem found_wu (hO : Ok m) (c : Dev nD) (t : Fin (cfgM m hO).N) (d) : (dats m hO 0 c).before 2 t d = iblk m hO c 2 t :=
  before_wu m hO (dats m hO 0 c) (A_eq m hO c 2) (after_wu m hO c) t d
theorem found_wd (hO : Ok m) (c : Dev nD) (t : Fin (cfgM m hO).N) (d) : (dats m hO 0 c).before 3 t d = iblk m hO c 3 t :=
  before_wd m hO (dats m hO 0 c) (A_eq m hO c 3) (after_wd m hO c) t d

theorem leaves_x (hO : Ok m) (c : Dev nD) (t : Fin (cfgM m hO).N) :
    (dats m hO 0 c).leavesExact 0 t = owns (c : Thread nD τ) (msx m hO t) fullShare (iblk m hO c 0 t) := by
  rw [← after_x]; unfold Dat.leavesExact; rw [(live_in m hO t).1]; try rfl
theorem leaves_wg (hO : Ok m) (c : Dev nD) (t : Fin (cfgM m hO).N) :
    (dats m hO 0 c).leavesExact 1 t = owns (c : Thread nD τ) (msg m hO t) fullShare (iblk m hO c 1 t) := by
  rw [← after_wg]; unfold Dat.leavesExact; rw [(live_in m hO t).2.1]; try rfl
theorem leaves_wu (hO : Ok m) (c : Dev nD) (t : Fin (cfgM m hO).N) :
    (dats m hO 0 c).leavesExact 2 t = owns (c : Thread nD τ) (msu m hO t) fullShare (iblk m hO c 2 t) := by
  rw [← after_wu]; unfold Dat.leavesExact; rw [(live_in m hO t).2.2.1]; try rfl
theorem leaves_wd (hO : Ok m) (c : Dev nD) (t : Fin (cfgM m hO).N) :
    (dats m hO 0 c).leavesExact 3 t = owns (c : Thread nD τ) (msd m hO t) fullShare (iblk m hO c 3 t) := by
  rw [← after_wd]; unfold Dat.leavesExact; rw [(live_in m hO t).2.2.2]; try rfl

/-- The output window ends a point as the pipeline asks: at a tile's last point with the covering pieces stored, elsewhere
    untouched. -/
theorem leaves_o (hO : Ok m) (c : Dev nD) (t : Fin (cfgM m hO).N) (d) (LO : List (View.Piece (Elt F) S1024x2048 .bf16)) (hc : Covers LO)
    (h : (outs m hO c t.val t.isLt).1
      = (mso m hO t).view.read (Elt F) ((mso m hO t).view.writes (Elt F) (mso m hO t).view.junk LO)) :
    ((mso m hO t).view.loc (c : Thread nD τ) ↦[(mso m hO t).view.set]{fullShare}
      outBuf c (grid0.coords t) (mso m hO t) (hso m hO t) ((dats m hO 0 c).before 4 t d) LO : sProp 𝕄)
      ⊢ (dats m hO 0 c).leavesExact 4 t := by
  by_cases hl : isLast (grid0.coords t)
  · rw [show outBuf c (grid0.coords t) (mso m hO t) (hso m hO t) ((dats m hO 0 c).before 4 t d) LO
        = (mso m hO t).view.writes (Elt F) ((hso m hO t).unread ((dats m hO 0 c).before 4 t d)) LO from dif_pos hl,
      show (dats m hO 0 c).leavesExact 4 t = owns (c : Thread nD τ) (mso m hO t) fullShare ((dats m hO 0 c).after 4 t) from by
        unfold Dat.leavesExact; rw [live_out m hO t hl]; try rfl, after_o, h]
    unfold owns
    iintro H
    iexists _; isplitr
    swap; · iexact H
    ipureintro
    exact View.read_writes_of_cover _ _ _ _ _ hc
  · rw [show outBuf c (grid0.coords t) (mso m hO t) (hso m hO t) ((dats m hO 0 c).before 4 t d) LO
        = (hso m hO t).unread ((dats m hO 0 c).before 4 t d) from dif_neg hl,
      Dat.leavesExact_idle (dats m hO 0 c) 4 t (idle_out m hO t hl) (noFlush_out m hO t hl)]
    unfold owns
    iintro H
    iexists d
    iexists _; isplitr
    swap; · iexact H
    ipureintro
    exact (hso m hO t).read_unread _

/-! ## The body at a point -/

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (msx m hO t) fullShare ((dats m hO 0 c).before 0 t d))
    ∗ (∃ d, owns (c : Thread nD τ) (msg m hO t) fullShare ((dats m hO 0 c).before 1 t d))
    ∗ (∃ d, owns (c : Thread nD τ) (msu m hO t) fullShare ((dats m hO 0 c).before 2 t d))
    ∗ (∃ d, owns (c : Thread nD τ) (msd m hO t) fullShare ((dats m hO 0 c).before 3 t d))
    ∗ (∃ d, owns (c : Thread nD τ) (mso m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t)

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [found_x, found_wg, found_wu, found_wd]
  rw [leaves_x, leaves_wg, leaves_wu, leaves_wd]
  rw [show (dats m hO 0 c).owesAt () t.succ = (dats m hO 0 c).owesAt () t.castSucc from rfl]
  rw [show (dats m hO 0 c).Φ t.succ = Inv m hO c (t.val + 1) t.isLt from rfl, Inv_pos m hO c _ _ (Nat.succ_ne_zero _), PhiT_eq,
    Inv_castSucc m hO c t]
  by_cases hf : isFirst (grid0.coords t)
  · refine (sep_mono_left (Inv_any m hO c _ _)).trans ?_
    rw [PhiA_eq, PhiT_eq]
    iintro ⟨⟨⟨⟨HU, HA⟩, Hg⟩, ⟨He, Hn⟩⟩, Hw, ⟨%d0, H0⟩, ⟨%d1, H1⟩, ⟨%d2, H2⟩, ⟨%d3, H3⟩, ⟨%d4, H4⟩⟩
    iapply ((firstAt m hO c t hf).2.1 _ Set.univ _)
    isplitl [H0 H1 H2 H3 H4 He Hn]
    · isplitl [H0]; · iexact H0
      isplitl [H1]; · iexact H1
      isplitl [H2]; · iexact H2
      isplitl [H3]; · iexact H3
      isplitl [H4]; · iexact H4
      isplitl [He]; · iexact He
      iexact Hn
    isplitl [HU]; · iexact HU
    isplitl [HA]; · iexact HA
    iintro ⟨⟨H0, H1, H2, H3, H4, He, Hn⟩, ⟨%fU, HU⟩, ⟨%fA, HA⟩⟩
    isplitl [HU HA Hg He Hn]
    · isplitl [HU HA Hg]
      · isplitl [HU HA]
        · rw [show outs m hO c (t.val + 1 - 1) _ = afterFirst m hO c t hf from outs_first m hO c t hf]
          isplitl [HU]
          · unfold owns; iexists _; isplitr
            swap; · iexact HU
            ipureintro; exact View.read_writes_of_cover scU.view fU scU.view scU.view.junk _ (firstAt m hO c t hf).2.2.2.1
          unfold owns; iexists _; isplitr
          swap; · iexact HA
          ipureintro; exact View.read_writes_of_cover scA.view fA scA.view scA.view.junk _ (firstAt m hO c t hf).2.2.2.2
        iexact Hg
      isplitl [He]; · iexact He
      iexact Hn
    isplitl [Hw]; · iexact Hw
    isplitl [H0]; · iexact H0
    isplitl [H1]; · iexact H1
    isplitl [H2]; · iexact H2
    isplitl [H3]; · iexact H3
    iapply (leaves_o m hO c t d4 _ (firstAt m hO c t hf).2.2.1 (by rw [outs_first m hO c t hf]; rfl))
    iexact H4
  · rw [Inv_pos m hO c _ _ (pos_of_not_first m hO t hf), PhiT_eq]
    iintro ⟨⟨⟨⟨HU, HA⟩, Hg⟩, ⟨He, Hn⟩⟩, Hw, ⟨%d0, H0⟩, ⟨%d1, H1⟩, ⟨%d2, H2⟩, ⟨%d3, H3⟩, ⟨%d4, H4⟩⟩
    iapply ((nextAt m hO c t _ _ hf).2.1 _ Set.univ _)
    isplitl [H0 H1 H2 H3 H4 He Hn]
    · isplitl [H0]; · iexact H0
      isplitl [H1]; · iexact H1
      isplitl [H2]; · iexact H2
      isplitl [H3]; · iexact H3
      isplitl [H4]; · iexact H4
      isplitl [He]; · iexact He
      iexact Hn
    isplitl [HU]; · iexact HU
    isplitl [HA]; · iexact HA
    iintro ⟨⟨H0, H1, H2, H3, H4, He, Hn⟩, HU, HA⟩
    isplitl [HU HA Hg He Hn]
    · isplitl [HU HA Hg]
      · isplitl [HU HA]
        · rw [show outs m hO c (t.val + 1 - 1) _ = afterNext m hO c t _ _ hf from outs_next m hO c t hf]
          isplitl [HU]; · iexact HU
          unfold owns; iexists _; isplitr
          swap; · iexact HA
          ipureintro; rfl
        iexact Hg
      isplitl [He]; · iexact He
      iexact Hn
    isplitl [Hw]; · iexact Hw
    isplitl [H0]; · iexact H0
    isplitl [H1]; · iexact H1
    isplitl [H2]; · iexact H2
    isplitl [H3]; · iexact H3
    iapply (leaves_o m hO c t d4 _ (nextAt m hO c t _ _ hf).2.2 (by rw [outs_next m hO c t hf]; rfl))
    iexact H4

/-- The body table's row at a point is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body keeps its obligation at every point. -/
theorem body_obligation (hO : Ok m) (c : Dev nD) :
    BodyObligation (dats (F := F) m hO 0 c) (defs₀ (F := F)) Variants.none () Set.univ := fun t => by
  rw [bigSep_W0, bigSep_W0, defs₀_row m hO]
  exact triple_restated (sound_body m hO c t) rfl .rfl fun _ => .rfl

/-- After the last point the scratch is given back. -/
theorem hout (hO : Ok m) (c : Dev nD) : (dats m hO 0 c).Φ (Fin.last (cfgM m hO).N) ⊢ Pipeline.ΦA spec0 c := by
  refine (Inv_any m hO c _ (Nat.le_refl _)).trans ?_
  iintro ⟨H, -⟩
  iexact H

/-! ## The run and the frame -/

set_option backward.isDefEq.respectTransparency.types false in
/-- Every run ends, with every array of the pipeline at what the proof data says and every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun _ => .rfl)
    (hout := hout m hO)

/-- The same without the counters. -/
theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

/-- The frame, for tables that place every block inside its array: every run ends, the arguments unchanged and the counters at
    zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO))
    ((θ_run defs _ _).mono (fun _ h => h.2) (run_main_quiescent m ρ hO))

end Cert.Kernel3Ideal.Moe
end
-- ==== Proof.Moe.Pieces.lean ====
/- What the expert feed-forward call's points store, written once for every number of rows in use. -/
module

public import proofs.«01_k».proof.Proof.Moe.Frame

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the points store, written once -/

/-- One row block's update: the block's sum so far and the products of the gated hidden units with the down weights. -/
def step (g u : Vec F S1x1x2048x512 .f32) (d : Vec F S1x1x512x2048 .f32) (ul : Vec F S256x2048 .bf16) (al : Vec F S256x2048 .f32) :
    FVec F S256x2048 .f32 := k0_pay5 (k0_pay16 d) (k0_pay17 g u ul) al

section
variable (c : Dev nD) (i : grid0.Coords) (mx : Memref sig .tc .vmem S1024x1024 .i32) (hx : mx.IsWhole) (mg : Memref sig .tc .vmem S1x1x2048x512 .f32) (hg : mg.IsWhole)
    (mu : Memref sig .tc .vmem S1x1x2048x512 .f32) (hu : mu.IsWhole) (md : Memref sig .tc .vmem S1x1x512x2048 .f32) (hd : md.IsWhole)
    (mo : Memref sig .tc .vmem S1024x2048 .bf16) (ho : mo.IsWhole)
    (x : Vec F S1024x1024 .i32) (g u : Vec F S1x1x2048x512 .f32) (d : Vec F S1x1x512x2048 .f32) (e : TbBuf (F := F) c tbE) (n : TbBuf (F := F) c tbR)
    (r : Vec F S1024x2048 .bf16) (a : Vec F S1024x2048 .f32)

/-- The buffers that hold the carried rows and the running sum. -/
abbrev UBuf : Type := Buf (Elt F) (scU.view.loc (c : Thread nD τ))
abbrev ABuf : Type := Buf (Elt F) (scA.view.loc (c : Thread nD τ))

/-- The rows from `o` on, as a rectangle of 256 rows. -/
abbrev Band (o : ℕ) : Prop := ∀ k : Fin 2, (![o, 0] : Fin 2 → ℕ) k + (![256, 2048] : Fin 2 → ℕ) k ≤ S1024x2048.size k

/-- Row block `o` updated from the rows in `fU` and the sum in `fA`, on top of the pieces `L`. -/
def update (fU : UBuf (F := F) c) (fA : ABuf (F := F) c) (o : ℕ) (inb : Band o) (L : List (View.Piece (Elt F) S1024x2048 .f32)) :
    List (View.Piece (Elt F) S1024x2048 .f32) :=
  ⟨Rect.unit (s := S1024x2048) ![o, 0] ![256, 2048] inb,
    step (View.readAt (Elt F) mg.view (Rect.unit (s := S1x1x2048x512) ![0, 0, 0, 0] S1x1x2048x512.size inb_S1x1x2048x512_S1x1x2048x512_0_0_0_0).toLoadRect (hg.unread g))
      (View.readAt (Elt F) mu.view (Rect.unit (s := S1x1x2048x512) ![0, 0, 0, 0] S1x1x2048x512.size inb_S1x1x2048x512_S1x1x2048x512_0_0_0_0).toLoadRect (hu.unread u))
      (View.readAt (Elt F) md.view (Rect.unit (s := S1x1x512x2048) ![0, 0, 0, 0] S1x1x512x2048.size inb_S1x1x512x2048_S1x1x512x2048_0_0_0_0).toLoadRect (hd.unread d))
      (View.readAt (Elt F) scU.view (Rect.unit (s := S1024x2048) ![o, 0] ![256, 2048] inb).toLoadRect fU)
      (View.readAt (Elt F) scA.view (Rect.unit (s := S1024x2048) ![o, 0] ![256, 2048] inb).toLoadRect fA)⟩ :: L

/-- The rows of a tile's first point: the two halves of the columns, from the words' low and high halves. -/
def rowPieces : List (View.Piece (Elt F) S1024x2048 .bf16) :=
  [⟨Rect.unit (s := S1024x2048) ![0, 1024] ![1024, 1024] inb_S1024x2048_S1024x1024_0_1024,
      k0_pay2 (View.readAt (Elt F) mx.view (Rect.unit (s := S1024x1024) ![0, 0] S1024x1024.size inb_S1024x1024_S1024x1024_0_0).toLoadRect (hx.unread x))⟩,
    ⟨Rect.unit (s := S1024x2048) ![0, 0] ![1024, 1024] inb_S1024x2048_S1024x1024_0_0,
      k0_pay1 (View.readAt (Elt F) mx.view (Rect.unit (s := S1024x1024) ![0, 0] S1024x1024.size inb_S1024x1024_S1024x1024_0_0).toLoadRect (hx.unread x))⟩]

/-- The sum a tile's first point starts from. -/
def zeroPiece : List (View.Piece (Elt F) S1024x2048 .f32) :=
  [⟨Rect.unit (s := S1024x2048) ![0, 0] ![1024, 2048] inb_S1024x2048_S1024x2048_0_0, k0_pay3 (F := F)⟩]

/-- The output block's only piece: the running sum. -/
def outPiece (fA : ABuf (F := F) c) : List (View.Piece (Elt F) S1024x2048 .bf16) :=
  [⟨Rect.unit (s := S1024x2048) ![0, 0] ![1024, 2048] inb_S1024x2048_S1024x2048_0_0,
    k0_pay13 (View.readAt (Elt F) scA.view (Rect.unit (s := S1024x2048) ![0, 0] ![1024, 2048] inb_S1024x2048_S1024x2048_0_0).toLoadRect fA)⟩]

/-- The row blocks, numbered. -/
theorem band (k : Fin 4) : Band (256 * k.val) := by
  revert k; decide

/-- The pieces of the running sum after a first point with `k` row blocks in use, -/
def firstSum : (k : ℕ) → k ≤ 4 → List (View.Piece (Elt F) S1024x2048 .f32)
  | 0, _ => zeroPiece
  | k + 1, h => update c mg hg mu hu md hd g u d (scU.view.writes (Elt F) scU.view.junk (rowPieces mx hx x))
      (scA.view.writes (Elt F) scA.view.junk (firstSum k (Nat.le_of_succ_le h))) (256 * k) (band ⟨k, h⟩) (firstSum k (Nat.le_of_succ_le h))

/-- and after a later one. -/
def nextSum : (k : ℕ) → k ≤ 4 → List (View.Piece (Elt F) S1024x2048 .f32)
  | 0, _ => []
  | k + 1, h => update c mg hg mu hu md hd g u d ((Memref.isWhole_whole _ : scU.IsWhole).unread r)
      ((Memref.isWhole_whole _ : scA.IsWhole).unread a) (256 * k) (band ⟨k, h⟩) (nextSum k (Nat.le_of_succ_le h))

end

section
variable (c : Dev nD) (i : grid0.Coords) (mx : Memref sig .tc .vmem S1024x1024 .i32) (hx : mx.IsWhole) (mg : Memref sig .tc .vmem S1x1x2048x512 .f32) (hg : mg.IsWhole)
    (mu : Memref sig .tc .vmem S1x1x2048x512 .f32) (hu : mu.IsWhole) (md : Memref sig .tc .vmem S1x1x512x2048 .f32) (hd : md.IsWhole)
    (mo : Memref sig .tc .vmem S1024x2048 .bf16) (ho : mo.IsWhole)
    (x : Vec F S1024x1024 .i32) (g u : Vec F S1x1x2048x512 .f32) (d : Vec F S1x1x512x2048 .f32) (e : TbBuf (F := F) c tbE) (n : TbBuf (F := F) c tbR)
    (r : Vec F S1024x2048 .bf16) (a : Vec F S1024x2048 .f32)

/-! ## Each case stores those pieces -/

theorem first0_eq (hf) (h1) (h2) (h3) (h4) : (first0 c i mx hx mg hg mu hu md hd mo ho x g u d e n hf h1 h2 h3 h4).2.2.1 = firstSum c mx hx mg hg mu hu md hd x g u d 0 (by omega)
    ∧ (first0 c i mx hx mg hg mu hu md hd mo ho x g u d e n hf h1 h2 h3 h4).2.1 = rowPieces mx hx x
    ∧ (first0 c i mx hx mg hg mu hu md hd mo ho x g u d e n hf h1 h2 h3 h4).1 = outPiece c (scA.view.writes (Elt F) scA.view.junk (first0 c i mx hx mg hg mu hu md hd mo ho x g u d e n hf h1 h2 h3 h4).2.2.1) := by
  refine ⟨?_, ?_, ?_⟩ <;> rfl

theorem next0_eq (hf) (h1) (h2) (h3) (h4) : (next0 c i mx hx mg hg mu hu md hd mo ho x g u d e n r a hf h1 h2 h3 h4).2.1 = nextSum c mg hg mu hu md hd g u d r a 0 (by omega)
    ∧ (next0 c i mx hx mg hg mu hu md hd mo ho x g u d e n r a hf h1 h2 h3 h4).1 = outPiece c (scA.view.writes (Elt F) ((Memref.isWhole_whole _ : scA.IsWhole).unread a) (next0 c i mx hx mg hg mu hu md hd mo ho x g u d e n r a hf h1 h2 h3 h4).2.1) := by
  refine ⟨?_, ?_⟩ <;> rfl

theorem first1_eq (hf) (h1) (h2) (h3) (h4) : (first1 c i mx hx mg hg mu hu md hd mo ho x g u d e n hf h1 h2 h3 h4).2.2.1 = firstSum c mx hx mg hg mu hu md hd x g u d 1 (by omega)
    ∧ (first1 c i mx hx mg hg mu hu md hd mo ho x g u d e n hf h1 h2 h3 h4).2.1 = rowPieces mx hx x
    ∧ (first1 c i mx hx mg hg mu hu md hd mo ho x g u d e n hf h1 h2 h3 h4).1 = outPiece c (scA.view.writes (Elt F) scA.view.junk (first1 c i mx hx mg hg mu hu md hd mo ho x g u d e n hf h1 h2 h3 h4).2.2.1) := by
  refine ⟨?_, ?_, ?_⟩ <;> rfl

theorem next1_eq (hf) (h1) (h2) (h3) (h4) : (next1 c i mx hx mg hg mu hu md hd mo ho x g u d e n r a hf h1 h2 h3 h4).2.1 = nextSum c mg hg mu hu md hd g u d r a 1 (by omega)
    ∧ (next1 c i mx hx mg hg mu hu md hd mo ho x g u d e n r a hf h1 h2 h3 h4).1 = outPiece c (scA.view.writes (Elt F) ((Memref.isWhole_whole _ : scA.IsWhole).unread a) (next1 c i mx hx mg hg mu hu md hd mo ho x g u d e n r a hf h1 h2 h3 h4).2.1) := by
  refine ⟨?_, ?_⟩ <;> rfl

theorem first2_eq (hf) (h1) (h2) (h3) (h4) : (first2 c i mx hx mg hg mu hu md hd mo ho x g u d e n hf h1 h2 h3 h4).2.2.1 = firstSum c mx hx mg hg mu hu md hd x g u d 2 (by omega)
    ∧ (first2 c i mx hx mg hg mu hu md hd mo ho x g u d e n hf h1 h2 h3 h4).2.1 = rowPieces mx hx x
    ∧ (first2 c i mx hx mg hg mu hu md hd mo ho x g u d e n hf h1 h2 h3 h4).1 = outPiece c (scA.view.writes (Elt F) scA.view.junk (first2 c i mx hx mg hg mu hu md hd mo ho x g u d e n hf h1 h2 h3 h4).2.2.1) := by
  refine ⟨?_, ?_, ?_⟩ <;> rfl

theorem next2_eq (hf) (h1) (h2) (h3) (h4) : (next2 c i mx hx mg hg mu hu md hd mo ho x g u d e n r a hf h1 h2 h3 h4).2.1 = nextSum c mg hg mu hu md hd g u d r a 2 (by omega)
    ∧ (next2 c i mx hx mg hg mu hu md hd mo ho x g u d e n r a hf h1 h2 h3 h4).1 = outPiece c (scA.view.writes (Elt F) ((Memref.isWhole_whole _ : scA.IsWhole).unread a) (next2 c i mx hx mg hg mu hu md hd mo ho x g u d e n r a hf h1 h2 h3 h4).2.1) := by
  refine ⟨?_, ?_⟩ <;> rfl

theorem first3_eq (hf) (h1) (h2) (h3) (h4) : (first3 c i mx hx mg hg mu hu md hd mo ho x g u d e n hf h1 h2 h3 h4).2.2.1 = firstSum c mx hx mg hg mu hu md hd x g u d 3 (by omega)
    ∧ (first3 c i mx hx mg hg mu hu md hd mo ho x g u d e n hf h1 h2 h3 h4).2.1 = rowPieces mx hx x
    ∧ (first3 c i mx hx mg hg mu hu md hd mo ho x g u d e n hf h1 h2 h3 h4).1 = outPiece c (scA.view.writes (Elt F) scA.view.junk (first3 c i mx hx mg hg mu hu md hd mo ho x g u d e n hf h1 h2 h3 h4).2.2.1) := by
  refine ⟨?_, ?_, ?_⟩ <;> rfl

theorem next3_eq (hf) (h1) (h2) (h3) (h4) : (next3 c i mx hx mg hg mu hu md hd mo ho x g u d e n r a hf h1 h2 h3 h4).2.1 = nextSum c mg hg mu hu md hd g u d r a 3 (by omega)
    ∧ (next3 c i mx hx mg hg mu hu md hd mo ho x g u d e n r a hf h1 h2 h3 h4).1 = outPiece c (scA.view.writes (Elt F) ((Memref.isWhole_whole _ : scA.IsWhole).unread a) (next3 c i mx hx mg hg mu hu md hd mo ho x g u d e n r a hf h1 h2 h3 h4).2.1) := by
  refine ⟨?_, ?_⟩ <;> rfl

theorem first4_eq (hf) (h1) (h2) (h3) (h4) : (first4 c i mx hx mg hg mu hu md hd mo ho x g u d e n hf h1 h2 h3 h4).2.2.1 = firstSum c mx hx mg hg mu hu md hd x g u d 4 (by omega)
    ∧ (first4 c i mx hx mg hg mu hu md hd mo ho x g u d e n hf h1 h2 h3 h4).2.1 = rowPieces mx hx x
    ∧ (first4 c i mx hx mg hg mu hu md hd mo ho x g u d e n hf h1 h2 h3 h4).1 = outPiece c (scA.view.writes (Elt F) scA.view.junk (first4 c i mx hx mg hg mu hu md hd mo ho x g u d e n hf h1 h2 h3 h4).2.2.1) := by
  refine ⟨?_, ?_, ?_⟩ <;> rfl

theorem next4_eq (hf) (h1) (h2) (h3) (h4) : (next4 c i mx hx mg hg mu hu md hd mo ho x g u d e n r a hf h1 h2 h3 h4).2.1 = nextSum c mg hg mu hu md hd g u d r a 4 (by omega)
    ∧ (next4 c i mx hx mg hg mu hu md hd mo ho x g u d e n r a hf h1 h2 h3 h4).1 = outPiece c (scA.view.writes (Elt F) scA.view.junk (next4 c i mx hx mg hg mu hu md hd mo ho x g u d e n r a hf h1 h2 h3 h4).2.1) := by
  refine ⟨?_, ?_⟩ <;> rfl

end

end Cert.Kernel3Ideal.Moe
end
-- ==== Proof.Moe.Math.lean ====
/- One expert's feed-forward of a row, as mathematics. -/
module

public import proofs.«01_k».proof.Proof.Ffn.Math
public import Idealize.ShloMosaic.Lib.Pointwise

@[expose] public section

noncomputable section

namespace Cert.Moe

open Idealize.ShloMosaic
open Cert.Ffn (hiddenUnit)

/-- A pattern with sixteen zeros appended keeps its sign and exponent, and its fraction is scaled by 2^16: the wide format reads it as
    the narrow one reads the pattern. -/
theorem ofBits_append (h : BitVec 16) (b : BitVec 32) (hb : b = h ++ 0#16) : Ideal.ofBits .f32 b = Ideal.ofBits .bf16 h := by
  have e1 : b.extractLsb' 31 1 = h.extractLsb' 15 1 := by
    subst hb
    ext i hi
    simp only [BitVec.getElem_extractLsb', BitVec.getLsbD_append]
    rw [if_neg (by omega)]
    congr 1
    omega
  have e2 : b.extractLsb' 23 8 = h.extractLsb' 7 8 := by
    subst hb
    ext i hi
    simp only [BitVec.getElem_extractLsb', BitVec.getLsbD_append]
    rw [if_neg (by omega)]
    congr 1
    omega
  have e3 : (b.extractLsb' 0 23).toNat = (h.extractLsb' 0 7).toNat * 2 ^ 16 := by
    subst hb
    simp only [BitVec.extractLsb'_toNat, BitVec.toNat_append, BitVec.toNat_ofNat, Nat.shiftRight_zero, Nat.shiftLeft_eq]
    have := h.isLt
    simp only [Nat.zero_mod, Nat.or_zero]
    omega
  have p1 : (2 : ℝ) ^ (1 - (2 ^ (8 - 1) - 1) - (7 : ℕ) : ℤ) = 2 ^ 16 * (2 : ℝ) ^ (1 - (2 ^ (8 - 1) - 1) - (23 : ℕ) : ℤ) := by norm_num
  have p2 : ∀ E : ℤ, (2 : ℝ) ^ (E - (2 ^ (8 - 1) - 1) - (7 : ℕ) : ℤ) = 2 ^ 16 * (2 : ℝ) ^ (E - (2 ^ (8 - 1) - 1) - (23 : ℕ) : ℤ) := fun E => by
    rw [show (E - (2 ^ (8 - 1) - 1) - (7 : ℕ) : ℤ) = 16 + (E - (2 ^ (8 - 1) - 1) - (23 : ℕ)) from by norm_num; ring, zpow_add₀ two_ne_zero]
    norm_num
  show Ideal.ieee 8 23 b = Ideal.ieee 8 7 h
  unfold Ideal.ieee
  simp only [show 8 + 23 = 31 from rfl, show 8 + 7 = 15 from rfl, e1, e2, e3]
  split_ifs with c1 c2 c3 c4 c5 <;> first
    | rfl
    | omega
    | (refine congrArg _ ?_
       first | rw [p1] | rw [p2]
       push_cast
       ring)

/-- The number in a word's low half or high half. -/
def half (w : BitVec 32) (h : Fin 2) : EReal := Ideal.ofBits .bf16 (w.extractLsb' (h.val * 16) 16)

/-- Shifting a word left by sixteen leaves its low half's number, -/
theorem half_low (w : BitVec 32) : half w 0 = Ideal.ofBits .f32 (w <<< 16) := by
  refine (ofBits_append _ _ (BitVec.eq_of_getLsbD_eq fun i hi => ?_)).symm
  rw [BitVec.getLsbD_append, BitVec.getLsbD_shiftLeft, BitVec.getLsbD_extractLsb']
  by_cases h : i < 16
  · simp [h]
  · have h2 : i - 16 < 16 := by omega
    simp [h, hi, h2]

/-- and masking its low half leaves its high half's. -/
theorem half_high (w : BitVec 32) : half w 1 = Ideal.ofBits .f32 (w &&& 4294901760#32) := by
  refine (ofBits_append _ _ (BitVec.eq_of_getLsbD_eq fun i hi => ?_)).symm
  have hm : (4294901760#32 : BitVec 32).getLsbD i = decide (16 ≤ i) := by
    revert i; decide
  rw [BitVec.getLsbD_append, BitVec.getLsbD_and, BitVec.getLsbD_extractLsb', hm]
  by_cases h : i < 16
  · simp [h, Nat.not_le.mpr h]
  · have h2 : i - 16 < 16 := by omega
    have h3 : 16 + (i - 16) = i := by omega
    simp [h, h2, h3, Nat.not_lt.mp h]

/-- A row's number in a column: the low halves of its words, then the high halves. -/
def laneOf (w : Fin 1024 → BitVec 32) (k : Fin 2048) : EReal :=
  half (w ⟨k.val % 1024, Nat.mod_lt _ (by decide)⟩) ⟨k.val / 1024, by omega⟩

theorem laneOf_low (w : Fin 1024 → BitVec 32) (k : Fin 2048) (h : k.val < 1024) : laneOf w k = half (w ⟨k.val, h⟩) 0 :=
  congrArg₂ (fun a b => half (w a) b) (Fin.ext (Nat.mod_eq_of_lt h)) (Fin.ext (Nat.div_eq_of_lt h))

theorem laneOf_high (w : Fin 1024 → BitVec 32) (k : Fin 2048) (h : 1024 ≤ k.val) (h' : k.val - 1024 < 1024) :
    laneOf w k = half (w ⟨k.val - 1024, h'⟩) 1 :=
  congrArg₂ (fun a b => half (w a) b) (Fin.ext (by show k.val % 1024 = k.val - 1024; omega)) (Fin.ext (by show k.val / 1024 = 1; omega))

/-- One hidden unit's contribution to an element of an expert's down projection. -/
def expertTerm (wg wu : FVec Ideal ⟨4, ![1, 8, 2048, 7168]⟩ .f32) (wd : FVec Ideal ⟨4, ![1, 8, 7168, 2048]⟩ .f32) (v : Fin 2048 → EReal)
    (ex : Fin 8) (q : Fin 2048) (f : Fin 7168) : EReal :=
  hiddenUnit v (fun k => wg (ix4 0 ex k f)) (fun k => wu (ix4 0 ex k f)) * wd (ix4 0 ex f q)

/-- The result's element: the row through its expert's gated hidden units and down projection. -/
def elem (x : IVec ⟨2, ![73728, 1024]⟩ 32) (wg wu : FVec Ideal ⟨4, ![1, 8, 2048, 7168]⟩ .f32)
    (wd : FVec Ideal ⟨4, ![1, 8, 7168, 2048]⟩ .f32) (ex : Fin 8) (n : Fin 73728) (q : Fin 2048) : EReal :=
  ∑ f : Fin 7168, expertTerm wg wu wd (laneOf fun j => x (ix2 n j)) ex q f

end Cert.Moe
end
-- ==== Proof.Moe.Sums.lean ====
/- What a point of the expert feed-forward call adds, as mathematics. -/
module

public import proofs.«01_k».proof.Proof.Moe.Pieces
public import proofs.«01_k».proof.Proof.Moe.Math
public import Idealize.ShloMosaic.Lib.WritesUnit
public import Idealize.ShloMosaic.Lib.WholeRead
public import Idealize.ShloMosaic.Lib.Pointwise

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Ffn (hiddenUnit)
open Cert.Moe (half half_low half_high laneOf laneOf_low laneOf_high)

/-- What a block of 512 hidden units adds to an element of a row's down projection. -/
def blockTerm (v : Fin 2048 → EReal) (g u : Vec Ideal S1x1x2048x512 .f32) (d : Vec Ideal S1x1x512x2048 .f32) (q : Fin 2048) : EReal :=
  ∑ j : Fin 512, hiddenUnit v (fun k => g (ix4 0 0 k j)) (fun k => u (ix4 0 0 k j)) * d (ix4 0 0 j q)

/-- One row block's update at an element. -/
theorem step_apply (g u : Vec Ideal S1x1x2048x512 .f32) (d : Vec Ideal S1x1x512x2048 .f32) (ul : Vec Ideal S256x2048 .bf16)
    (al : Vec Ideal S256x2048 .f32) (r : Fin 256) (q : Fin 2048) :
    step g u d ul al (ix2 r q) = al (ix2 r q) + blockTerm (fun k => ul (ix2 r k)) g u d q := by
  unfold blockTerm hiddenUnit
  pointwise [step, k0_pay5, k0_pay16, k0_pay17, k0_pay14, k0_pay15]

/-- The output block is the running sum. -/
theorem cast_apply (al : Vec Ideal S1024x2048 .f32) (r : Fin 1024) (q : Fin 2048) : k0_pay13 al (ix2 r q) = al (ix2 r q) := by
  pointwise [k0_pay13]

/-- The columns' first half is the words' low halves, the second half their high halves. -/
theorem half_apply (v : Vec Ideal S1024x1024 .i32) (r k : Fin 1024) :
    k0_pay1 v (ix2 r k) = half (v (ix2 r k)) 0 ∧ k0_pay2 v (ix2 r k) = half (v (ix2 r k)) 1 := by
  constructor
  · rw [half_low]
    pointwise [k0_pay1]
    rfl
  · rw [half_high]
    pointwise [k0_pay2]
    rfl

/-- The rows that a block of words holds. -/
def rowsOf (x : Vec Ideal S1024x1024 .i32) : Vec Ideal S1024x2048 .bf16 := fun y => laneOf (fun k => x (ix2 (y (0 : Fin 2)) k)) (y (1 : Fin 2))

theorem rowsOf_apply (x : Vec Ideal S1024x1024 .i32) (R : Fin 1024) (k : Fin 2048) : rowsOf x (ix2 R k) = laneOf (fun j => x (ix2 R j)) k := rfl

section
variable (c : Dev nD) (i : grid0.Coords) (mx : Memref sig .tc .vmem S1024x1024 .i32) (hx : mx.IsWhole) (mg : Memref sig .tc .vmem S1x1x2048x512 .f32) (hg : mg.IsWhole)
    (mu : Memref sig .tc .vmem S1x1x2048x512 .f32) (hu : mu.IsWhole) (md : Memref sig .tc .vmem S1x1x512x2048 .f32) (hd : md.IsWhole)
    (mo : Memref sig .tc .vmem S1024x2048 .bf16) (ho : mo.IsWhole)
    (x : Vec Ideal S1024x1024 .i32) (g u : Vec Ideal S1x1x2048x512 .f32) (d : Vec Ideal S1x1x512x2048 .f32)
    (e : TbBuf (F := Ideal) c tbE) (n : TbBuf (F := Ideal) c tbR)
    (r : Vec Ideal S1024x2048 .bf16) (a : Vec Ideal S1024x2048 .f32)

/-- A load of a whole block held at known contents returns them. -/
theorem load_whole {s : Shape} {el : EltTy} {mm : Memref sig .tc .vmem s el} (h : mm.IsWhole) (X : s.Idx → Elt Ideal el)
    {off : Fin s.rank → ℕ} (inb : ∀ k, off k + s.size k ≤ s.size k) :
    View.readAt (Elt Ideal) mm.view (Rect.unit (s := s) off s.size inb).toLoadRect (h.unread X) = X := by
  funext y
  refine (h.readAt_unread X _ y).trans (congrArg X (funext fun k => Fin.ext ?_))
  show off k + 1 * (y k).val = (y k).val
  have := inb k
  omega

/-- A load of 256 rows reads the buffer's. -/
theorem band_idx (o : ℕ) (inb : Band o) (p : Fin 256) (q : Fin 2048) (h : o + p.val < 1024) :
    (Rect.unit (s := S1024x2048) ![o, 0] ![256, 2048] inb).toLoadRect.idx (ix2 p q) = (ix2 (⟨o + p.val, h⟩ : Fin 1024) q : S1024x2048.Idx) := by
  funext k
  refine Fin.ext ?_
  match k with
  | ⟨0, _⟩ => show o + 1 * p.val = o + p.val; omega
  | ⟨1, _⟩ => show 0 + 1 * q.val = q.val; omega

/-- The running sum's buffer holds `A` plus one block's terms on its first `N` rows and `A` below. -/
def Good (fA : ABuf (F := Ideal) c) (U A : Vec Ideal S1024x2048 .f32) (N : ℕ) : Prop := ∀ (R : Fin 1024) (q : Fin 2048),
  scA.view.read (Elt Ideal) fA (ix2 R q)
    = if R.val < N then A (ix2 R q) + blockTerm (fun k => U (ix2 R k)) g u d q else A (ix2 R q)

/-- Updating the next row block extends them by its rows. -/
theorem good_update (U A : Vec Ideal S1024x2048 .f32) (fU : UBuf (F := Ideal) c) (hU : ∀ R k, scU.view.read (Elt Ideal) fU (ix2 R k) = U (ix2 R k))
    (base fA : ABuf (F := Ideal) c) (o : ℕ) (inb : Band o) (L : List (View.Piece (Elt Ideal) S1024x2048 .f32))
    (hA : ∀ (R : Fin 1024) q, o ≤ R.val → scA.view.read (Elt Ideal) fA (ix2 R q) = A (ix2 R q))
    (h : Good c g u d (scA.view.writes (Elt Ideal) base L) U A o) :
    Good c g u d (scA.view.writes (Elt Ideal) base (update c mg hg mu hu md hd g u d fU fA o inb L)) U A (o + 256) := by
  have ho : o + 256 ≤ 1024 := inb 0
  intro R q
  unfold update
  by_cases hR : o ≤ R.val ∧ R.val < o + 256
  · have hp : R.val - o < 256 := by omega
    rw [if_pos hR.2]
    refine (View.read_writes_cons_rows_of_mem scA.view base inb _ L (ix2 R q) (ix2 (⟨R.val - o, hp⟩ : Fin 256) q) rfl ?_ rfl).trans ?_
    · show R.val = o + (R.val - o); omega
    refine (step_apply _ _ _ _ _ _ _).trans ?_
    rw [load_whole hg, load_whole hu, load_whole hd]
    have hb : ∀ q : Fin 2048, (Rect.unit (s := S1024x2048) ![o, 0] ![256, 2048] inb).toLoadRect.idx (ix2 (⟨R.val - o, hp⟩ : Fin 256) q)
        = (ix2 R q : S1024x2048.Idx) := fun q => (band_idx o inb _ q (by show o + (R.val - o) < 1024; omega)).trans
          (congrArg (fun R => (ix2 R q : S1024x2048.Idx)) (Fin.ext (by show o + (R.val - o) = R.val; omega)))
    refine congrArg₂ (· + ·) ?_ (congrArg (fun v => blockTerm v g u d q) (funext fun k => ?_))
    · exact (congrArg (scA.view.read (Elt Ideal) fA) (hb q)).trans (hA R q hR.1)
    · exact (congrArg (scU.view.read (Elt Ideal) fU) (hb k)).trans (hU R k)
  · refine (View.read_writes_cons_rows_of_not_mem (W := 256) scA.view base inb _ L (ix2 R q) rfl rfl ?_).trans ((h R q).trans ?_)
    · show R.val < o ∨ o + 256 ≤ R.val; omega
    · by_cases h1 : R.val < o
      · rw [if_pos h1, if_pos (by omega)]
      · rw [if_neg h1, if_neg (by omega)]

/-- A first point's rows are those of the input block's words. -/
theorem rowPieces_read (R : Fin 1024) (k : Fin 2048) :
    scU.view.read (Elt Ideal) (scU.view.writes (Elt Ideal) scU.view.junk (rowPieces mx hx x)) (ix2 R k) = rowsOf x (ix2 R k) := by
  unfold rowPieces
  by_cases hk : k.val < 1024
  · refine (View.read_writes_cons_unit_of_not_mem scU.view _ _ _ _ _ rfl (1 : Fin 2) (Or.inl ?_)).trans ?_
    · show k.val < 1024; exact hk
    refine (View.read_writes_cons_unit_of_mem scU.view _ _ _ _ (ix2 R k) (ix2 R (⟨k.val, hk⟩ : Fin 1024)) rfl ?_).trans ?_
    · exact Fin.forall_fin_two.mpr ⟨by show R.val = 0 + R.val; omega, by show k.val = 0 + k.val; omega⟩
    rw [load_whole hx]
    refine (half_apply _ _ _).1.trans ?_
    rw [rowsOf_apply, laneOf_low _ k hk]
  · have hk' : k.val - 1024 < 1024 := by have := k.isLt; omega
    refine (View.read_writes_cons_unit_of_mem scU.view _ _ _ _ (ix2 R k) (ix2 R (⟨k.val - 1024, hk'⟩ : Fin 1024)) rfl ?_).trans ?_
    · exact Fin.forall_fin_two.mpr ⟨by show R.val = 0 + R.val; omega, by show k.val = 1024 + (k.val - 1024); omega⟩
    rw [load_whole hx]
    refine (half_apply _ _ _).2.trans ?_
    rw [rowsOf_apply, laneOf_high _ k (by omega) hk']

/-- After a first point with `k` row blocks in use, their rows hold one block's terms and the others zero. -/
theorem firstSum_good : ∀ (k : ℕ) (h : k ≤ 4),
    Good c g u d (scA.view.writes (Elt Ideal) scA.view.junk (firstSum c mx hx mg hg mu hu md hd x g u d k h)) (rowsOf x) (fun _ => 0) (256 * k)
  | 0, _ => fun R q => by
    rw [if_neg (by omega)]
    refine (View.read_writes_cons_rows_of_mem scA.view _ _ _ _ (ix2 R q) (ix2 R q) rfl ?_ rfl).trans ?_
    · show R.val = 0 + R.val; omega
    pointwise [k0_pay3]
  | k + 1, h => by
    have ih := firstSum_good k (Nat.le_of_succ_le h)
    refine good_update c mg hg mu hu md hd g u d (rowsOf x) (fun _ => 0) _ (rowPieces_read mx hx x) _ _ _ _ _ (fun R q hR => ?_) ih
    exact (ih R q).trans (if_neg (by omega))

/-- After a later point with `k` row blocks in use, their rows hold one block's terms more. -/
theorem nextSum_good : ∀ (k : ℕ) (h : k ≤ 4),
    Good c g u d (scA.view.writes (Elt Ideal) ((Memref.isWhole_whole _ : scA.IsWhole).unread a) (nextSum c mg hg mu hu md hd g u d r a k h)) r a (256 * k)
  | 0, _ => fun R q => by
    rw [if_neg (by omega)]
    exact congrFun ((Memref.isWhole_whole _ : scA.IsWhole).read_unread a) _
  | k + 1, h => by
    refine good_update c mg hg mu hu md hd g u d r a _ (fun R k => congrFun ((Memref.isWhole_whole _ : scU.IsWhole).read_unread r) _) _ _ _ _ _
      (fun R q hR => ?_) (nextSum_good k (Nat.le_of_succ_le h))
    exact congrFun ((Memref.isWhole_whole _ : scA.IsWhole).read_unread a) _

/-- The output block, read back, is the running sum. -/
theorem outPiece_read (fo : Buf (Elt Ideal) (mo.view.loc (c : Thread nD τ))) (fA : ABuf (F := Ideal) c) (R : Fin 1024) (q : Fin 2048) :
    mo.view.read (Elt Ideal) (mo.view.writes (Elt Ideal) fo (outPiece c fA)) (ix2 R q) = scA.view.read (Elt Ideal) fA (ix2 R q) := by
  refine (View.read_writes_cons_rows_of_mem mo.view _ _ _ _ (ix2 R q) (ix2 R q) rfl ?_ rfl).trans ?_
  · show R.val = 0 + R.val; omega
  refine (cast_apply _ R q).trans (congrArg (scA.view.read (Elt Ideal) fA) (funext fun b => Fin.ext ?_))
  match b with
  | ⟨0, _⟩ => show 0 + 1 * R.val = R.val; omega
  | ⟨1, _⟩ => show 0 + 1 * q.val = q.val; omega

theorem outPiece_of_eq (fo : Buf (Elt Ideal) (mo.view.loc (c : Thread nD τ))) {fA : ABuf (F := Ideal) c} {LO : List (View.Piece (Elt Ideal) S1024x2048 .bf16)}
    (h : LO = outPiece c fA) (R : Fin 1024) (q : Fin 2048) :
    mo.view.read (Elt Ideal) (mo.view.writes (Elt Ideal) fo LO) (ix2 R q) = scA.view.read (Elt Ideal) fA (ix2 R q) := by
  rw [h]; exact outPiece_read c mo fo fA R q

theorem good_of_eq {base : ABuf (F := Ideal) c} {L L' : List (View.Piece (Elt Ideal) S1024x2048 .f32)} {U A : Vec Ideal S1024x2048 .f32} {N : ℕ}
    (h : L = L') (hg : Good c g u d (scA.view.writes (Elt Ideal) base L') U A N) : Good c g u d (scA.view.writes (Elt Ideal) base L) U A N := by
  rw [h]; exact hg

/-! ## A point, whatever the number of rows in use -/

/-- The number of rows in use fits in `N` rows, when it fits in a tile. -/
def Fits (v : BitVec 32) (N : ℕ) : Prop := v.toInt ≤ 1024 → v.toInt ≤ N

/-- It does in the band that ends there, -/
theorem fits_of {lo hi v : BitVec 32} {N : ℕ} (h : inBand lo hi v) (hN : hi.toInt = (N : ℤ)) : Fits v N :=
  fun _ => hN ▸ ((inBand_iff _ _ _).mp h).2

/-- and in no row at all when it is in no band. -/
theorem fits_none {v : BitVec 32} {N : ℕ} (h1 : ¬inBand 0#32 256#32 v) (h2 : ¬inBand 256#32 512#32 v) (h3 : ¬inBand 512#32 768#32 v)
    (h4 : ¬inBand 768#32 1024#32 v) : Fits v N := fun h => by
  rw [inBand_iff] at h1 h2 h3 h4
  rw [show (0#32 : BitVec 32).toInt = 0 from by decide, show (256#32 : BitVec 32).toInt = 256 from by decide] at h1
  rw [show (256#32 : BitVec 32).toInt = 256 from by decide, show (512#32 : BitVec 32).toInt = 512 from by decide] at h2
  rw [show (512#32 : BitVec 32).toInt = 512 from by decide, show (768#32 : BitVec 32).toInt = 768 from by decide] at h3
  rw [show (768#32 : BitVec 32).toInt = 768 from by decide, show (1024#32 : BitVec 32).toInt = 1024 from by decide] at h4
  omega

/-- A first point: its carried rows are the input block's, its sum has the rows in use updated, and the output block's piece is
    that sum. -/
theorem firstOut_good (hf : isFirst i) : ∃ N : ℕ, Fits (rowsAt c i n) N
    ∧ Good c g u d (scA.view.writes (Elt Ideal) scA.view.junk (firstOut c i mx hx mg hg mu hu md hd mo ho x g u d e n hf).1.2.2) (rowsOf x) (fun _ => 0) N
    ∧ (firstOut c i mx hx mg hg mu hu md hd mo ho x g u d e n hf).1.2.1 = rowPieces mx hx x
    ∧ (firstOut c i mx hx mg hg mu hu md hd mo ho x g u d e n hf).1.1
      = outPiece c (scA.view.writes (Elt Ideal) scA.view.junk (firstOut c i mx hx mg hg mu hu md hd mo ho x g u d e n hf).1.2.2) := by
  unfold firstOut
  split_ifs with h1 h2 h3 h4
  · obtain ⟨ea, eu, eo⟩ := first1_eq c i mx hx mg hg mu hu md hd mo ho x g u d e n hf h1 (band_later h1 (by decide)) (band_later h1 (by decide)) (band_later h1 (by decide))
    exact ⟨256 * 1, fits_of h1 (by decide), good_of_eq c g u d ea (firstSum_good c mx hx mg hg mu hu md hd x g u d 1 (by omega)), eu, eo⟩
  · obtain ⟨ea, eu, eo⟩ := first2_eq c i mx hx mg hg mu hu md hd mo ho x g u d e n hf h1 h2 (band_later h2 (by decide)) (band_later h2 (by decide))
    exact ⟨256 * 2, fits_of h2 (by decide), good_of_eq c g u d ea (firstSum_good c mx hx mg hg mu hu md hd x g u d 2 (by omega)), eu, eo⟩
  · obtain ⟨ea, eu, eo⟩ := first3_eq c i mx hx mg hg mu hu md hd mo ho x g u d e n hf h1 h2 h3 (band_later h3 (by decide))
    exact ⟨256 * 3, fits_of h3 (by decide), good_of_eq c g u d ea (firstSum_good c mx hx mg hg mu hu md hd x g u d 3 (by omega)), eu, eo⟩
  · obtain ⟨ea, eu, eo⟩ := first4_eq c i mx hx mg hg mu hu md hd mo ho x g u d e n hf h1 h2 h3 h4
    exact ⟨256 * 4, fits_of h4 (by decide), good_of_eq c g u d ea (firstSum_good c mx hx mg hg mu hu md hd x g u d 4 (by omega)), eu, eo⟩
  · obtain ⟨ea, eu, eo⟩ := first0_eq c i mx hx mg hg mu hu md hd mo ho x g u d e n hf h1 h2 h3 h4
    exact ⟨256 * 0, fits_none h1 h2 h3 h4, good_of_eq c g u d ea (firstSum_good c mx hx mg hg mu hu md hd x g u d 0 (by omega)), eu, eo⟩

/-- A later point: its sum has the rows in use updated, and the output block, read back, is that sum. -/
theorem nextOut_good (hf : ¬isFirst i) : ∃ N : ℕ, Fits (rowsAt c i n) N
    ∧ Good c g u d (scA.view.writes (Elt Ideal) ((Memref.isWhole_whole _ : scA.IsWhole).unread a)
        (nextOut c i mx hx mg hg mu hu md hd mo ho x g u d e n r a hf).1.2) r a N
    ∧ ∀ (fo : Buf (Elt Ideal) (mo.view.loc (c : Thread nD τ))) (R : Fin 1024) (q : Fin 2048),
      mo.view.read (Elt Ideal) (mo.view.writes (Elt Ideal) fo (nextOut c i mx hx mg hg mu hu md hd mo ho x g u d e n r a hf).1.1) (ix2 R q)
        = scA.view.read (Elt Ideal) (scA.view.writes (Elt Ideal) ((Memref.isWhole_whole _ : scA.IsWhole).unread a)
            (nextOut c i mx hx mg hg mu hu md hd mo ho x g u d e n r a hf).1.2) (ix2 R q) := by
  unfold nextOut
  split_ifs with h1 h2 h3 h4
  · obtain ⟨ea, eo⟩ := next1_eq c i mx hx mg hg mu hu md hd mo ho x g u d e n r a hf h1 (band_later h1 (by decide)) (band_later h1 (by decide)) (band_later h1 (by decide))
    exact ⟨256 * 1, fits_of h1 (by decide), good_of_eq c g u d ea (nextSum_good c mg hg mu hu md hd g u d r a 1 (by omega)),
      fun fo R q => outPiece_of_eq c mo fo eo R q⟩
  · obtain ⟨ea, eo⟩ := next2_eq c i mx hx mg hg mu hu md hd mo ho x g u d e n r a hf h1 h2 (band_later h2 (by decide)) (band_later h2 (by decide))
    exact ⟨256 * 2, fits_of h2 (by decide), good_of_eq c g u d ea (nextSum_good c mg hg mu hu md hd g u d r a 2 (by omega)),
      fun fo R q => outPiece_of_eq c mo fo eo R q⟩
  · obtain ⟨ea, eo⟩ := next3_eq c i mx hx mg hg mu hu md hd mo ho x g u d e n r a hf h1 h2 h3 (band_later h3 (by decide))
    exact ⟨256 * 3, fits_of h3 (by decide), good_of_eq c g u d ea (nextSum_good c mg hg mu hu md hd g u d r a 3 (by omega)),
      fun fo R q => outPiece_of_eq c mo fo eo R q⟩
  · obtain ⟨ea, eo⟩ := next4_eq c i mx hx mg hg mu hu md hd mo ho x g u d e n r a hf h1 h2 h3 h4
    have hc : Covers (next4 c i mx hx mg hg mu hu md hd mo ho x g u d e n r a hf h1 h2 h3 h4).2.1 :=
      View.cover_of_tiledL _ S256x2048.size (by sl_kernel_rfl)
    exact ⟨256 * 4, fits_of h4 (by decide), good_of_eq c g u d ea (nextSum_good c mg hg mu hu md hd g u d r a 4 (by omega)),
      fun fo R q => (outPiece_of_eq c mo fo eo R q).trans (congrFun (View.read_writes_of_cover scA.view _ scA.view _ _ hc) _)⟩
  · obtain ⟨ea, eo⟩ := next0_eq c i mx hx mg hg mu hu md hd mo ho x g u d e n r a hf h1 h2 h3 h4
    exact ⟨256 * 0, fits_none h1 h2 h3 h4, good_of_eq c g u d ea (nextSum_good c mg hg mu hu md hd g u d r a 0 (by omega)),
      fun fo R q => outPiece_of_eq c mo fo eo R q⟩

end

end Cert.Kernel3Ideal.Moe
end
-- ==== Proof.Moe.Tables.lean ====
/- The words of the two prefetched tables, the blocks they select, and when every block lies inside its array. -/
module

public import proofs.«01_k».proof.Proof.Moe.Steps
public import Idealize.ShloMosaic.Lib.Pointwise

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the two tables -/

/-- A tile, as a grid point's first coordinate. -/
abbrev tileOf (i : grid0.Coords) : Fin 72 := i 0

/-- The single element a table read at a point's offset names is the tile's. -/
theorem emb_eq (i : grid0.Coords) (h : ∀ a, k0_off1 i a + S1.size a ≤ S72.size a) (y : (Rect.unit (s := S72) (k0_off1 i) S1.size h).shape.Idx) :
    (Rect.unit (s := S72) (k0_off1 i) S1.size h).emb y = (ix1 (tileOf i) : S72.Idx) := by
  funext a
  obtain rfl : a = 0 := Subsingleton.elim _ _
  refine Fin.ext ?_
  have hi : (i 0).val < 72 := (i 0).isLt
  have hy : (y 0).val < 1 := (y 0).isLt
  show (BitVec.ofNat 32 (i 0).val).toNat + 1 * (y 0).val = (i 0).val
  rw [BitVec.toNat_ofNat]
  omega

/-- The tile's expert, and how many of its rows are in use. -/
abbrev expertOf (pf : pre0.Contents (Elt F)) (i : grid0.Coords) : BitVec 32 := (pf 0 : IVec S72 32) (ix1 (tileOf i))
abbrev countOf (pf : pre0.Contents (Elt F)) (i : grid0.Coords) : BitVec 32 := (pf 1 : IVec S72 32) (ix1 (tileOf i))

theorem at_expert (pf : pre0.Contents (Elt F)) (i : grid0.Coords) :
    pf.at 0 (Rect.unit (s := S72) (k0_off1 i) S1.size (k0_off1_inb i)) numel1_S1 = expertOf pf i :=
  congrArg (pf 0 : IVec S72 32) (emb_eq i _ _)
theorem at_count (pf : pre0.Contents (Elt F)) (i : grid0.Coords) :
    pf.at 1 (Rect.unit (s := S72) (k0_off1 i) S1.size (k0_off1_inb i)) numel1_S1 = countOf pf i :=
  congrArg (pf 1 : IVec S72 32) (emb_eq i _ _)
theorem rowsAt_eq (pf : pre0.Contents (Elt F)) (c : Dev nD) (i : grid0.Coords) : rowsAt (F := F) c i (pf 1) = countOf pf i :=
  congrArg (pf 1 : IVec S72 32) (emb_eq i _ _)

/-- Which block of the hidden units a point works on: its own in a tile with rows in use, the last one elsewhere. -/
abbrev unitBlock (pf : pre0.Contents (Elt F)) (i : grid0.Coords) : BitVec 32 :=
  Scalar.select (Scalar.cmpi .sgt (countOf pf i) 0#32) (BitVec.ofNat 32 (i 1).val) 13#32

theorem unitBlock_lt (pf : pre0.Contents (Elt F)) (i : grid0.Coords) : (unitBlock pf i).toNat < 14 := by
  have hi : (i 1).val < 14 := (i 1).isLt
  have h0 : (BitVec.ofNat 32 (i 1).val).toNat < 14 := by rw [BitVec.toNat_ofNat]; omega
  unfold unitBlock Scalar.select
  split
  · exact h0
  · decide

theorem unitBlock_eq (pf : pre0.Contents (Elt F)) (i : grid0.Coords) (h : 0 < (countOf pf i).toInt) :
    (unitBlock pf i).toNat = (i 1).val := by
  have hi : (i 1).val < 14 := (i 1).isLt
  unfold unitBlock
  rw [show Scalar.cmpi .sgt (countOf pf i) 0#32 = BitVec.ofBool (decide ((0#32).toInt < (countOf pf i).toInt)) from
    WordCmp.cmpi_sgt_eq _ _, show (0#32).toInt = 0 from rfl, decide_eq_true h]
  show (BitVec.ofNat 32 (i 1).val).toNat = _
  rw [BitVec.toNat_ofNat]
  omega

theorem ix_wg (pf : pre0.Contents (Elt F)) (i : grid0.Coords) : cc0_transform_1 k0_off1_inb numel1_S1 pf i
    = ![0, (expertOf pf i).toNat, 0, (unitBlock pf i).toNat] := by
  rw [← at_expert pf i]; unfold unitBlock; rw [← at_count pf i]; rfl
theorem ix_wu (pf : pre0.Contents (Elt F)) (i : grid0.Coords) : cc0_transform_2 k0_off1_inb numel1_S1 pf i
    = ![0, (expertOf pf i).toNat, 0, (unitBlock pf i).toNat] := by
  rw [← at_expert pf i]; unfold unitBlock; rw [← at_count pf i]; rfl
theorem ix_wd (pf : pre0.Contents (Elt F)) (i : grid0.Coords) : cc0_transform_3 k0_off1_inb numel1_S1 pf i
    = ![0, (expertOf pf i).toNat, (unitBlock pf i).toNat, 0] := by
  rw [← at_expert pf i]; unfold unitBlock; rw [← at_count pf i]; rfl

/-- Experts among the eight place every block inside its array. -/
theorem ok_of (pf : pre0.Contents (Elt F)) (h : ∀ i, (expertOf pf i).toNat < 8) : ok0 pf := by
  refine ⟨fun i => ⟨?_, Or.inl rfl⟩, fun i => ⟨?_, Or.inl rfl⟩, fun i => ⟨?_, Or.inl rfl⟩⟩
  · rw [ix_wg]
    have h1 := h i; have h2 := unitBlock_lt pf i
    intro a; fin_cases a
    · show (0 + 1) * 1 ≤ 1; omega
    · show ((expertOf pf i).toNat + 1) * 1 ≤ 8; omega
    · show (0 + 1) * 2048 ≤ 2048; omega
    · show ((unitBlock pf i).toNat + 1) * 512 ≤ 7168; omega
  · rw [ix_wu]
    have h1 := h i; have h2 := unitBlock_lt pf i
    intro a; fin_cases a
    · show (0 + 1) * 1 ≤ 1; omega
    · show ((expertOf pf i).toNat + 1) * 1 ≤ 8; omega
    · show (0 + 1) * 2048 ≤ 2048; omega
    · show ((unitBlock pf i).toNat + 1) * 512 ≤ 7168; omega
  · rw [ix_wd]
    have h1 := h i; have h2 := unitBlock_lt pf i
    intro a; fin_cases a
    · show (0 + 1) * 1 ≤ 1; omega
    · show ((expertOf pf i).toNat + 1) * 1 ≤ 8; omega
    · show ((unitBlock pf i).toNat + 1) * 512 ≤ 7168; omega
    · show (0 + 1) * 2048 ≤ 2048; omega

end Cert.Kernel3Ideal.Moe
end
-- ==== Proof.Moe.Values.lean ====
/- The expert feed-forward call's grid: what a tile's fourteen points carry, and the rows in use of the array they leave. -/
module

public import proofs.«01_k».proof.Proof.Moe.Sums
public import proofs.«01_k».proof.Proof.Moe.Tables
public import proofs.«01_k».proof.Proof.Moe.Math
public import Idealize.ShloMosaic.Lib.Pipeline.ValueKit
public import Idealize.ShloMosaic.Lib.Pointwise

@[expose] public section

set_option maxRecDepth 16384

noncomputable section

namespace Cert.Kernel3Ideal.Moe

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Ffn (hiddenUnit)
open Cert.Moe (expertTerm elem laneOf)

variable (m : (ℓ : Loc nD τ sig) → Buf (Elt Ideal) ℓ) (hO : Ok m) (c : Dev nD)

/-- A grid point is tile `t / 14` at block `t % 14` of the hidden units. -/
theorem coords_val (t : Fin (cfgM m hO).N) : (grid0.coords t 0).val = t.val / 14 ∧ (grid0.coords t 1).val = t.val % 14 := by
  have ht := lt_N m hO t
  have e0 : (grid0.coords t 0).val = t.val / 14 % 72 := Pipeline.Grid.coords_val (G := grid0) t 0 (by decide) rfl
  have e1 : (grid0.coords t 1).val = t.val / 1 % 14 := Pipeline.Grid.coords_val (G := grid0) t 1 (by decide) rfl
  omega

/-- The two tables' contents as arrays of words. -/
abbrev experts : IVec S72 32 := m ((c : Thread nD τ).loc main_arg1)
abbrev counts : IVec S72 32 := m ((c : Thread nD τ).loc main_arg2)

theorem tileOf_eq (t : Fin (cfgM m hO).N) (i : Fin 72) (hi : t.val / 14 = i.val) : tileOf (grid0.coords t) = i :=
  Fin.ext ((coords_val m hO t).1.trans hi)

theorem expertOf_eq (t : Fin (cfgM m hO).N) (i : Fin 72) (hi : t.val / 14 = i.val) :
    expertOf (tbl m) (grid0.coords t) = experts m c (ix1 i) := by
  obtain rfl : c = 0 := Subsingleton.elim _ _
  unfold expertOf
  rw [tileOf_eq m hO t i hi]
  rfl

theorem countOf_eq (t : Fin (cfgM m hO).N) (i : Fin 72) (hi : t.val / 14 = i.val) :
    countOf (tbl m) (grid0.coords t) = counts m c (ix1 i) := by
  obtain rfl : c = 0 := Subsingleton.elim _ _
  unfold countOf
  rw [tileOf_eq m hO t i hi]
  rfl

/-! ## The blocks -/

/-- The rows of a tile. -/
theorem blk_x (t : Fin (cfgM m hO).N) (i : Fin 72) (hi : t.val / 14 = i.val) (r k : Fin 1024) :
    (iblk m hO c 0 t : Vec Ideal S1024x1024 .i32) (ix2 r k) = m ((c : Thread nD τ).loc main_arg0) (ix2 (⟨i.val * 1024 + r.val, by omega⟩ : Fin 73728) k) := by
  have e0 : cc0_transform_0 (grid0.coords t) = ![i.val, 0] := by
    rw [← hi, ← (coords_val m hO t).1]
    have h0 : (grid0.coords t 0).val < 72 := (grid0.coords t 0).isLt
    funext a; fin_cases a
    · show (BitVec.ofNat 32 (grid0.coords t 0).val).toNat = (grid0.coords t 0).val
      rw [BitVec.toNat_ofNat]; omega
    · rfl
  unfold iblk
  refine congrArg (m ((c : Thread nD τ).loc main_arg0)) (funext fun a => Fin.ext ?_)
  refine (Pipeline.Window.rect_emb_val ((cfgM m hO).win 0) t (ix2 r k) a).trans ?_
  show cc0_transform_0 (grid0.coords t) a * S1024x1024.size a + _ = _
  rw [e0]
  fin_cases a
  · rfl
  · show 0 * 1024 + k.val = k.val; omega

/-- The gate weights' columns of a tile's expert, -/
theorem blk_wg (t : Fin (cfgM m hO).N) (i : Fin 72) (hi : t.val / 14 = i.val) (hx : (experts m c (ix1 i)).toNat < 8)
    (hn : 0 < (counts m c (ix1 i)).toInt) (k : Fin 2048) (j : Fin 512) :
    (iblk m hO c 1 t : Vec Ideal S1x1x2048x512 .f32) (ix4 0 0 k j)
      = m ((c : Thread nD τ).loc main_arg3) (ix4 (0 : Fin 1) (⟨(experts m c (ix1 i)).toNat, hx⟩ : Fin 8) k (⟨t.val % 14 * 512 + j.val, by omega⟩ : Fin 7168)) := by
  have e0 := ix_wg (tbl m) (grid0.coords t)
  rw [unitBlock_eq _ _ (by rw [countOf_eq m hO c t i hi]; exact hn), expertOf_eq m hO c t i hi, (coords_val m hO t).2] at e0
  unfold iblk
  refine congrArg (m ((c : Thread nD τ).loc main_arg3)) (funext fun a => Fin.ext ?_)
  refine (Pipeline.Window.rect_emb_val ((cfgM m hO).win 1) t (ix4 0 0 k j) a).trans ?_
  show cc0_transform_1 k0_off1_inb numel1_S1 (tbl m) (grid0.coords t) a * S1x1x2048x512.size a + _ = _
  rw [e0]
  fin_cases a
  · rfl
  · show (experts m c (ix1 i)).toNat * 1 + 0 = _; rw [Nat.mul_one]; rfl
  · show 0 * 2048 + k.val = k.val; omega
  · rfl

/-- the up weights' columns, -/
theorem blk_wu (t : Fin (cfgM m hO).N) (i : Fin 72) (hi : t.val / 14 = i.val) (hx : (experts m c (ix1 i)).toNat < 8)
    (hn : 0 < (counts m c (ix1 i)).toInt) (k : Fin 2048) (j : Fin 512) :
    (iblk m hO c 2 t : Vec Ideal S1x1x2048x512 .f32) (ix4 0 0 k j)
      = m ((c : Thread nD τ).loc main_arg4) (ix4 (0 : Fin 1) (⟨(experts m c (ix1 i)).toNat, hx⟩ : Fin 8) k (⟨t.val % 14 * 512 + j.val, by omega⟩ : Fin 7168)) := by
  have e0 := ix_wu (tbl m) (grid0.coords t)
  rw [unitBlock_eq _ _ (by rw [countOf_eq m hO c t i hi]; exact hn), expertOf_eq m hO c t i hi, (coords_val m hO t).2] at e0
  unfold iblk
  refine congrArg (m ((c : Thread nD τ).loc main_arg4)) (funext fun a => Fin.ext ?_)
  refine (Pipeline.Window.rect_emb_val ((cfgM m hO).win 2) t (ix4 0 0 k j) a).trans ?_
  show cc0_transform_2 k0_off1_inb numel1_S1 (tbl m) (grid0.coords t) a * S1x1x2048x512.size a + _ = _
  rw [e0]
  fin_cases a
  · rfl
  · show (experts m c (ix1 i)).toNat * 1 + 0 = _; rw [Nat.mul_one]; rfl
  · show 0 * 2048 + k.val = k.val; omega
  · rfl

/-- and the down weights' rows. -/
theorem blk_wd (t : Fin (cfgM m hO).N) (i : Fin 72) (hi : t.val / 14 = i.val) (hx : (experts m c (ix1 i)).toNat < 8)
    (hn : 0 < (counts m c (ix1 i)).toInt) (j : Fin 512) (q : Fin 2048) :
    (iblk m hO c 3 t : Vec Ideal S1x1x512x2048 .f32) (ix4 0 0 j q)
      = m ((c : Thread nD τ).loc main_arg5) (ix4 (0 : Fin 1) (⟨(experts m c (ix1 i)).toNat, hx⟩ : Fin 8) (⟨t.val % 14 * 512 + j.val, by omega⟩ : Fin 7168) q) := by
  have e0 := ix_wd (tbl m) (grid0.coords t)
  rw [unitBlock_eq _ _ (by rw [countOf_eq m hO c t i hi]; exact hn), expertOf_eq m hO c t i hi, (coords_val m hO t).2] at e0
  unfold iblk
  refine congrArg (m ((c : Thread nD τ).loc main_arg5)) (funext fun a => Fin.ext ?_)
  refine (Pipeline.Window.rect_emb_val ((cfgM m hO).win 3) t (ix4 0 0 j q) a).trans ?_
  show cc0_transform_3 k0_off1_inb numel1_S1 (tbl m) (grid0.coords t) a * S1x1x512x2048.size a + _ = _
  rw [e0]
  fin_cases a
  · rfl
  · show (experts m c (ix1 i)).toNat * 1 + 0 = _; rw [Nat.mul_one]; rfl
  · rfl
  · show 0 * 2048 + q.val = q.val; omega

/-! ## A tile's points -/

/-- The arguments' terms of block `f` of 512 hidden units, summed. -/
def part (ex : Fin 8) (v : Fin 2048 → EReal) (q : Fin 2048) (f : ℕ) : EReal :=
  ∑ j : Fin 512, if h : f * 512 + j < 7168 then
    expertTerm (m ((c : Thread nD τ).loc main_arg3)) (m ((c : Thread nD τ).loc main_arg4)) (m ((c : Thread nD τ).loc main_arg5)) v ex q ⟨f * 512 + j, h⟩
    else 0

/-- A grid point's block terms, read off the arguments. -/
theorem blockTerm_eq (t : Fin (cfgM m hO).N) (i : Fin 72) (hi : t.val / 14 = i.val) (hx : (experts m c (ix1 i)).toNat < 8)
    (hn : 0 < (counts m c (ix1 i)).toInt) (v : Fin 2048 → EReal) (q : Fin 2048) (f : ℕ) (hf : t.val % 14 = f) :
    blockTerm v (iblk m hO c 1 t) (iblk m hO c 2 t) (iblk m hO c 3 t) q = part m c ⟨(experts m c (ix1 i)).toNat, hx⟩ v q f := by
  subst hf
  unfold blockTerm part expertTerm
  refine Finset.sum_congr rfl fun j _ => ?_
  rw [dif_pos (by omega : t.val % 14 * 512 + j.val < 7168)]
  refine congrArg₂ (· * ·) ?_ (blk_wd m hO c t i hi hx hn j q)
  exact congrArg₂ (hiddenUnit v) (funext fun k => blk_wg m hO c t i hi hx hn k j) (funext fun k => blk_wu m hO c t i hi hx hn k j)

/-- All fourteen partial sums are the sum over the hidden units. -/
theorem sum_part (ex : Fin 8) (v : Fin 2048 → EReal) (q : Fin 2048) : ∑ f ∈ Finset.range 14, part m c ex v q f =
    ∑ j : Fin 7168, expertTerm (m ((c : Thread nD τ).loc main_arg3)) (m ((c : Thread nD τ).loc main_arg4)) (m ((c : Thread nD τ).loc main_arg5)) v ex q j := by
  rw [← Fin.sum_univ_eq_sum_range]
  unfold part
  refine Fin.sum_mul_add_congr fun s k hl => ?_
  rw [dif_pos hl]

/-- The row of the argument at row `R` of tile `i`. -/
def tileRow (i : Fin 72) (R : Fin 1024) (k : Fin 2048) : EReal :=
  laneOf (fun j => m ((c : Thread nD τ).loc main_arg0) (ix2 (⟨i.val * 1024 + R.val, by omega⟩ : Fin 73728) j)) k

/-- A row in use is one of those a point updates. -/
theorem lt_of_fits {v : BitVec 32} {N : ℕ} (h : Fits v N) {R : ℕ} (hR : (R : ℤ) < v.toInt) (hv : v.toInt ≤ 1024) : R < N := by
  have := h hv
  omega

/-- What a tile's first point leaves. -/
theorem afterFirst_spec (t : Fin (cfgM m hO).N) (hf : isFirst (grid0.coords t)) (i : Fin 72) (hi : t.val / 14 = i.val) (hx : (experts m c (ix1 i)).toNat < 8) :
    (∀ (R : Fin 1024) (k : Fin 2048), (afterFirst m hO c t hf).2.1 (ix2 R k) = tileRow m c i R k)
    ∧ ∀ (R : Fin 1024) (q : Fin 2048), (R.val : ℤ) < (counts m c (ix1 i)).toInt → (counts m c (ix1 i)).toInt ≤ 1024 →
      (afterFirst m hO c t hf).2.2 (ix2 R q) = part m c ⟨(experts m c (ix1 i)).toNat, hx⟩ (tileRow m c i R) q (t.val % 14) := by
  obtain ⟨N, hN, hg, hu, -⟩ := firstOut_good c (grid0.coords t) (msx m hO t) (hsx m hO t) (msg m hO t) (hsg m hO t) (msu m hO t) (hsu m hO t)
    (msd m hO t) (hsd m hO t) (mso m hO t) (hso m hO t) (iblk m hO c 0 t) (iblk m hO c 1 t) (iblk m hO c 2 t) (iblk m hO c 3 t) (tbl m 0) (tbl m 1) hf
  rw [rowsAt_eq (tbl m) c, countOf_eq m hO c t i hi] at hN
  have hrow : ∀ (R : Fin 1024) (k : Fin 2048), rowsOf (iblk m hO c 0 t) (ix2 R k) = tileRow m c i R k :=
    fun R k => congrArg (fun w => laneOf w k) (funext fun j => blk_x m hO c t i hi R j)
  refine ⟨fun R k => ?_, fun R q hR hc => ?_⟩
  · refine Eq.trans ?_ (hrow R k)
    refine Eq.trans ?_ (rowPieces_read (msx m hO t) (hsx m hO t) (iblk m hO c 0 t) R k)
    show scU.view.read (Elt Ideal) (scU.view.writes (Elt Ideal) scU.view.junk (firstAt m hO c t hf).1.2.1) (ix2 R k) = _
    rw [hu]
  · refine (hg R q).trans ?_
    rw [if_pos (lt_of_fits hN hR hc), zero_add, show (fun k => rowsOf (iblk m hO c 0 t) (ix2 R k)) = tileRow m c i R from
      funext fun k => hrow R k]
    exact blockTerm_eq m hO c t i hi hx (by omega) _ q _ rfl

/-- What a later point leaves. -/
theorem afterNext_spec (t : Fin (cfgM m hO).N) (r : Vec Ideal S1024x2048 .bf16) (a : Vec Ideal S1024x2048 .f32) (hf : ¬isFirst (grid0.coords t))
    (i : Fin 72) (hi : t.val / 14 = i.val) (hx : (experts m c (ix1 i)).toNat < 8) (hr : ∀ (R : Fin 1024) (k : Fin 2048), r (ix2 R k) = tileRow m c i R k) :
    (∀ (R : Fin 1024) (q : Fin 2048), (R.val : ℤ) < (counts m c (ix1 i)).toInt → (counts m c (ix1 i)).toInt ≤ 1024 →
      (afterNext m hO c t r a hf).2.2 (ix2 R q)
        = a (ix2 R q) + part m c ⟨(experts m c (ix1 i)).toNat, hx⟩ (tileRow m c i R) q (t.val % 14))
    ∧ ∀ (R : Fin 1024) (q : Fin 2048), (afterNext m hO c t r a hf).1 (ix2 R q) = (afterNext m hO c t r a hf).2.2 (ix2 R q) := by
  obtain ⟨N, hN, hg, ho⟩ := nextOut_good c (grid0.coords t) (msx m hO t) (hsx m hO t) (msg m hO t) (hsg m hO t) (msu m hO t) (hsu m hO t)
    (msd m hO t) (hsd m hO t) (mso m hO t) (hso m hO t) (iblk m hO c 0 t) (iblk m hO c 1 t) (iblk m hO c 2 t) (iblk m hO c 3 t) (tbl m 0) (tbl m 1) r a hf
  rw [rowsAt_eq (tbl m) c, countOf_eq m hO c t i hi] at hN
  refine ⟨fun R q hR hc => ?_, fun R q => ho _ R q⟩
  refine (hg R q).trans ?_
  rw [if_pos (lt_of_fits hN hR hc), show (fun k => r (ix2 R k)) = tileRow m c i R from funext fun k => hr R k]
  exact congrArg (a (ix2 R q) + ·) (blockTerm_eq m hO c t i hi hx (by omega) _ q _ rfl)

/-- Through a tile's points the carried rows are the tile's and the sum is of the blocks so far. -/
theorem sweep (i : Fin 72) (hx : (experts m c (ix1 i)).toNat < 8) : ∀ k : ℕ, k ≤ 13 → ∀ n (hn : n = 14 * i.val + k) (hN : n < (cfgM m hO).N),
    (∀ (R : Fin 1024) (d : Fin 2048), (outs m hO c n hN).2.1 (ix2 R d) = tileRow m c i R d) ∧
    (∀ (R : Fin 1024) (q : Fin 2048), (R.val : ℤ) < (counts m c (ix1 i)).toInt → (counts m c (ix1 i)).toInt ≤ 1024 →
      (outs m hO c n hN).2.2 (ix2 R q)
        = ∑ f ∈ Finset.range (k + 1), part m c ⟨(experts m c (ix1 i)).toNat, hx⟩ (tileRow m c i R) q f)
  | 0, _, n, hn, hN => by
    have hf : isFirst (grid0.coords (⟨n, hN⟩ : Fin (cfgM m hO).N)) := (isFirst_iff ⟨n, hN⟩).mpr (by show n % 14 = 0; omega)
    obtain ⟨h1, h2⟩ := afterFirst_spec m hO c ⟨n, hN⟩ hf i (by show n / 14 = i.val; omega) hx
    rw [outs_first m hO c ⟨n, hN⟩ hf]
    refine ⟨h1, fun R q hR hc => (h2 R q hR hc).trans ?_⟩
    rw [Finset.sum_range_one, show (⟨n, hN⟩ : Fin (cfgM m hO).N).val % 14 = 0 from by show n % 14 = 0; omega]
  | k + 1, hk, n, hn, hN => by
    have hf : ¬isFirst (grid0.coords (⟨n, hN⟩ : Fin (cfgM m hO).N)) := fun h => by
      have h : n % 14 = 0 := (isFirst_iff ⟨n, hN⟩).mp h
      omega
    obtain ⟨ihu, iha⟩ := sweep i hx k (by omega) (n - 1) (by omega) (by omega)
    rw [outs_next m hO c ⟨n, hN⟩ hf]
    refine ⟨ihu, fun R q hR hc => ?_⟩
    refine ((afterNext_spec m hO c ⟨n, hN⟩ _ _ hf i (by show n / 14 = i.val; omega) hx ihu).1 R q hR hc).trans ?_
    rw [Finset.sum_range_succ, show (⟨n, hN⟩ : Fin (cfgM m hO).N).val % 14 = k + 1 from by show n % 14 = k + 1; omega]
    exact congrArg (· + _) (iha R q hR hc)

/-- What a tile's last point leaves in the output block, on the rows in use. -/
theorem last (t : Fin (cfgM m hO).N) (ht : t.val % 14 = 13) (i : Fin 72) (hi : t.val / 14 = i.val) (hx : (experts m c (ix1 i)).toNat < 8)
    (R : Fin 1024) (q : Fin 2048) (hR : (R.val : ℤ) < (counts m c (ix1 i)).toInt) (hc : (counts m c (ix1 i)).toInt ≤ 1024) :
    (outs m hO c t.val t.isLt).1 (ix2 R q) = elem (m ((c : Thread nD τ).loc main_arg0)) (m ((c : Thread nD τ).loc main_arg3))
      (m ((c : Thread nD τ).loc main_arg4)) (m ((c : Thread nD τ).loc main_arg5)) ⟨(experts m c (ix1 i)).toNat, hx⟩
      ⟨i.val * 1024 + R.val, by omega⟩ q := by
  have hlt := lt_N m hO t
  have hf : ¬isFirst (grid0.coords t) := fun h => by
    have h : t.val % 14 = 0 := (isFirst_iff t).mp h
    omega
  have hN : t.val - 1 < (cfgM m hO).N := by have := t.isLt; omega
  have hs := (sweep m hO c i hx 13 le_rfl t.val (by omega) t.isLt).2 R q hR hc
  have ihu := (sweep m hO c i hx 12 (by omega) (t.val - 1) (by omega) hN).1
  rw [outs_next m hO c t hf] at hs ⊢
  refine ((afterNext_spec m hO c t _ _ hf i hi hx ihu).2 R q).trans (hs.trans ?_)
  exact sum_part m c _ _ q

/-! ## The result array -/

/-- Every element of the array lies in the block of a tile's last point. -/
theorem covers_out : ((cfgM m hO).win 4).Covers := by
  refine ⟨fun a => ?_, fun β => ?_⟩
  · revert a; exact (by decide : ∀ a : Fin 2, 0 < S1024x2048.size a)
  · have h0 : (β (0 : Fin 2)).val < 72 := Nat.lt_of_lt_of_eq (β (0 : Fin 2)).isLt (show (73728 + 1024 - 1) / 1024 = 72 from rfl)
    have h1 : (β (1 : Fin 2)).val < 1 := Nat.lt_of_lt_of_eq (β (1 : Fin 2)).isLt (show (2048 + 2048 - 1) / 2048 = 1 from rfl)
    have hN : 14 * (β (0 : Fin 2)).val + 13 < (cfgM m hO).N := by rw [show (cfgM m hO).N = 1008 from N_0]; omega
    have hl : isLast (grid0.coords (⟨14 * (β (0 : Fin 2)).val + 13, hN⟩ : Fin (cfgM m hO).N)) :=
      (isLast_iff ⟨_, hN⟩).mpr (by show (14 * (β (0 : Fin 2)).val + 13) % 14 = 13; omega)
    refine ⟨⟨14 * (β (0 : Fin 2)).val + 13, hN⟩, flush_out m hO _ hl, fun a => ⟨?_, Or.inl rfl⟩⟩
    have e := (coords_val m hO ⟨14 * (β (0 : Fin 2)).val + 13, hN⟩).1
    have e' : (grid0.coords (⟨14 * (β (0 : Fin 2)).val + 13, hN⟩ : Fin (cfgM m hO).N) 0).val = (β (0 : Fin 2)).val :=
      e.trans (by show (14 * (β (0 : Fin 2)).val + 13) / 14 = _; omega)
    match a with
    | ⟨0, _⟩ =>
      show (BitVec.ofNat 32 (grid0.coords (⟨14 * (β (0 : Fin 2)).val + 13, hN⟩ : Fin (cfgM m hO).N) 0).val).toNat = (β (0 : Fin 2)).val
      rw [BitVec.toNat_ofNat, e']; omega
    | ⟨1, _⟩ => show 0 = (β (1 : Fin 2)).val; omega

/-- A row in use of the kernel's result array. -/
theorem final (hx : ∀ i : Fin 72, (experts m c (ix1 i)).toNat < 8) (n : Fin 73728) (q : Fin 2048)
    (hR : ((n.val % 1024 : ℕ) : ℤ) < (counts m c (ix1 ⟨n.val / 1024, by omega⟩)).toInt)
    (hc : (counts m c (ix1 ⟨n.val / 1024, by omega⟩)).toInt ≤ 1024) :
    (dats m hO 0 c).arrAt 4 (cfgM m hO).N (ix2 n q) = elem (m ((c : Thread nD τ).loc main_arg0)) (m ((c : Thread nD τ).loc main_arg3))
      (m ((c : Thread nD τ).loc main_arg4)) (m ((c : Thread nD τ).loc main_arg5))
      ⟨(experts m c (ix1 ⟨n.val / 1024, by omega⟩)).toNat, hx _⟩ n q := by
  refine (dats m hO 0 c).arrAt_forall_of_covers 4 (fun (y : S73728x2048.Idx) v =>
    ∀ (n : Fin 73728) (q : Fin 2048) (hy : y = ix2 n q) (hR : ((n.val % 1024 : ℕ) : ℤ) < (counts m c (ix1 ⟨n.val / 1024, by omega⟩)).toInt)
      (hc : (counts m c (ix1 ⟨n.val / 1024, by omega⟩)).toInt ≤ 1024),
      v = elem (m ((c : Thread nD τ).loc main_arg0)) (m ((c : Thread nD τ).loc main_arg3))
        (m ((c : Thread nD τ).loc main_arg4)) (m ((c : Thread nD τ).loc main_arg5))
        ⟨(experts m c (ix1 ⟨n.val / 1024, by omega⟩)).toNat, hx _⟩ n q) (covers_out m hO) (fun t hfl y => ?_) (ix2 n q) (Memref.isWhole_whole _) n q rfl hR hc
  intro n q hy hR hc
  have ht : t.val % 14 = 13 := by
    by_contra h
    have := noFlush_out m hO t (fun hl => h ((isLast_iff t).mp hl))
    rw [this] at hfl
    exact absurd hfl (by decide)
  have hlt := lt_N m hO t
  obtain ⟨R, q', rfl⟩ : ∃ (R : Fin 1024) (q' : Fin 2048), y = ix2 R q' := ⟨y (0 : Fin 2), y (1 : Fin 2), eq_ix2 (n0 := 1024) (n1 := 2048) y⟩
  have e0 : (BitVec.ofNat 32 (grid0.coords t 0).val).toNat = t.val / 14 := by
    rw [BitVec.toNat_ofNat, (coords_val m hO t).1]; omega
  have hn : t.val / 14 * 1024 + R.val = n.val := by
    have := congrArg Fin.val (congrFun hy (0 : Fin 2))
    rw [← e0]
    exact (Pipeline.Window.rect_emb_val ((cfgM m hO).win 4) t (ix2 R q') (0 : Fin 2)).symm.trans this
  have hq : q' = q := by
    have := congrArg Fin.val (congrFun hy (1 : Fin 2))
    have h2 := (Pipeline.Window.rect_emb_val ((cfgM m hO).win 4) t (ix2 R q') (1 : Fin 2)).symm.trans this
    have h3 : 0 * 2048 + q'.val = q.val := h2
    exact Fin.ext (by omega)
  subst hq
  have hi : t.val / 14 = (⟨n.val / 1024, by omega⟩ : Fin 72).val := by show t.val / 14 = n.val / 1024; omega
  have hRn : R.val = n.val % 1024 := by omega
  have hl := last m hO c t ht ⟨n.val / 1024, by omega⟩ hi (hx _) R q' (by rw [hRn]; exact hR) hc
  refine Eq.trans ?_ (hl.trans ?_)
  · exact congrFun (after_o m hO c t) (ix2 R q')
  · refine congrArg (fun n => elem _ _ _ _ _ n q') (Fin.ext ?_)
    show n.val / 1024 * 1024 + R.val = n.val
    omega

end Cert.Kernel3Ideal.Moe
end
-- ==== Proof.Moe.Reference.lean ====
/- The reference expert feed-forward's result, element by element. -/
module

public import proofs.«01_k».proof.Proof.Gen.Reference3Ideal.Run
public import proofs.«01_k».proof.Proof.Moe.Math
public import Idealize.ShloMosaic.Lib.Pipeline.ValueKit
public import Idealize.ShloMosaic.Lib.Pointwise
public import Idealize.ShloMosaic.Lib.WordCmp
public import Idealize.ShloMosaic.Lib.BitcastConvert

@[expose] public section

set_option maxRecDepth 16384

noncomputable section

namespace Cert.Reference3Ideal.Moe

open Cert.Reference3Ideal Cert.Reference3Ideal.Gen Idealize.ShloMosaic Idealize.ShloMosaic.TcCoe Idealize.SL.Sem
open Cert.Ffn (hiddenUnit)
open Cert.Moe (expertTerm elem half laneOf)

/-- The rows: a row's low halves, then its high halves. -/
def rows (x : IVec S73728x1024 32) : FVec Ideal S73728x2048 .bf16 :=
  shapeCast _ (transpose S73728x2x1024 [0, 2, 1]
    (bitcastToFloat .bf16 (Host.bitcastConvertNarrow S73728x1024x2 16 x splits_S73728x1024_w32_S73728x1024x2_w16))
    transposes_S73728x1024x2_S73728x2x1024_0_2_1) shapeCasts_S73728x2x1024_S73728x2048

/-- A product of every row with one of the two wide weights of every expert. -/
def wide (x : FVec Ideal S73728x2048 .bf16) (w : FVec Ideal S1x8x2048x7168 .f32) : FVec Ideal S73728x8x7168 .f32 :=
  Host.dotGeneral dot_S73728x2048_S8x2048x7168_S73728x8x7168_1_1_0_02_n_n none (extf .f32 x bitsLt_bf16_f32)
    (shapeCast _ w shapeCasts_S1x8x2048x7168_S8x2048x7168)

/-- The logistic-gated product. -/
def gated (p q : FVec Ideal S73728x8x7168 .f32) : FVec Ideal S73728x8x7168 .f32 :=
  mulf (mulf p (Host.divf (broadcastInDim S73728x8x7168 ![] bcast_S_S73728x8x7168 (constant S_ .f32 0x3F800000#32))
    (addf (broadcastInDim S73728x8x7168 ![] bcast_S_S73728x8x7168 (constant S_ .f32 0x3F800000#32)) (Host.exp (Host.negf p))))) q

/-- The product with every expert's down weights. -/
def down (h : FVec Ideal S73728x8x7168 .f32) (wd : FVec Ideal S1x8x7168x2048 .f32) : FVec Ideal S8x73728x2048 .f32 :=
  Host.dotGeneral dot_S73728x8x7168_S8x7168x2048_S8x73728x2048_2_1_0_2_1_0 none h (shapeCast _ wd shapeCasts_S1x8x7168x2048_S8x7168x2048)

/-- Which expert is a row's own. -/
def own (t : IVec S72 32) : IVec S8x73728x2048 1 :=
  broadcastInDim S8x73728x2048 ![0, 1, 2] bcast_S8x73728x1_S8x73728x2048_0_1_2 (broadcastInDim S8x73728x1 ![0, 1] bcast_S8x73728_S8x73728x1_0_1 (cmpi .eq (broadcastInDim S8x73728 ![0, 1] bcast_S8x1_S8x73728_0_1 (broadcastInDim S8x1 ![0] bcast_S8_S8x1_0 (iotaInDim S8 32 0))) (broadcastInDim S8x73728 ![0, 1] bcast_S1x73728_S8x73728_0_1 (broadcastInDim S1x73728 ![1] bcast_S73728_S1x73728_1 (shapeCast _ (broadcastInDim S72x1024 ![0] bcast_S72_S72x1024_0 t) shapeCasts_S72x1024_S73728)))))

/-- The own expert's products, summed over the experts. -/
def chosen (o : IVec S8x73728x2048 1) (y : FVec Ideal S8x73728x2048 .f32) : FVec Ideal S73728x2048 .bf16 :=
  truncf .bf16 (Host.reduceAdd (select o y (broadcastInDim S8x73728x2048 ![] bcast_S_S8x73728x2048 (id (constant S_ .f32 0x00000000#32))))
    (constant S_ .f32 0x00000000#32) reducesTo_S8x73728x2048_S73728x2048_d0 h_S_) bitsLt_bf16_f32

/-- The reference's result from its arguments. -/
def result (x : IVec S73728x1024 32) (t : IVec S72 32) (wg wu : FVec Ideal S1x8x2048x7168 .f32) (wd : FVec Ideal S1x8x7168x2048 .f32) :
    FVec Ideal S73728x2048 .bf16 := chosen (own t) (down (gated (wide (rows x) wg) (wide (rows x) wu)) wd)

/-- The reference ends with that result and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run (F := Ideal) m ρ)

theorem rows_apply (x : IVec S73728x1024 32) (n : Fin 73728) (k : Fin 2048) : rows x (ix2 n k) = laneOf (fun j => x (ix2 n j)) k := by
  have e : ∀ (a : Fin 1024) (b : Fin 2), splits_S73728x1024_w32_S73728x1024x2_w16.drop (ix3 n a b) = ix2 n a := fun a b =>
    funext fun i => by fin_cases i <;> rfl
  unfold laneOf half
  pointwise [rows, e]

theorem wide_apply (x : FVec Ideal S73728x2048 .bf16) (w : FVec Ideal S1x8x2048x7168 .f32) (n : Fin 73728) (e : Fin 8) (f : Fin 7168) :
    wide x w (ix3 n e f) = ∑ d : Fin 2048, x (ix2 n d) * w (ix4 0 e d f) := by
  pointwise [wide]

theorem gated_apply (p q : FVec Ideal S73728x8x7168 .f32) (n : Fin 73728) (e : Fin 8) (f : Fin 7168) :
    gated p q (ix3 n e f) = p (ix3 n e f) * Ideal.div 1 (1 + Ideal.exp (0 - p (ix3 n e f))) * q (ix3 n e f) := by
  rw [zero_sub]
  pointwise [gated]

theorem down_apply (h : FVec Ideal S73728x8x7168 .f32) (wd : FVec Ideal S1x8x7168x2048 .f32) (e : Fin 8) (n : Fin 73728) (q : Fin 2048) :
    down h wd (ix3 e n q) = ∑ f : Fin 7168, h (ix3 n e f) * wd (ix4 0 e f q) := by
  pointwise [down]

theorem own_apply (t : IVec S72 32) (e : Fin 8) (n : Fin 73728) (q : Fin 2048) :
    own t (ix3 e n q) = IntOp.cmpi .eq (BitVec.ofNat 32 e.val) (t (ix1 ⟨n.val / 1024, by omega⟩)) := by
  pointwise [own]

theorem chosen_apply (o : IVec S8x73728x2048 1) (y : FVec Ideal S8x73728x2048 .f32) (n : Fin 73728) (q : Fin 2048) :
    chosen o y (ix2 n q) = ∑ e : Fin 8, Scalar.select (o (ix3 e n q)) (y (ix3 e n q)) 0 := by
  pointwise [chosen, id]

/-- The result's element, when the row's expert is among the eight. -/
theorem result_apply (x : IVec S73728x1024 32) (t : IVec S72 32) (wg wu : FVec Ideal S1x8x2048x7168 .f32)
    (wd : FVec Ideal S1x8x7168x2048 .f32) (n : Fin 73728) (q : Fin 2048) (h : (t (ix1 ⟨n.val / 1024, by omega⟩)).toNat < 8) :
    result x t wg wu wd (ix2 n q) = elem x wg wu wd ⟨(t (ix1 ⟨n.val / 1024, by omega⟩)).toNat, h⟩ n q := by
  unfold result
  rw [chosen_apply, Finset.sum_eq_single (⟨(t (ix1 ⟨n.val / 1024, by omega⟩)).toNat, h⟩ : Fin 8)]
  · rw [own_apply, show IntOp.cmpi .eq (BitVec.ofNat 32 (t (ix1 ⟨n.val / 1024, by omega⟩)).toNat) (t (ix1 ⟨n.val / 1024, by omega⟩)) = 1#1 from by
      rw [BitVec.ofNat_toNat, BitVec.setWidth_eq]; simp [IntOp.cmpi]]
    refine (if_pos rfl).trans ?_
    unfold elem expertTerm hiddenUnit
    simp only [down_apply, gated_apply, wide_apply, rows_apply]
  · intro e _ he
    rw [own_apply, show IntOp.cmpi .eq (BitVec.ofNat 32 e.val) (t (ix1 ⟨n.val / 1024, by omega⟩)) = 0#1 from by
      have hne : BitVec.ofNat 32 e.val ≠ t (ix1 ⟨n.val / 1024, by omega⟩) := fun h0 => he (Fin.ext (by
        show e.val = (t (ix1 ⟨n.val / 1024, by omega⟩)).toNat
        rw [← h0, BitVec.toNat_ofNat]; omega))
      show BitVec.ofBool (BitVec.ofNat 32 e.val == t (ix1 ⟨n.val / 1024, by omega⟩)) = 0#1
      rw [beq_eq_false_iff_ne.mpr hne]; rfl]
    exact if_neg (by decide)
  · exact fun h => absurd (Finset.mem_univ _) h

end Cert.Reference3Ideal.Moe
end
-- ==== Proof.Moe.Claim.lean ====
/- The expert feed-forward call's claims: its frames when every tile's expert is among the eight, and, on the rows in use, that
   its result is the row's own expert's gated feed-forward, for all extended reals. -/
module

public import proofs.«01_k».proof.Defs
public import proofs.«01_k».proof.Proof.Gen.Pre_experts_in_range
public import proofs.«01_k».proof.Proof.Gen.On_rows_in_use
public import proofs.«01_k».proof.Proof.Moe.Values
public import proofs.«01_k».proof.Proof.Moe.Reference
public import proofs.«01_k».proof.Proof.MoeBits.Tables
public import proofs.«01_k».proof.Proof.MoeBits.Frame
public import Idealize.ShloMosaic.Lib.Quiescent

@[expose] public section

set_option maxRecDepth 16384

noncomputable section

namespace Cert.Moe

open Idealize.ShloMosaic Idealize.ShloMosaic.TcCoe Idealize.SL.Sem

/-- A word between zero and eight, signed, is a natural below eight. -/
theorem word_lt (v : BitVec 32) (h : IntOp.andi (IntOp.cmpi .sge v 0#32) (IntOp.cmpi .slt v 8#32) = 1#1) : v.toNat < 8 := by
  rw [WordCmp.cmpi_sge_eq, WordCmp.cmpi_slt_eq] at h
  have h1 : (0#32 : BitVec 32).toInt ≤ v.toInt ∧ v.toInt < (8#32 : BitVec 32).toInt := by
    by_cases a : (0#32 : BitVec 32).toInt ≤ v.toInt <;> by_cases b : v.toInt < (8#32 : BitVec 32).toInt <;>
      simp only [a, b, decide_true, decide_false] at h <;> first | exact ⟨a, b⟩ | exact absurd h (by decide)
  rw [show (0#32 : BitVec 32).toInt = 0 from by decide, show (8#32 : BitVec 32).toInt = 8 from by decide] at h1
  have h2 := BitVec.toInt_eq_toNat_cond v
  have h3 := v.isLt
  split_ifs at h2 <;> omega

/-- The precondition, read as a bound on every tile's expert. -/
theorem pre_range {F : FTy → Type} [FloatOps F] (x : IVec ⟨2, ![73728, 1024]⟩ 32) (e n : IVec ⟨1, ![72]⟩ 32)
    (wg wu : FVec F ⟨4, ![1, 8, 2048, 7168]⟩ .f32) (wd : FVec F ⟨4, ![1, 8, 7168, 2048]⟩ .f32)
    (h : Cert.Pre_experts_in_range.fn (F := F) x e n wg wu wd = fun _ => 1#1) (i : Fin 72) : (e (ix1 i)).toNat < 8 :=
  word_lt _ (congrFun h (ix1 i))

/-- The mask, read as bounds on the row and on the tile's count. -/
theorem mask_bounds {F : FTy → Type} [FloatOps F] (x : IVec ⟨2, ![73728, 1024]⟩ 32) (e n : IVec ⟨1, ![72]⟩ 32)
    (wg wu : FVec F ⟨4, ![1, 8, 2048, 7168]⟩ .f32) (wd : FVec F ⟨4, ![1, 8, 7168, 2048]⟩ .f32) (r : Fin 73728) (q : Fin 2048)
    (h : Cert.On_rows_in_use.fn (F := F) x e n wg wu wd (ix2 r q) = 1#1) :
    ((r.val % 1024 : ℕ) : ℤ) < (n (ix1 ⟨r.val / 1024, by omega⟩)).toInt ∧ (n (ix1 ⟨r.val / 1024, by omega⟩)).toInt ≤ 1024 := by
  have e0 : Cert.On_rows_in_use.fn (F := F) x e n wg wu wd (ix2 r q)
      = IntOp.andi (IntOp.cmpi .slt (BitVec.ofNat 32 (r.val % 1024)) (n (ix1 ⟨r.val / 1024, by omega⟩)))
          (IntOp.cmpi .sle (n (ix1 ⟨r.val / 1024, by omega⟩)) 1024#32) := by
    pointwise [Cert.On_rows_in_use.fn]
  rw [e0, WordCmp.cmpi_slt_eq, WordCmp.cmpi_sle_eq] at h
  generalize n (ix1 ⟨r.val / 1024, by omega⟩) = v at h ⊢
  have e1 : (BitVec.ofNat 32 (r.val % 1024)).toInt = ((r.val % 1024 : ℕ) : ℤ) := by
    rw [BitVec.toInt_eq_toNat_cond, BitVec.toNat_ofNat]
    split_ifs <;> omega
  have e2 : (1024#32 : BitVec 32).toInt = 1024 := by decide
  rw [e1, e2] at h
  by_cases a : ((r.val % 1024 : ℕ) : ℤ) < v.toInt <;> by_cases b : v.toInt ≤ 1024 <;>
    simp only [a, b, decide_true, decide_false] at h <;> first | exact ⟨a, b⟩ | exact absurd h (by decide)

/-- On extended reals the precondition places every block inside its array. -/
theorem ok_ideal (m : (ℓ : Loc Cert.Kernel3Ideal.nD Cert.Kernel3Ideal.τ Cert.Kernel3Ideal.sig) → Buf (Elt Ideal) ℓ)
    (h : Cert.Pre_Kernel3Ideal m) : Cert.Kernel3Ideal.Moe.Ok m :=
  Cert.Kernel3Ideal.Moe.ok_of _ fun i => pre_range _ _ _ _ _ _ (h 0) _

/-- On machine words the precondition places every block inside its array. -/
theorem ok_bits (m : (ℓ : Loc Cert.Kernel3.nD Cert.Kernel3.τ Cert.Kernel3.sig) → Buf (Elt Bits) ℓ)
    (h : Cert.Pre_Kernel3 m) : Cert.Kernel3.Moe.Ok m :=
  Cert.Kernel3.Moe.ok_of _ fun i => pre_range _ _ _ _ _ _ (h 0) _

/-- On machine words the kernel runs and leaves its arguments and the counters as they were. -/
theorem frame_kernel : Cert.quiescent_Kernel3 := fun m ρ h => Cert.Kernel3.Moe.frame m ρ (ok_bits m h)

/-- On extended reals the kernel runs and leaves its arguments and the counters as they were. -/
theorem frame_ideal : Cert.quiescent_Kernel3Ideal := fun m ρ h => Cert.Kernel3Ideal.Moe.frame m ρ (ok_ideal m h)

/-- The reference runs and leaves its arguments and the counters as they were. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's run, its result array named. -/
theorem run_blocks (m : (ℓ : Loc Cert.Kernel3Ideal.nD Cert.Kernel3Ideal.τ Cert.Kernel3Ideal.sig) → Buf (Elt Ideal) ℓ)
    (ρ : Dev Cert.Kernel3Ideal.nD → PrngReg) (hO : Cert.Kernel3Ideal.Moe.Ok m) :
    θ_run Cert.Kernel3Ideal.defs (onTc (τ := Cert.Kernel3Ideal.τ) (Cert.Kernel3Ideal.main (F := Ideal))) ⟨m, fun _ => 0, ρ⟩ fun r => ∀ c : Dev Cert.Kernel3Ideal.nD,
      r.2.mem ((c.tc : Thread Cert.Kernel3Ideal.nD Cert.Kernel3Ideal.τ).loc Cert.Kernel3Ideal.main_v0)
        = (Cert.Kernel3Ideal.Moe.dats m hO 0 c).arrAt 4 (Cert.Kernel3Ideal.Moe.cfgM m hO).N :=
  (θ_run Cert.Kernel3Ideal.defs _ _).mono (fun _ h c => (h c).1 4) (Cert.Kernel3Ideal.Moe.run_main m ρ hO)

/-- On the rows in use the kernel's result is the reference's, element by element. -/
theorem algebraic : Cert.algebraic_Kernel3Ideal_Reference3Ideal_on_rows_in_use := by
  intro m g m' g' hpre hagree
  have hO := ok_ideal m hpre
  refine ⟨fun c => (Cert.Kernel3Ideal.Moe.dats m hO 0 c).arrAt 4 (Cert.Kernel3Ideal.Moe.cfgM m hO).N,
    (θ_run Cert.Kernel3Ideal.defs _ _).mono (fun r h c => ⟨fun i _ => congrFun (h.1 c) i, h.2.1 c⟩)
      (θ_run_and (run_blocks m g hO) (Cert.Kernel3Ideal.Moe.frame m g hO)),
    (θ_run Cert.Reference3Ideal.defs _ _).mono (fun r h c => ⟨fun i hi => ?_, (h c).2⟩)
      (Cert.Reference3Ideal.Moe.run_result m' g')⟩
  obtain ⟨a0, a1, a2, a3, a4, a5⟩ := hagree c
  refine (congrFun (h c).1 i).trans ?_
  rw [a0, a1, a3, a4, a5]
  obtain ⟨n, q, rfl⟩ : ∃ (n : Fin 73728) (q : Fin 2048), i = ix2 n q := ⟨i 0, i 1, eq_ix2 i⟩
  obtain ⟨hR, hc⟩ := mask_bounds _ _ _ _ _ _ n q hi
  have hx := pre_range _ _ _ _ _ _ (hpre c)
  exact (Cert.Reference3Ideal.Moe.result_apply _ _ _ _ _ n q (hx _)).trans (Cert.Kernel3Ideal.Moe.final m hO c hx n q hR hc).symm

end Cert.Moe

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attn.Claim
public import proofs.«01_k».proof.Proof.Ffn.Claim
public import proofs.«01_k».proof.Proof.FfnCtx.Claim
public import proofs.«01_k».proof.Proof.In.Claim
public import proofs.«01_k».proof.Proof.InEven.Claim
public import proofs.«01_k».proof.Proof.Out.EvenClaim
public import proofs.«01_k».proof.Proof.Out.OddClaim
public import proofs.«01_k».proof.Proof.Moe.Claim
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel8.Frame
public import proofs.«01_k».proof.Proof.Gen.Kernel7.Frame
public import proofs.«01_k».proof.Proof.Gen.Kernel6Ideal.Frame
public import proofs.«01_k».proof.Proof.Gen.Kernel8Ideal.Frame
public import proofs.«01_k».proof.Proof.Gen.Kernel7Ideal.Frame
public import proofs.«01_k».proof.Proof.Gen.Kernel6Ideal.Value
public import proofs.«01_k».proof.Proof.Gen.Kernel8Ideal.Value
public import proofs.«01_k».proof.Proof.Gen.Kernel7Ideal.Value
public import proofs.«01_k».proof.Proof.Gen.Reference6Ideal.Run
public import proofs.«01_k».proof.Proof.Gen.Reference8Ideal.Run
public import proofs.«01_k».proof.Proof.Gen.Reference7Ideal.Run
public import proofs.«01_k».proof.Proof.Gen.Kernel3
public import proofs.«01_k».proof.Proof.Gen.Kernel3Ideal
public import proofs.«01_k».proof.Proof.Gen.Reference3Ideal.Run
public import proofs.«01_k».proof.Proof.Gen.Pre_experts_in_range
public import proofs.«01_k».proof.Proof.Gen.On_rows_in_use

@[expose] public section

noncomputable section

namespace Cert.Proof

open Idealize.ShloMosaic Idealize.SL.Sem

/-- All the claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_queries_keys.Gen.facts, Cert.Pre_experts_in_range.Gen.facts, Cert.On_rows_in_use.Gen.facts,
  fun m ρ _ => Cert.Kernel.Gen.frame m ρ,
  fun m ρ _ => Cert.KernelIdeal.Gen.frame m ρ,
  fun m ρ _ => Cert.KernelIdeal.Gen.frame m ρ,
  Cert.Attn.frame_reference,
  fun m ρ _ => Cert.Attn.frame_reference m ρ trivial,
  fun m ρ _ => Cert.Kernel2.Gen.frame m ρ,
  fun m ρ _ => Cert.Kernel2Ideal.Gen.frame m ρ,
  Cert.Ffn.frame_reference,
  Cert.Moe.frame_kernel,
  Cert.Moe.frame_ideal,
  Cert.Moe.frame_reference,
  fun m ρ _ => Cert.Moe.frame_reference m ρ trivial,
  fun m ρ _ => Cert.Kernel4.Gen.frame m ρ,
  fun m ρ _ => Cert.Kernel4Ideal.Gen.frame m ρ,
  Cert.In.frame_reference,
  fun m ρ _ => Cert.Kernel5.Gen.frame m ρ,
  fun m ρ _ => Cert.Kernel5Ideal.Gen.frame m ρ,
  Cert.Out.Even.frame_reference,
  fun m ρ _ => Cert.Kernel6.Gen.frame m ρ,
  fun m ρ _ => Cert.Kernel6Ideal.Gen.frame m ρ,
  Cert.Out.Odd.frame_reference,
  fun m ρ _ => Cert.Kernel7.Gen.frame m ρ,
  fun m ρ _ => Cert.Kernel7Ideal.Gen.frame m ρ,
  Cert.InEven.frame_reference,
  fun m ρ _ => Cert.Kernel8.Gen.frame m ρ,
  fun m ρ _ => Cert.Kernel8Ideal.Gen.frame m ρ,
  Cert.FfnCtx.frame_reference,
  trivial,
  Cert.Attn.algebraic,
  trivial,
  Cert.Ffn.algebraic,
  trivial,
  Cert.Moe.algebraic,
  trivial,
  Cert.In.algebraic,
  trivial,
  Cert.Out.Even.algebraic,
  trivial,
  Cert.Out.Odd.algebraic,
  trivial,
  Cert.InEven.algebraic,
  trivial,
  Cert.FfnCtx.algebraic⟩

end Cert.Proof

end
